-- ==== Defs.lean ====
def Pre_OutFfn (m : (ℓ : Loc Cert.OutFfn.nD Cert.OutFfn.τ Cert.OutFfn.sig) → Buf (Elt Bits) ℓ) : Prop :=
  True

def Pre_OutFfnIdeal (m : (ℓ : Loc Cert.OutFfnIdeal.nD Cert.OutFfnIdeal.τ Cert.OutFfnIdeal.sig) → Buf (Elt Ideal) ℓ) : Prop :=
  True

def Pre_OutFfnRefIdeal (m : (ℓ : Loc Cert.OutFfnRefIdeal.nD Cert.OutFfnRefIdeal.τ Cert.OutFfnRefIdeal.sig) → Buf (Elt Ideal) ℓ) : Prop :=
  True

def Pre_InPrep (m : (ℓ : Loc Cert.InPrep.nD Cert.InPrep.τ Cert.InPrep.sig) → Buf (Elt Bits) ℓ) : Prop :=
  True

def Pre_InPrepIdeal (m : (ℓ : Loc Cert.InPrepIdeal.nD Cert.InPrepIdeal.τ Cert.InPrepIdeal.sig) → Buf (Elt Ideal) ℓ) : Prop :=
  True

def Pre_InPrepIdeal_finite_in [hPre_finite_in : Cert.Pre_finite_in.Facts] (m : (ℓ : Loc Cert.InPrepIdeal.nD Cert.InPrepIdeal.τ Cert.InPrepIdeal.sig) → Buf (Elt Ideal) ℓ) : Prop :=
  ∀ c : Dev Cert.InPrepIdeal.nD,
    (Cert.Pre_finite_in.fn (F := Ideal) (m ((c.tc : Thread Cert.InPrepIdeal.nD Cert.InPrepIdeal.τ).loc Cert.InPrepIdeal.main_arg0)) (m ((c.tc : Thread Cert.InPrepIdeal.nD Cert.InPrepIdeal.τ).loc Cert.InPrepIdeal.main_arg1)) (m ((c.tc : Thread Cert.InPrepIdeal.nD Cert.InPrepIdeal.τ).loc Cert.InPrepIdeal.main_arg2)) (m ((c.tc : Thread Cert.InPrepIdeal.nD Cert.InPrepIdeal.τ).loc Cert.InPrepIdeal.main_arg3)) (m ((c.tc : Thread Cert.InPrepIdeal.nD Cert.InPrepIdeal.τ).loc Cert.InPrepIdeal.main_arg4)) (m ((c.tc : Thread Cert.InPrepIdeal.nD Cert.InPrepIdeal.τ).loc Cert.InPrepIdeal.main_arg5)) (m ((c.tc : Thread Cert.InPrepIdeal.nD Cert.InPrepIdeal.τ).loc Cert.InPrepIdeal.main_arg6)) (m ((c.tc : Thread Cert.InPrepIdeal.nD Cert.InPrepIdeal.τ).loc Cert.InPrepIdeal.main_arg7)) (m ((c.tc : Thread Cert.InPrepIdeal.nD Cert.InPrepIdeal.τ).loc Cert.InPrepIdeal.main_arg8)) (m ((c.tc : Thread Cert.InPrepIdeal.nD Cert.InPrepIdeal.τ).loc Cert.InPrepIdeal.main_arg9)) (m ((c.tc : Thread Cert.InPrepIdeal.nD Cert.InPrepIdeal.τ).loc Cert.InPrepIdeal.main_arg10)) (m ((c.tc : Thread Cert.InPrepIdeal.nD Cert.InPrepIdeal.τ).loc Cert.InPrepIdeal.main_arg11)) (m ((c.tc : Thread Cert.InPrepIdeal.nD Cert.InPrepIdeal.τ).loc Cert.InPrepIdeal.main_arg12))) = (fun _ => 1#1)

def Pre_InPrepRefIdeal (m : (ℓ : Loc Cert.InPrepRefIdeal.nD Cert.InPrepRefIdeal.τ Cert.InPrepRefIdeal.sig) → Buf (Elt Ideal) ℓ) : Prop :=
  True

def Pre_InPrepRefIdeal_finite_in [hPre_finite_in : Cert.Pre_finite_in.Facts] (m : (ℓ : Loc Cert.InPrepRefIdeal.nD Cert.InPrepRefIdeal.τ Cert.InPrepRefIdeal.sig) → Buf (Elt Ideal) ℓ) : Prop :=
  ∀ c : Dev Cert.InPrepRefIdeal.nD,
    (Cert.Pre_finite_in.fn (F := Ideal) (m ((c.tc : Thread Cert.InPrepRefIdeal.nD Cert.InPrepRefIdeal.τ).loc Cert.InPrepRefIdeal.main_arg0)) (m ((c.tc : Thread Cert.InPrepRefIdeal.nD Cert.InPrepRefIdeal.τ).loc Cert.InPrepRefIdeal.main_arg1)) (m ((c.tc : Thread Cert.InPrepRefIdeal.nD Cert.InPrepRefIdeal.τ).loc Cert.InPrepRefIdeal.main_arg2)) (m ((c.tc : Thread Cert.InPrepRefIdeal.nD Cert.InPrepRefIdeal.τ).loc Cert.InPrepRefIdeal.main_arg3)) (m ((c.tc : Thread Cert.InPrepRefIdeal.nD Cert.InPrepRefIdeal.τ).loc Cert.InPrepRefIdeal.main_arg4)) (m ((c.tc : Thread Cert.InPrepRefIdeal.nD Cert.InPrepRefIdeal.τ).loc Cert.InPrepRefIdeal.main_arg5)) (m ((c.tc : Thread Cert.InPrepRefIdeal.nD Cert.InPrepRefIdeal.τ).loc Cert.InPrepRefIdeal.main_arg6)) (m ((c.tc : Thread Cert.InPrepRefIdeal.nD Cert.InPrepRefIdeal.τ).loc Cert.InPrepRefIdeal.main_arg7)) (m ((c.tc : Thread Cert.InPrepRefIdeal.nD Cert.InPrepRefIdeal.τ).loc Cert.InPrepRefIdeal.main_arg8)) (m ((c.tc : Thread Cert.InPrepRefIdeal.nD Cert.InPrepRefIdeal.τ).loc Cert.InPrepRefIdeal.main_arg9)) (m ((c.tc : Thread Cert.InPrepRefIdeal.nD Cert.InPrepRefIdeal.τ).loc Cert.InPrepRefIdeal.main_arg10)) (m ((c.tc : Thread Cert.InPrepRefIdeal.nD Cert.InPrepRefIdeal.τ).loc Cert.InPrepRefIdeal.main_arg11)) (m ((c.tc : Thread Cert.InPrepRefIdeal.nD Cert.InPrepRefIdeal.τ).loc Cert.InPrepRefIdeal.main_arg12))) = (fun _ => 1#1)

def Pre_BiasTable (m : (ℓ : Loc Cert.BiasTable.nD Cert.BiasTable.τ Cert.BiasTable.sig) → Buf (Elt Bits) ℓ) : Prop :=
  True

def Pre_BiasTableIdeal (m : (ℓ : Loc Cert.BiasTableIdeal.nD Cert.BiasTableIdeal.τ Cert.BiasTableIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def Pre_Mixers (m : (ℓ : Loc Cert.Mixers.nD Cert.Mixers.τ Cert.Mixers.sig) → Buf (Elt Bits) ℓ) : Prop :=
  True

def Pre_MixersIdeal (m : (ℓ : Loc Cert.MixersIdeal.nD Cert.MixersIdeal.τ Cert.MixersIdeal.sig) → Buf (Elt Ideal) ℓ) : Prop :=
  True

def quiescent_OutFfn [hOutFfn : Cert.OutFfn.Facts] : Prop :=
  ∀ (m : (ℓ : Loc Cert.OutFfn.nD Cert.OutFfn.τ Cert.OutFfn.sig) → Buf (Elt Bits) ℓ) (g : Dev Cert.OutFfn.nD → PrngReg), Pre_OutFfn m →
    θ_run (Cert.OutFfn.defs (F := Bits)) (onTc (τ := Cert.OutFfn.τ) (Cert.OutFfn.main (F := Bits))) ⟨m, fun _ => 0, g⟩ (fun r => (∀ c : Dev Cert.OutFfn.nD,
      r.2.mem ((c.tc : Thread Cert.OutFfn.nD Cert.OutFfn.τ).loc Cert.OutFfn.main_arg0) = m ((c.tc : Thread Cert.OutFfn.nD Cert.OutFfn.τ).loc Cert.OutFfn.main_arg0)
      ∧ r.2.mem ((c.tc : Thread Cert.OutFfn.nD Cert.OutFfn.τ).loc Cert.OutFfn.main_arg1) = m ((c.tc : Thread Cert.OutFfn.nD Cert.OutFfn.τ).loc Cert.OutFfn.main_arg1)
      ∧ r.2.mem ((c.tc : Thread Cert.OutFfn.nD Cert.OutFfn.τ).loc Cert.OutFfn.main_arg2) = m ((c.tc : Thread Cert.OutFfn.nD Cert.OutFfn.τ).loc Cert.OutFfn.main_arg2)
      ∧ r.2.mem ((c.tc : Thread Cert.OutFfn.nD Cert.OutFfn.τ).loc Cert.OutFfn.main_arg3) = m ((c.tc : Thread Cert.OutFfn.nD Cert.OutFfn.τ).loc Cert.OutFfn.main_arg3)
      ∧ r.2.mem ((c.tc : Thread Cert.OutFfn.nD Cert.OutFfn.τ).loc Cert.OutFfn.main_arg4) = m ((c.tc : Thread Cert.OutFfn.nD Cert.OutFfn.τ).loc Cert.OutFfn.main_arg4)
      ∧ r.2.mem ((c.tc : Thread Cert.OutFfn.nD Cert.OutFfn.τ).loc Cert.OutFfn.main_arg5) = m ((c.tc : Thread Cert.OutFfn.nD Cert.OutFfn.τ).loc Cert.OutFfn.main_arg5)
      ∧ r.2.mem ((c.tc : Thread Cert.OutFfn.nD Cert.OutFfn.τ).loc Cert.OutFfn.main_arg6) = m ((c.tc : Thread Cert.OutFfn.nD Cert.OutFfn.τ).loc Cert.OutFfn.main_arg6)
      ∧ r.2.mem ((c.tc : Thread Cert.OutFfn.nD Cert.OutFfn.τ).loc Cert.OutFfn.main_arg7) = m ((c.tc : Thread Cert.OutFfn.nD Cert.OutFfn.τ).loc Cert.OutFfn.main_arg7)
      ∧ r.2.mem ((c.tc : Thread Cert.OutFfn.nD Cert.OutFfn.τ).loc Cert.OutFfn.main_arg8) = m ((c.tc : Thread Cert.OutFfn.nD Cert.OutFfn.τ).loc Cert.OutFfn.main_arg8)
      ∧ r.2.mem ((c.tc : Thread Cert.OutFfn.nD Cert.OutFfn.τ).loc Cert.OutFfn.main_arg9) = m ((c.tc : Thread Cert.OutFfn.nD Cert.OutFfn.τ).loc Cert.OutFfn.main_arg9)
      ∧ r.2.mem ((c.tc : Thread Cert.OutFfn.nD Cert.OutFfn.τ).loc Cert.OutFfn.main_arg10) = m ((c.tc : Thread Cert.OutFfn.nD Cert.OutFfn.τ).loc Cert.OutFfn.main_arg10)
      ∧ r.2.mem ((c.tc : Thread Cert.OutFfn.nD Cert.OutFfn.τ).loc Cert.OutFfn.main_arg11) = m ((c.tc : Thread Cert.OutFfn.nD Cert.OutFfn.τ).loc Cert.OutFfn.main_arg11)
      ∧ r.2.mem ((c.tc : Thread Cert.OutFfn.nD Cert.OutFfn.τ).loc Cert.OutFfn.main_arg12) = m ((c.tc : Thread Cert.OutFfn.nD Cert.OutFfn.τ).loc Cert.OutFfn.main_arg12)
      ∧ r.2.mem ((c.tc : Thread Cert.OutFfn.nD Cert.OutFfn.τ).loc Cert.OutFfn.main_arg13) = m ((c.tc : Thread Cert.OutFfn.nD Cert.OutFfn.τ).loc Cert.OutFfn.main_arg13))
      ∧ r.2.sem = fun _ => 0)

def quiescent_OutFfnIdeal [hOutFfnIdeal : Cert.OutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg), Pre_OutFfnIdeal m →
    θ_run (Cert.OutFfnIdeal.defs (F := Ideal)) (onTc (τ := Cert.OutFfnIdeal.τ) (Cert.OutFfnIdeal.main (F := Ideal))) ⟨m, fun _ => 0, g⟩ (fun r => (∀ c : Dev Cert.OutFfnIdeal.nD,
      r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
      ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
      ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
      ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
      ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
      ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
      ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
      ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
      ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
      ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9)
      ∧ r.2.mem ((c.tc : Thread Cert.OutFfnIdeal.nD Cert.OutFfnIdeal.τ).loc Cert.OutFfnIdeal.main_arg10) = m ((c.tc : Thread Cert.OutFfnIdeal.nD Cert.OutFfnIdeal.τ).loc Cert.OutFfnIdeal.main_arg10)
      ∧ r.2.mem ((c.tc : Thread Cert.OutFfnIdeal.nD Cert.OutFfnIdeal.τ).loc Cert.OutFfnIdeal.main_arg11) = m ((c.tc : Thread Cert.OutFfnIdeal.nD Cert.OutFfnIdeal.τ).loc Cert.OutFfnIdeal.main_arg11)
      ∧ r.2.mem ((c.tc : Thread Cert.OutFfnIdeal.nD Cert.OutFfnIdeal.τ).loc Cert.OutFfnIdeal.main_arg12) = m ((c.tc : Thread Cert.OutFfnIdeal.nD Cert.OutFfnIdeal.τ).loc Cert.OutFfnIdeal.main_arg12)
      ∧ r.2.mem ((c.tc : Thread Cert.OutFfnIdeal.nD Cert.OutFfnIdeal.τ).loc Cert.OutFfnIdeal.main_arg13) = m ((c.tc : Thread Cert.OutFfnIdeal.nD Cert.OutFfnIdeal.τ).loc Cert.OutFfnIdeal.main_arg13))
      ∧ r.2.sem = fun _ => 0)

def quiescent_OutFfnRefIdeal [hOutFfnRefIdeal : Cert.OutFfnRefIdeal.Facts] : Prop :=
  ∀ (m : (ℓ : Loc Cert.OutFfnRefIdeal.nD Cert.OutFfnRefIdeal.τ Cert.OutFfnRefIdeal.sig) → Buf (Elt Ideal) ℓ) (g : Dev Cert.OutFfnRefIdeal.nD → PrngReg), Pre_OutFfnRefIdeal m →
    θ_run (Cert.OutFfnRefIdeal.defs (F := Ideal)) (onTc (τ := Cert.OutFfnRefIdeal.τ) (Cert.OutFfnRefIdeal.main (F := Ideal))) ⟨m, fun _ => 0, g⟩ (fun r => (∀ c : Dev Cert.OutFfnRefIdeal.nD,
      r.2.mem ((c.tc : Thread Cert.OutFfnRefIdeal.nD Cert.OutFfnRefIdeal.τ).loc Cert.OutFfnRefIdeal.main_arg0) = m ((c.tc : Thread Cert.OutFfnRefIdeal.nD Cert.OutFfnRefIdeal.τ).loc Cert.OutFfnRefIdeal.main_arg0)
      ∧ r.2.mem ((c.tc : Thread Cert.OutFfnRefIdeal.nD Cert.OutFfnRefIdeal.τ).loc Cert.OutFfnRefIdeal.main_arg1) = m ((c.tc : Thread Cert.OutFfnRefIdeal.nD Cert.OutFfnRefIdeal.τ).loc Cert.OutFfnRefIdeal.main_arg1)
      ∧ r.2.mem ((c.tc : Thread Cert.OutFfnRefIdeal.nD Cert.OutFfnRefIdeal.τ).loc Cert.OutFfnRefIdeal.main_arg2) = m ((c.tc : Thread Cert.OutFfnRefIdeal.nD Cert.OutFfnRefIdeal.τ).loc Cert.OutFfnRefIdeal.main_arg2)
      ∧ r.2.mem ((c.tc : Thread Cert.OutFfnRefIdeal.nD Cert.OutFfnRefIdeal.τ).loc Cert.OutFfnRefIdeal.main_arg3) = m ((c.tc : Thread Cert.OutFfnRefIdeal.nD Cert.OutFfnRefIdeal.τ).loc Cert.OutFfnRefIdeal.main_arg3)
      ∧ r.2.mem ((c.tc : Thread Cert.OutFfnRefIdeal.nD Cert.OutFfnRefIdeal.τ).loc Cert.OutFfnRefIdeal.main_arg4) = m ((c.tc : Thread Cert.OutFfnRefIdeal.nD Cert.OutFfnRefIdeal.τ).loc Cert.OutFfnRefIdeal.main_arg4)
      ∧ r.2.mem ((c.tc : Thread Cert.OutFfnRefIdeal.nD Cert.OutFfnRefIdeal.τ).loc Cert.OutFfnRefIdeal.main_arg5) = m ((c.tc : Thread Cert.OutFfnRefIdeal.nD Cert.OutFfnRefIdeal.τ).loc Cert.OutFfnRefIdeal.main_arg5)
      ∧ r.2.mem ((c.tc : Thread Cert.OutFfnRefIdeal.nD Cert.OutFfnRefIdeal.τ).loc Cert.OutFfnRefIdeal.main_arg6) = m ((c.tc : Thread Cert.OutFfnRefIdeal.nD Cert.OutFfnRefIdeal.τ).loc Cert.OutFfnRefIdeal.main_arg6)
      ∧ r.2.mem ((c.tc : Thread Cert.OutFfnRefIdeal.nD Cert.OutFfnRefIdeal.τ).loc Cert.OutFfnRefIdeal.main_arg7) = m ((c.tc : Thread Cert.OutFfnRefIdeal.nD Cert.OutFfnRefIdeal.τ).loc Cert.OutFfnRefIdeal.main_arg7)
      ∧ r.2.mem ((c.tc : Thread Cert.OutFfnRefIdeal.nD Cert.OutFfnRefIdeal.τ).loc Cert.OutFfnRefIdeal.main_arg8) = m ((c.tc : Thread Cert.OutFfnRefIdeal.nD Cert.OutFfnRefIdeal.τ).loc Cert.OutFfnRefIdeal.main_arg8)
      ∧ r.2.mem ((c.tc : Thread Cert.OutFfnRefIdeal.nD Cert.OutFfnRefIdeal.τ).loc Cert.OutFfnRefIdeal.main_arg9) = m ((c.tc : Thread Cert.OutFfnRefIdeal.nD Cert.OutFfnRefIdeal.τ).loc Cert.OutFfnRefIdeal.main_arg9)
      ∧ r.2.mem ((c.tc : Thread Cert.OutFfnRefIdeal.nD Cert.OutFfnRefIdeal.τ).loc Cert.OutFfnRefIdeal.main_arg10) = m ((c.tc : Thread Cert.OutFfnRefIdeal.nD Cert.OutFfnRefIdeal.τ).loc Cert.OutFfnRefIdeal.main_arg10)
      ∧ r.2.mem ((c.tc : Thread Cert.OutFfnRefIdeal.nD Cert.OutFfnRefIdeal.τ).loc Cert.OutFfnRefIdeal.main_arg11) = m ((c.tc : Thread Cert.OutFfnRefIdeal.nD Cert.OutFfnRefIdeal.τ).loc Cert.OutFfnRefIdeal.main_arg11)
      ∧ r.2.mem ((c.tc : Thread Cert.OutFfnRefIdeal.nD Cert.OutFfnRefIdeal.τ).loc Cert.OutFfnRefIdeal.main_arg12) = m ((c.tc : Thread Cert.OutFfnRefIdeal.nD Cert.OutFfnRefIdeal.τ).loc Cert.OutFfnRefIdeal.main_arg12)
      ∧ r.2.mem ((c.tc : Thread Cert.OutFfnRefIdeal.nD Cert.OutFfnRefIdeal.τ).loc Cert.OutFfnRefIdeal.main_arg13) = m ((c.tc : Thread Cert.OutFfnRefIdeal.nD Cert.OutFfnRefIdeal.τ).loc Cert.OutFfnRefIdeal.main_arg13))
      ∧ r.2.sem = fun _ => 0)

def quiescent_InPrep [hInPrep : Cert.InPrep.Facts] : Prop :=
  ∀ (m : (ℓ : Loc Cert.InPrep.nD Cert.InPrep.τ Cert.InPrep.sig) → Buf (Elt Bits) ℓ) (g : Dev Cert.InPrep.nD → PrngReg), Pre_InPrep m →
    θ_run (Cert.InPrep.defs (F := Bits)) (onTc (τ := Cert.InPrep.τ) (Cert.InPrep.main (F := Bits))) ⟨m, fun _ => 0, g⟩ (fun r => (∀ c : Dev Cert.InPrep.nD,
      r.2.mem ((c.tc : Thread Cert.InPrep.nD Cert.InPrep.τ).loc Cert.InPrep.main_arg0) = m ((c.tc : Thread Cert.InPrep.nD Cert.InPrep.τ).loc Cert.InPrep.main_arg0)
      ∧ r.2.mem ((c.tc : Thread Cert.InPrep.nD Cert.InPrep.τ).loc Cert.InPrep.main_arg1) = m ((c.tc : Thread Cert.InPrep.nD Cert.InPrep.τ).loc Cert.InPrep.main_arg1)
      ∧ r.2.mem ((c.tc : Thread Cert.InPrep.nD Cert.InPrep.τ).loc Cert.InPrep.main_arg2) = m ((c.tc : Thread Cert.InPrep.nD Cert.InPrep.τ).loc Cert.InPrep.main_arg2)
      ∧ r.2.mem ((c.tc : Thread Cert.InPrep.nD Cert.InPrep.τ).loc Cert.InPrep.main_arg3) = m ((c.tc : Thread Cert.InPrep.nD Cert.InPrep.τ).loc Cert.InPrep.main_arg3)
      ∧ r.2.mem ((c.tc : Thread Cert.InPrep.nD Cert.InPrep.τ).loc Cert.InPrep.main_arg4) = m ((c.tc : Thread Cert.InPrep.nD Cert.InPrep.τ).loc Cert.InPrep.main_arg4)
      ∧ r.2.mem ((c.tc : Thread Cert.InPrep.nD Cert.InPrep.τ).loc Cert.InPrep.main_arg5) = m ((c.tc : Thread Cert.InPrep.nD Cert.InPrep.τ).loc Cert.InPrep.main_arg5)
      ∧ r.2.mem ((c.tc : Thread Cert.InPrep.nD Cert.InPrep.τ).loc Cert.InPrep.main_arg6) = m ((c.tc : Thread Cert.InPrep.nD Cert.InPrep.τ).loc Cert.InPrep.main_arg6)
      ∧ r.2.mem ((c.tc : Thread Cert.InPrep.nD Cert.InPrep.τ).loc Cert.InPrep.main_arg7) = m ((c.tc : Thread Cert.InPrep.nD Cert.InPrep.τ).loc Cert.InPrep.main_arg7)
      ∧ r.2.mem ((c.tc : Thread Cert.InPrep.nD Cert.InPrep.τ).loc Cert.InPrep.main_arg8) = m ((c.tc : Thread Cert.InPrep.nD Cert.InPrep.τ).loc Cert.InPrep.main_arg8)
      ∧ r.2.mem ((c.tc : Thread Cert.InPrep.nD Cert.InPrep.τ).loc Cert.InPrep.main_arg9) = m ((c.tc : Thread Cert.InPrep.nD Cert.InPrep.τ).loc Cert.InPrep.main_arg9)
      ∧ r.2.mem ((c.tc : Thread Cert.InPrep.nD Cert.InPrep.τ).loc Cert.InPrep.main_arg10) = m ((c.tc : Thread Cert.InPrep.nD Cert.InPrep.τ).loc Cert.InPrep.main_arg10)
      ∧ r.2.mem ((c.tc : Thread Cert.InPrep.nD Cert.InPrep.τ).loc Cert.InPrep.main_arg11) = m ((c.tc : Thread Cert.InPrep.nD Cert.InPrep.τ).loc Cert.InPrep.main_arg11)
      ∧ r.2.mem ((c.tc : Thread Cert.InPrep.nD Cert.InPrep.τ).loc Cert.InPrep.main_arg12) = m ((c.tc : Thread Cert.InPrep.nD Cert.InPrep.τ).loc Cert.InPrep.main_arg12))
      ∧ r.2.sem = fun _ => 0)

def quiescent_InPrepIdeal [hInPrepIdeal : Cert.InPrepIdeal.Facts] : Prop :=
  ∀ (m : (ℓ : Loc Cert.InPrepIdeal.nD Cert.InPrepIdeal.τ Cert.InPrepIdeal.sig) → Buf (Elt Ideal) ℓ) (g : Dev Cert.InPrepIdeal.nD → PrngReg), Pre_InPrepIdeal m →
    θ_run (Cert.InPrepIdeal.defs (F := Ideal)) (onTc (τ := Cert.InPrepIdeal.τ) (Cert.InPrepIdeal.main (F := Ideal))) ⟨m, fun _ => 0, g⟩ (fun r => (∀ c : Dev Cert.InPrepIdeal.nD,
      r.2.mem ((c.tc : Thread Cert.InPrepIdeal.nD Cert.InPrepIdeal.τ).loc Cert.InPrepIdeal.main_arg0) = m ((c.tc : Thread Cert.InPrepIdeal.nD Cert.InPrepIdeal.τ).loc Cert.InPrepIdeal.main_arg0)
      ∧ r.2.mem ((c.tc : Thread Cert.InPrepIdeal.nD Cert.InPrepIdeal.τ).loc Cert.InPrepIdeal.main_arg1) = m ((c.tc : Thread Cert.InPrepIdeal.nD Cert.InPrepIdeal.τ).loc Cert.InPrepIdeal.main_arg1)
      ∧ r.2.mem ((c.tc : Thread Cert.InPrepIdeal.nD Cert.InPrepIdeal.τ).loc Cert.InPrepIdeal.main_arg2) = m ((c.tc : Thread Cert.InPrepIdeal.nD Cert.InPrepIdeal.τ).loc Cert.InPrepIdeal.main_arg2)
      ∧ r.2.mem ((c.tc : Thread Cert.InPrepIdeal.nD Cert.InPrepIdeal.τ).loc Cert.InPrepIdeal.main_arg3) = m ((c.tc : Thread Cert.InPrepIdeal.nD Cert.InPrepIdeal.τ).loc Cert.InPrepIdeal.main_arg3)
      ∧ r.2.mem ((c.tc : Thread Cert.InPrepIdeal.nD Cert.InPrepIdeal.τ).loc Cert.InPrepIdeal.main_arg4) = m ((c.tc : Thread Cert.InPrepIdeal.nD Cert.InPrepIdeal.τ).loc Cert.InPrepIdeal.main_arg4)
      ∧ r.2.mem ((c.tc : Thread Cert.InPrepIdeal.nD Cert.InPrepIdeal.τ).loc Cert.InPrepIdeal.main_arg5) = m ((c.tc : Thread Cert.InPrepIdeal.nD Cert.InPrepIdeal.τ).loc Cert.InPrepIdeal.main_arg5)
      ∧ r.2.mem ((c.tc : Thread Cert.InPrepIdeal.nD Cert.InPrepIdeal.τ).loc Cert.InPrepIdeal.main_arg6) = m ((c.tc : Thread Cert.InPrepIdeal.nD Cert.InPrepIdeal.τ).loc Cert.InPrepIdeal.main_arg6)
      ∧ r.2.mem ((c.tc : Thread Cert.InPrepIdeal.nD Cert.InPrepIdeal.τ).loc Cert.InPrepIdeal.main_arg7) = m ((c.tc : Thread Cert.InPrepIdeal.nD Cert.InPrepIdeal.τ).loc Cert.InPrepIdeal.main_arg7)
      ∧ r.2.mem ((c.tc : Thread Cert.InPrepIdeal.nD Cert.InPrepIdeal.τ).loc Cert.InPrepIdeal.main_arg8) = m ((c.tc : Thread Cert.InPrepIdeal.nD Cert.InPrepIdeal.τ).loc Cert.InPrepIdeal.main_arg8)
      ∧ r.2.mem ((c.tc : Thread Cert.InPrepIdeal.nD Cert.InPrepIdeal.τ).loc Cert.InPrepIdeal.main_arg9) = m ((c.tc : Thread Cert.InPrepIdeal.nD Cert.InPrepIdeal.τ).loc Cert.InPrepIdeal.main_arg9)
      ∧ r.2.mem ((c.tc : Thread Cert.InPrepIdeal.nD Cert.InPrepIdeal.τ).loc Cert.InPrepIdeal.main_arg10) = m ((c.tc : Thread Cert.InPrepIdeal.nD Cert.InPrepIdeal.τ).loc Cert.InPrepIdeal.main_arg10)
      ∧ r.2.mem ((c.tc : Thread Cert.InPrepIdeal.nD Cert.InPrepIdeal.τ).loc Cert.InPrepIdeal.main_arg11) = m ((c.tc : Thread Cert.InPrepIdeal.nD Cert.InPrepIdeal.τ).loc Cert.InPrepIdeal.main_arg11)
      ∧ r.2.mem ((c.tc : Thread Cert.InPrepIdeal.nD Cert.InPrepIdeal.τ).loc Cert.InPrepIdeal.main_arg12) = m ((c.tc : Thread Cert.InPrepIdeal.nD Cert.InPrepIdeal.τ).loc Cert.InPrepIdeal.main_arg12))
      ∧ r.2.sem = fun _ => 0)

def quiescent_InPrepIdeal_pre_finite_in [hInPrepIdeal : Cert.InPrepIdeal.Facts] [hPre_finite_in : Cert.Pre_finite_in.Facts] : Prop :=
  ∀ (m : (ℓ : Loc Cert.InPrepIdeal.nD Cert.InPrepIdeal.τ Cert.InPrepIdeal.sig) → Buf (Elt Ideal) ℓ) (g : Dev Cert.InPrepIdeal.nD → PrngReg), Pre_InPrepIdeal_finite_in m →
    θ_run (Cert.InPrepIdeal.defs (F := Ideal)) (onTc (τ := Cert.InPrepIdeal.τ) (Cert.InPrepIdeal.main (F := Ideal))) ⟨m, fun _ => 0, g⟩ (fun r => (∀ c : Dev Cert.InPrepIdeal.nD,
      r.2.mem ((c.tc : Thread Cert.InPrepIdeal.nD Cert.InPrepIdeal.τ).loc Cert.InPrepIdeal.main_arg0) = m ((c.tc : Thread Cert.InPrepIdeal.nD Cert.InPrepIdeal.τ).loc Cert.InPrepIdeal.main_arg0)
      ∧ r.2.mem ((c.tc : Thread Cert.InPrepIdeal.nD Cert.InPrepIdeal.τ).loc Cert.InPrepIdeal.main_arg1) = m ((c.tc : Thread Cert.InPrepIdeal.nD Cert.InPrepIdeal.τ).loc Cert.InPrepIdeal.main_arg1)
      ∧ r.2.mem ((c.tc : Thread Cert.InPrepIdeal.nD Cert.InPrepIdeal.τ).loc Cert.InPrepIdeal.main_arg2) = m ((c.tc : Thread Cert.InPrepIdeal.nD Cert.InPrepIdeal.τ).loc Cert.InPrepIdeal.main_arg2)
      ∧ r.2.mem ((c.tc : Thread Cert.InPrepIdeal.nD Cert.InPrepIdeal.τ).loc Cert.InPrepIdeal.main_arg3) = m ((c.tc : Thread Cert.InPrepIdeal.nD Cert.InPrepIdeal.τ).loc Cert.InPrepIdeal.main_arg3)
      ∧ r.2.mem ((c.tc : Thread Cert.InPrepIdeal.nD Cert.InPrepIdeal.τ).loc Cert.InPrepIdeal.main_arg4) = m ((c.tc : Thread Cert.InPrepIdeal.nD Cert.InPrepIdeal.τ).loc Cert.InPrepIdeal.main_arg4)
      ∧ r.2.mem ((c.tc : Thread Cert.InPrepIdeal.nD Cert.InPrepIdeal.τ).loc Cert.InPrepIdeal.main_arg5) = m ((c.tc : Thread Cert.InPrepIdeal.nD Cert.InPrepIdeal.τ).loc Cert.InPrepIdeal.main_arg5)
      ∧ r.2.mem ((c.tc : Thread Cert.InPrepIdeal.nD Cert.InPrepIdeal.τ).loc Cert.InPrepIdeal.main_arg6) = m ((c.tc : Thread Cert.InPrepIdeal.nD Cert.InPrepIdeal.τ).loc Cert.InPrepIdeal.main_arg6)
      ∧ r.2.mem ((c.tc : Thread Cert.InPrepIdeal.nD Cert.InPrepIdeal.τ).loc Cert.InPrepIdeal.main_arg7) = m ((c.tc : Thread Cert.InPrepIdeal.nD Cert.InPrepIdeal.τ).loc Cert.InPrepIdeal.main_arg7)
      ∧ r.2.mem ((c.tc : Thread Cert.InPrepIdeal.nD Cert.InPrepIdeal.τ).loc Cert.InPrepIdeal.main_arg8) = m ((c.tc : Thread Cert.InPrepIdeal.nD Cert.InPrepIdeal.τ).loc Cert.InPrepIdeal.main_arg8)
      ∧ r.2.mem ((c.tc : Thread Cert.InPrepIdeal.nD Cert.InPrepIdeal.τ).loc Cert.InPrepIdeal.main_arg9) = m ((c.tc : Thread Cert.InPrepIdeal.nD Cert.InPrepIdeal.τ).loc Cert.InPrepIdeal.main_arg9)
      ∧ r.2.mem ((c.tc : Thread Cert.InPrepIdeal.nD Cert.InPrepIdeal.τ).loc Cert.InPrepIdeal.main_arg10) = m ((c.tc : Thread Cert.InPrepIdeal.nD Cert.InPrepIdeal.τ).loc Cert.InPrepIdeal.main_arg10)
      ∧ r.2.mem ((c.tc : Thread Cert.InPrepIdeal.nD Cert.InPrepIdeal.τ).loc Cert.InPrepIdeal.main_arg11) = m ((c.tc : Thread Cert.InPrepIdeal.nD Cert.InPrepIdeal.τ).loc Cert.InPrepIdeal.main_arg11)
      ∧ r.2.mem ((c.tc : Thread Cert.InPrepIdeal.nD Cert.InPrepIdeal.τ).loc Cert.InPrepIdeal.main_arg12) = m ((c.tc : Thread Cert.InPrepIdeal.nD Cert.InPrepIdeal.τ).loc Cert.InPrepIdeal.main_arg12))
      ∧ r.2.sem = fun _ => 0)

def quiescent_InPrepRefIdeal [hInPrepRefIdeal : Cert.InPrepRefIdeal.Facts] : Prop :=
  ∀ (m : (ℓ : Loc Cert.InPrepRefIdeal.nD Cert.InPrepRefIdeal.τ Cert.InPrepRefIdeal.sig) → Buf (Elt Ideal) ℓ) (g : Dev Cert.InPrepRefIdeal.nD → PrngReg), Pre_InPrepRefIdeal m →
    θ_run (Cert.InPrepRefIdeal.defs (F := Ideal)) (onTc (τ := Cert.InPrepRefIdeal.τ) (Cert.InPrepRefIdeal.main (F := Ideal))) ⟨m, fun _ => 0, g⟩ (fun r => (∀ c : Dev Cert.InPrepRefIdeal.nD,
      r.2.mem ((c.tc : Thread Cert.InPrepRefIdeal.nD Cert.InPrepRefIdeal.τ).loc Cert.InPrepRefIdeal.main_arg0) = m ((c.tc : Thread Cert.InPrepRefIdeal.nD Cert.InPrepRefIdeal.τ).loc Cert.InPrepRefIdeal.main_arg0)
      ∧ r.2.mem ((c.tc : Thread Cert.InPrepRefIdeal.nD Cert.InPrepRefIdeal.τ).loc Cert.InPrepRefIdeal.main_arg1) = m ((c.tc : Thread Cert.InPrepRefIdeal.nD Cert.InPrepRefIdeal.τ).loc Cert.InPrepRefIdeal.main_arg1)
      ∧ r.2.mem ((c.tc : Thread Cert.InPrepRefIdeal.nD Cert.InPrepRefIdeal.τ).loc Cert.InPrepRefIdeal.main_arg2) = m ((c.tc : Thread Cert.InPrepRefIdeal.nD Cert.InPrepRefIdeal.τ).loc Cert.InPrepRefIdeal.main_arg2)
      ∧ r.2.mem ((c.tc : Thread Cert.InPrepRefIdeal.nD Cert.InPrepRefIdeal.τ).loc Cert.InPrepRefIdeal.main_arg3) = m ((c.tc : Thread Cert.InPrepRefIdeal.nD Cert.InPrepRefIdeal.τ).loc Cert.InPrepRefIdeal.main_arg3)
      ∧ r.2.mem ((c.tc : Thread Cert.InPrepRefIdeal.nD Cert.InPrepRefIdeal.τ).loc Cert.InPrepRefIdeal.main_arg4) = m ((c.tc : Thread Cert.InPrepRefIdeal.nD Cert.InPrepRefIdeal.τ).loc Cert.InPrepRefIdeal.main_arg4)
      ∧ r.2.mem ((c.tc : Thread Cert.InPrepRefIdeal.nD Cert.InPrepRefIdeal.τ).loc Cert.InPrepRefIdeal.main_arg5) = m ((c.tc : Thread Cert.InPrepRefIdeal.nD Cert.InPrepRefIdeal.τ).loc Cert.InPrepRefIdeal.main_arg5)
      ∧ r.2.mem ((c.tc : Thread Cert.InPrepRefIdeal.nD Cert.InPrepRefIdeal.τ).loc Cert.InPrepRefIdeal.main_arg6) = m ((c.tc : Thread Cert.InPrepRefIdeal.nD Cert.InPrepRefIdeal.τ).loc Cert.InPrepRefIdeal.main_arg6)
      ∧ r.2.mem ((c.tc : Thread Cert.InPrepRefIdeal.nD Cert.InPrepRefIdeal.τ).loc Cert.InPrepRefIdeal.main_arg7) = m ((c.tc : Thread Cert.InPrepRefIdeal.nD Cert.InPrepRefIdeal.τ).loc Cert.InPrepRefIdeal.main_arg7)
      ∧ r.2.mem ((c.tc : Thread Cert.InPrepRefIdeal.nD Cert.InPrepRefIdeal.τ).loc Cert.InPrepRefIdeal.main_arg8) = m ((c.tc : Thread Cert.InPrepRefIdeal.nD Cert.InPrepRefIdeal.τ).loc Cert.InPrepRefIdeal.main_arg8)
      ∧ r.2.mem ((c.tc : Thread Cert.InPrepRefIdeal.nD Cert.InPrepRefIdeal.τ).loc Cert.InPrepRefIdeal.main_arg9) = m ((c.tc : Thread Cert.InPrepRefIdeal.nD Cert.InPrepRefIdeal.τ).loc Cert.InPrepRefIdeal.main_arg9)
      ∧ r.2.mem ((c.tc : Thread Cert.InPrepRefIdeal.nD Cert.InPrepRefIdeal.τ).loc Cert.InPrepRefIdeal.main_arg10) = m ((c.tc : Thread Cert.InPrepRefIdeal.nD Cert.InPrepRefIdeal.τ).loc Cert.InPrepRefIdeal.main_arg10)
      ∧ r.2.mem ((c.tc : Thread Cert.InPrepRefIdeal.nD Cert.InPrepRefIdeal.τ).loc Cert.InPrepRefIdeal.main_arg11) = m ((c.tc : Thread Cert.InPrepRefIdeal.nD Cert.InPrepRefIdeal.τ).loc Cert.InPrepRefIdeal.main_arg11)
      ∧ r.2.mem ((c.tc : Thread Cert.InPrepRefIdeal.nD Cert.InPrepRefIdeal.τ).loc Cert.InPrepRefIdeal.main_arg12) = m ((c.tc : Thread Cert.InPrepRefIdeal.nD Cert.InPrepRefIdeal.τ).loc Cert.InPrepRefIdeal.main_arg12))
      ∧ r.2.sem = fun _ => 0)

def quiescent_InPrepRefIdeal_pre_finite_in [hInPrepRefIdeal : Cert.InPrepRefIdeal.Facts] [hPre_finite_in : Cert.Pre_finite_in.Facts] : Prop :=
  ∀ (m : (ℓ : Loc Cert.InPrepRefIdeal.nD Cert.InPrepRefIdeal.τ Cert.InPrepRefIdeal.sig) → Buf (Elt Ideal) ℓ) (g : Dev Cert.InPrepRefIdeal.nD → PrngReg), Pre_InPrepRefIdeal_finite_in m →
    θ_run (Cert.InPrepRefIdeal.defs (F := Ideal)) (onTc (τ := Cert.InPrepRefIdeal.τ) (Cert.InPrepRefIdeal.main (F := Ideal))) ⟨m, fun _ => 0, g⟩ (fun r => (∀ c : Dev Cert.InPrepRefIdeal.nD,
      r.2.mem ((c.tc : Thread Cert.InPrepRefIdeal.nD Cert.InPrepRefIdeal.τ).loc Cert.InPrepRefIdeal.main_arg0) = m ((c.tc : Thread Cert.InPrepRefIdeal.nD Cert.InPrepRefIdeal.τ).loc Cert.InPrepRefIdeal.main_arg0)
      ∧ r.2.mem ((c.tc : Thread Cert.InPrepRefIdeal.nD Cert.InPrepRefIdeal.τ).loc Cert.InPrepRefIdeal.main_arg1) = m ((c.tc : Thread Cert.InPrepRefIdeal.nD Cert.InPrepRefIdeal.τ).loc Cert.InPrepRefIdeal.main_arg1)
      ∧ r.2.mem ((c.tc : Thread Cert.InPrepRefIdeal.nD Cert.InPrepRefIdeal.τ).loc Cert.InPrepRefIdeal.main_arg2) = m ((c.tc : Thread Cert.InPrepRefIdeal.nD Cert.InPrepRefIdeal.τ).loc Cert.InPrepRefIdeal.main_arg2)
      ∧ r.2.mem ((c.tc : Thread Cert.InPrepRefIdeal.nD Cert.InPrepRefIdeal.τ).loc Cert.InPrepRefIdeal.main_arg3) = m ((c.tc : Thread Cert.InPrepRefIdeal.nD Cert.InPrepRefIdeal.τ).loc Cert.InPrepRefIdeal.main_arg3)
      ∧ r.2.mem ((c.tc : Thread Cert.InPrepRefIdeal.nD Cert.InPrepRefIdeal.τ).loc Cert.InPrepRefIdeal.main_arg4) = m ((c.tc : Thread Cert.InPrepRefIdeal.nD Cert.InPrepRefIdeal.τ).loc Cert.InPrepRefIdeal.main_arg4)
      ∧ r.2.mem ((c.tc : Thread Cert.InPrepRefIdeal.nD Cert.InPrepRefIdeal.τ).loc Cert.InPrepRefIdeal.main_arg5) = m ((c.tc : Thread Cert.InPrepRefIdeal.nD Cert.InPrepRefIdeal.τ).loc Cert.InPrepRefIdeal.main_arg5)
      ∧ r.2.mem ((c.tc : Thread Cert.InPrepRefIdeal.nD Cert.InPrepRefIdeal.τ).loc Cert.InPrepRefIdeal.main_arg6) = m ((c.tc : Thread Cert.InPrepRefIdeal.nD Cert.InPrepRefIdeal.τ).loc Cert.InPrepRefIdeal.main_arg6)
      ∧ r.2.mem ((c.tc : Thread Cert.InPrepRefIdeal.nD Cert.InPrepRefIdeal.τ).loc Cert.InPrepRefIdeal.main_arg7) = m ((c.tc : Thread Cert.InPrepRefIdeal.nD Cert.InPrepRefIdeal.τ).loc Cert.InPrepRefIdeal.main_arg7)
      ∧ r.2.mem ((c.tc : Thread Cert.InPrepRefIdeal.nD Cert.InPrepRefIdeal.τ).loc Cert.InPrepRefIdeal.main_arg8) = m ((c.tc : Thread Cert.InPrepRefIdeal.nD Cert.InPrepRefIdeal.τ).loc Cert.InPrepRefIdeal.main_arg8)
      ∧ r.2.mem ((c.tc : Thread Cert.InPrepRefIdeal.nD Cert.InPrepRefIdeal.τ).loc Cert.InPrepRefIdeal.main_arg9) = m ((c.tc : Thread Cert.InPrepRefIdeal.nD Cert.InPrepRefIdeal.τ).loc Cert.InPrepRefIdeal.main_arg9)
      ∧ r.2.mem ((c.tc : Thread Cert.InPrepRefIdeal.nD Cert.InPrepRefIdeal.τ).loc Cert.InPrepRefIdeal.main_arg10) = m ((c.tc : Thread Cert.InPrepRefIdeal.nD Cert.InPrepRefIdeal.τ).loc Cert.InPrepRefIdeal.main_arg10)
      ∧ r.2.mem ((c.tc : Thread Cert.InPrepRefIdeal.nD Cert.InPrepRefIdeal.τ).loc Cert.InPrepRefIdeal.main_arg11) = m ((c.tc : Thread Cert.InPrepRefIdeal.nD Cert.InPrepRefIdeal.τ).loc Cert.InPrepRefIdeal.main_arg11)
      ∧ r.2.mem ((c.tc : Thread Cert.InPrepRefIdeal.nD Cert.InPrepRefIdeal.τ).loc Cert.InPrepRefIdeal.main_arg12) = m ((c.tc : Thread Cert.InPrepRefIdeal.nD Cert.InPrepRefIdeal.τ).loc Cert.InPrepRefIdeal.main_arg12))
      ∧ r.2.sem = fun _ => 0)

def quiescent_BiasTable [hBiasTable : Cert.BiasTable.Facts] : Prop :=
  ∀ (m : (ℓ : Loc Cert.BiasTable.nD Cert.BiasTable.τ Cert.BiasTable.sig) → Buf (Elt Bits) ℓ) (g : Dev Cert.BiasTable.nD → PrngReg), Pre_BiasTable m →
    θ_run (Cert.BiasTable.defs (F := Bits)) (onTc (τ := Cert.BiasTable.τ) (Cert.BiasTable.main (F := Bits))) ⟨m, fun _ => 0, g⟩ (fun r => (∀ c : Dev Cert.BiasTable.nD,
      r.2.mem ((c.tc : Thread Cert.BiasTable.nD Cert.BiasTable.τ).loc Cert.BiasTable.main_arg0) = m ((c.tc : Thread Cert.BiasTable.nD Cert.BiasTable.τ).loc Cert.BiasTable.main_arg0))
      ∧ r.2.sem = fun _ => 0)

def quiescent_BiasTableIdeal [hBiasTableIdeal : Cert.BiasTableIdeal.Facts] : Prop :=
  ∀ (m : (ℓ : Loc Cert.BiasTableIdeal.nD Cert.BiasTableIdeal.τ Cert.BiasTableIdeal.sig) → Buf (Elt Ideal) ℓ) (g : Dev Cert.BiasTableIdeal.nD → PrngReg), Pre_BiasTableIdeal m →
    θ_run (Cert.BiasTableIdeal.defs (F := Ideal)) (onTc (τ := Cert.BiasTableIdeal.τ) (Cert.BiasTableIdeal.main (F := Ideal))) ⟨m, fun _ => 0, g⟩ (fun r => (∀ c : Dev Cert.BiasTableIdeal.nD,
      r.2.mem ((c.tc : Thread Cert.BiasTableIdeal.nD Cert.BiasTableIdeal.τ).loc Cert.BiasTableIdeal.main_arg0) = m ((c.tc : Thread Cert.BiasTableIdeal.nD Cert.BiasTableIdeal.τ).loc Cert.BiasTableIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def quiescent_Mixers [hMixers : Cert.Mixers.Facts] : Prop :=
  ∀ (m : (ℓ : Loc Cert.Mixers.nD Cert.Mixers.τ Cert.Mixers.sig) → Buf (Elt Bits) ℓ) (g : Dev Cert.Mixers.nD → PrngReg), Pre_Mixers m →
    θ_run (Cert.Mixers.defs (F := Bits)) (onTc (τ := Cert.Mixers.τ) (Cert.Mixers.main (F := Bits))) ⟨m, fun _ => 0, g⟩ (fun r => (∀ c : Dev Cert.Mixers.nD,
      r.2.mem ((c.tc : Thread Cert.Mixers.nD Cert.Mixers.τ).loc Cert.Mixers.main_arg0) = m ((c.tc : Thread Cert.Mixers.nD Cert.Mixers.τ).loc Cert.Mixers.main_arg0)
      ∧ r.2.mem ((c.tc : Thread Cert.Mixers.nD Cert.Mixers.τ).loc Cert.Mixers.main_arg1) = m ((c.tc : Thread Cert.Mixers.nD Cert.Mixers.τ).loc Cert.Mixers.main_arg1)
      ∧ r.2.mem ((c.tc : Thread Cert.Mixers.nD Cert.Mixers.τ).loc Cert.Mixers.main_arg2) = m ((c.tc : Thread Cert.Mixers.nD Cert.Mixers.τ).loc Cert.Mixers.main_arg2)
      ∧ r.2.mem ((c.tc : Thread Cert.Mixers.nD Cert.Mixers.τ).loc Cert.Mixers.main_arg3) = m ((c.tc : Thread Cert.Mixers.nD Cert.Mixers.τ).loc Cert.Mixers.main_arg3)
      ∧ r.2.mem ((c.tc : Thread Cert.Mixers.nD Cert.Mixers.τ).loc Cert.Mixers.main_arg4) = m ((c.tc : Thread Cert.Mixers.nD Cert.Mixers.τ).loc Cert.Mixers.main_arg4)
      ∧ r.2.mem ((c.tc : Thread Cert.Mixers.nD Cert.Mixers.τ).loc Cert.Mixers.main_arg5) = m ((c.tc : Thread Cert.Mixers.nD Cert.Mixers.τ).loc Cert.Mixers.main_arg5)
      ∧ r.2.mem ((c.tc : Thread Cert.Mixers.nD Cert.Mixers.τ).loc Cert.Mixers.main_arg6) = m ((c.tc : Thread Cert.Mixers.nD Cert.Mixers.τ).loc Cert.Mixers.main_arg6)
      ∧ r.2.mem ((c.tc : Thread Cert.Mixers.nD Cert.Mixers.τ).loc Cert.Mixers.main_arg7) = m ((c.tc : Thread Cert.Mixers.nD Cert.Mixers.τ).loc Cert.Mixers.main_arg7)
      ∧ r.2.mem ((c.tc : Thread Cert.Mixers.nD Cert.Mixers.τ).loc Cert.Mixers.main_arg8) = m ((c.tc : Thread Cert.Mixers.nD Cert.Mixers.τ).loc Cert.Mixers.main_arg8))
      ∧ r.2.sem = fun _ => 0)

def quiescent_MixersIdeal [hMixersIdeal : Cert.MixersIdeal.Facts] : Prop :=
  ∀ (m : (ℓ : Loc Cert.MixersIdeal.nD Cert.MixersIdeal.τ Cert.MixersIdeal.sig) → Buf (Elt Ideal) ℓ) (g : Dev Cert.MixersIdeal.nD → PrngReg), Pre_MixersIdeal m →
    θ_run (Cert.MixersIdeal.defs (F := Ideal)) (onTc (τ := Cert.MixersIdeal.τ) (Cert.MixersIdeal.main (F := Ideal))) ⟨m, fun _ => 0, g⟩ (fun r => (∀ c : Dev Cert.MixersIdeal.nD,
      r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
      ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
      ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
      ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
      ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
      ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5)
      ∧ r.2.mem ((c.tc : Thread Cert.MixersIdeal.nD Cert.MixersIdeal.τ).loc Cert.MixersIdeal.main_arg6) = m ((c.tc : Thread Cert.MixersIdeal.nD Cert.MixersIdeal.τ).loc Cert.MixersIdeal.main_arg6)
      ∧ r.2.mem ((c.tc : Thread Cert.MixersIdeal.nD Cert.MixersIdeal.τ).loc Cert.MixersIdeal.main_arg7) = m ((c.tc : Thread Cert.MixersIdeal.nD Cert.MixersIdeal.τ).loc Cert.MixersIdeal.main_arg7)
      ∧ r.2.mem ((c.tc : Thread Cert.MixersIdeal.nD Cert.MixersIdeal.τ).loc Cert.MixersIdeal.main_arg8) = m ((c.tc : Thread Cert.MixersIdeal.nD Cert.MixersIdeal.τ).loc Cert.MixersIdeal.main_arg8))
      ∧ r.2.sem = fun _ => 0)

def preserves_OutFfn_OutFfnIdeal : Prop :=
  True

def algebraic_OutFfnIdeal_OutFfnRefIdeal [hOutFfnIdeal : Cert.OutFfnIdeal.Facts] [hOutFfnRefIdeal : Cert.OutFfnRefIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg)
    (m' : (ℓ : Loc Cert.OutFfnRefIdeal.nD Cert.OutFfnRefIdeal.τ Cert.OutFfnRefIdeal.sig) → Buf (Elt Ideal) ℓ) (g' : Dev Cert.OutFfnRefIdeal.nD → PrngReg), Pre_OutFfnIdeal m →
    (∀ c : Dev Cert.OutFfnIdeal.nD,
      m' ((c.tc : Thread Cert.OutFfnRefIdeal.nD Cert.OutFfnRefIdeal.τ).loc Cert.OutFfnRefIdeal.main_arg0) = m ((c.tc : Thread Cert.OutFfnIdeal.nD Cert.OutFfnIdeal.τ).loc Cert.OutFfnIdeal.main_arg0)
      ∧ m' ((c.tc : Thread Cert.OutFfnRefIdeal.nD Cert.OutFfnRefIdeal.τ).loc Cert.OutFfnRefIdeal.main_arg1) = m ((c.tc : Thread Cert.OutFfnIdeal.nD Cert.OutFfnIdeal.τ).loc Cert.OutFfnIdeal.main_arg1)
      ∧ m' ((c.tc : Thread Cert.OutFfnRefIdeal.nD Cert.OutFfnRefIdeal.τ).loc Cert.OutFfnRefIdeal.main_arg2) = m ((c.tc : Thread Cert.OutFfnIdeal.nD Cert.OutFfnIdeal.τ).loc Cert.OutFfnIdeal.main_arg2)
      ∧ m' ((c.tc : Thread Cert.OutFfnRefIdeal.nD Cert.OutFfnRefIdeal.τ).loc Cert.OutFfnRefIdeal.main_arg3) = m ((c.tc : Thread Cert.OutFfnIdeal.nD Cert.OutFfnIdeal.τ).loc Cert.OutFfnIdeal.main_arg3)
      ∧ m' ((c.tc : Thread Cert.OutFfnRefIdeal.nD Cert.OutFfnRefIdeal.τ).loc Cert.OutFfnRefIdeal.main_arg4) = m ((c.tc : Thread Cert.OutFfnIdeal.nD Cert.OutFfnIdeal.τ).loc Cert.OutFfnIdeal.main_arg4)
      ∧ m' ((c.tc : Thread Cert.OutFfnRefIdeal.nD Cert.OutFfnRefIdeal.τ).loc Cert.OutFfnRefIdeal.main_arg5) = m ((c.tc : Thread Cert.OutFfnIdeal.nD Cert.OutFfnIdeal.τ).loc Cert.OutFfnIdeal.main_arg5)
      ∧ m' ((c.tc : Thread Cert.OutFfnRefIdeal.nD Cert.OutFfnRefIdeal.τ).loc Cert.OutFfnRefIdeal.main_arg6) = m ((c.tc : Thread Cert.OutFfnIdeal.nD Cert.OutFfnIdeal.τ).loc Cert.OutFfnIdeal.main_arg6)
      ∧ m' ((c.tc : Thread Cert.OutFfnRefIdeal.nD Cert.OutFfnRefIdeal.τ).loc Cert.OutFfnRefIdeal.main_arg7) = m ((c.tc : Thread Cert.OutFfnIdeal.nD Cert.OutFfnIdeal.τ).loc Cert.OutFfnIdeal.main_arg7)
      ∧ m' ((c.tc : Thread Cert.OutFfnRefIdeal.nD Cert.OutFfnRefIdeal.τ).loc Cert.OutFfnRefIdeal.main_arg8) = m ((c.tc : Thread Cert.OutFfnIdeal.nD Cert.OutFfnIdeal.τ).loc Cert.OutFfnIdeal.main_arg8)
      ∧ m' ((c.tc : Thread Cert.OutFfnRefIdeal.nD Cert.OutFfnRefIdeal.τ).loc Cert.OutFfnRefIdeal.main_arg9) = m ((c.tc : Thread Cert.OutFfnIdeal.nD Cert.OutFfnIdeal.τ).loc Cert.OutFfnIdeal.main_arg9)
      ∧ m' ((c.tc : Thread Cert.OutFfnRefIdeal.nD Cert.OutFfnRefIdeal.τ).loc Cert.OutFfnRefIdeal.main_arg10) = m ((c.tc : Thread Cert.OutFfnIdeal.nD Cert.OutFfnIdeal.τ).loc Cert.OutFfnIdeal.main_arg10)
      ∧ m' ((c.tc : Thread Cert.OutFfnRefIdeal.nD Cert.OutFfnRefIdeal.τ).loc Cert.OutFfnRefIdeal.main_arg11) = m ((c.tc : Thread Cert.OutFfnIdeal.nD Cert.OutFfnIdeal.τ).loc Cert.OutFfnIdeal.main_arg11)
      ∧ m' ((c.tc : Thread Cert.OutFfnRefIdeal.nD Cert.OutFfnRefIdeal.τ).loc Cert.OutFfnRefIdeal.main_arg12) = m ((c.tc : Thread Cert.OutFfnIdeal.nD Cert.OutFfnIdeal.τ).loc Cert.OutFfnIdeal.main_arg12)
      ∧ m' ((c.tc : Thread Cert.OutFfnRefIdeal.nD Cert.OutFfnRefIdeal.τ).loc Cert.OutFfnRefIdeal.main_arg13) = m ((c.tc : Thread Cert.OutFfnIdeal.nD Cert.OutFfnIdeal.τ).loc Cert.OutFfnIdeal.main_arg13)) →
    ∃ (v0 : (c : Dev Cert.OutFfnIdeal.nD) → Buf (Elt Ideal) ((c.tc : Thread Cert.OutFfnIdeal.nD Cert.OutFfnIdeal.τ).loc Cert.OutFfnIdeal.main_v13)),
      θ_run (Cert.OutFfnIdeal.defs (F := Ideal)) (onTc (τ := Cert.OutFfnIdeal.τ) (Cert.OutFfnIdeal.main (F := Ideal))) ⟨m, fun _ => 0, g⟩ (fun r => ∀ c : Dev Cert.OutFfnIdeal.nD,
          r.2.mem ((c.tc : Thread Cert.OutFfnIdeal.nD Cert.OutFfnIdeal.τ).loc Cert.OutFfnIdeal.main_v13) = v0 c
          ∧ r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
          ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
          ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
          ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
          ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
          ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
          ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
          ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
          ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
          ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9)
          ∧ r.2.mem ((c.tc : Thread Cert.OutFfnIdeal.nD Cert.OutFfnIdeal.τ).loc Cert.OutFfnIdeal.main_arg10) = m ((c.tc : Thread Cert.OutFfnIdeal.nD Cert.OutFfnIdeal.τ).loc Cert.OutFfnIdeal.main_arg10)
          ∧ r.2.mem ((c.tc : Thread Cert.OutFfnIdeal.nD Cert.OutFfnIdeal.τ).loc Cert.OutFfnIdeal.main_arg11) = m ((c.tc : Thread Cert.OutFfnIdeal.nD Cert.OutFfnIdeal.τ).loc Cert.OutFfnIdeal.main_arg11)
          ∧ r.2.mem ((c.tc : Thread Cert.OutFfnIdeal.nD Cert.OutFfnIdeal.τ).loc Cert.OutFfnIdeal.main_arg12) = m ((c.tc : Thread Cert.OutFfnIdeal.nD Cert.OutFfnIdeal.τ).loc Cert.OutFfnIdeal.main_arg12)
          ∧ r.2.mem ((c.tc : Thread Cert.OutFfnIdeal.nD Cert.OutFfnIdeal.τ).loc Cert.OutFfnIdeal.main_arg13) = m ((c.tc : Thread Cert.OutFfnIdeal.nD Cert.OutFfnIdeal.τ).loc Cert.OutFfnIdeal.main_arg13))
      ∧ θ_run (Cert.OutFfnRefIdeal.defs (F := Ideal)) (onTc (τ := Cert.OutFfnRefIdeal.τ) (Cert.OutFfnRefIdeal.main (F := Ideal))) ⟨m', fun _ => 0, g'⟩ (fun r => ∀ c : Dev Cert.OutFfnRefIdeal.nD,
          r.2.mem ((c.tc : Thread Cert.OutFfnRefIdeal.nD Cert.OutFfnRefIdeal.τ).loc Cert.OutFfnRefIdeal.main_v78) = v0 c
          ∧ r.2.mem ((c.tc : Thread Cert.OutFfnRefIdeal.nD Cert.OutFfnRefIdeal.τ).loc Cert.OutFfnRefIdeal.main_arg0) = m' ((c.tc : Thread Cert.OutFfnRefIdeal.nD Cert.OutFfnRefIdeal.τ).loc Cert.OutFfnRefIdeal.main_arg0)
          ∧ r.2.mem ((c.tc : Thread Cert.OutFfnRefIdeal.nD Cert.OutFfnRefIdeal.τ).loc Cert.OutFfnRefIdeal.main_arg1) = m' ((c.tc : Thread Cert.OutFfnRefIdeal.nD Cert.OutFfnRefIdeal.τ).loc Cert.OutFfnRefIdeal.main_arg1)
          ∧ r.2.mem ((c.tc : Thread Cert.OutFfnRefIdeal.nD Cert.OutFfnRefIdeal.τ).loc Cert.OutFfnRefIdeal.main_arg2) = m' ((c.tc : Thread Cert.OutFfnRefIdeal.nD Cert.OutFfnRefIdeal.τ).loc Cert.OutFfnRefIdeal.main_arg2)
          ∧ r.2.mem ((c.tc : Thread Cert.OutFfnRefIdeal.nD Cert.OutFfnRefIdeal.τ).loc Cert.OutFfnRefIdeal.main_arg3) = m' ((c.tc : Thread Cert.OutFfnRefIdeal.nD Cert.OutFfnRefIdeal.τ).loc Cert.OutFfnRefIdeal.main_arg3)
          ∧ r.2.mem ((c.tc : Thread Cert.OutFfnRefIdeal.nD Cert.OutFfnRefIdeal.τ).loc Cert.OutFfnRefIdeal.main_arg4) = m' ((c.tc : Thread Cert.OutFfnRefIdeal.nD Cert.OutFfnRefIdeal.τ).loc Cert.OutFfnRefIdeal.main_arg4)
          ∧ r.2.mem ((c.tc : Thread Cert.OutFfnRefIdeal.nD Cert.OutFfnRefIdeal.τ).loc Cert.OutFfnRefIdeal.main_arg5) = m' ((c.tc : Thread Cert.OutFfnRefIdeal.nD Cert.OutFfnRefIdeal.τ).loc Cert.OutFfnRefIdeal.main_arg5)
          ∧ r.2.mem ((c.tc : Thread Cert.OutFfnRefIdeal.nD Cert.OutFfnRefIdeal.τ).loc Cert.OutFfnRefIdeal.main_arg6) = m' ((c.tc : Thread Cert.OutFfnRefIdeal.nD Cert.OutFfnRefIdeal.τ).loc Cert.OutFfnRefIdeal.main_arg6)
          ∧ r.2.mem ((c.tc : Thread Cert.OutFfnRefIdeal.nD Cert.OutFfnRefIdeal.τ).loc Cert.OutFfnRefIdeal.main_arg7) = m' ((c.tc : Thread Cert.OutFfnRefIdeal.nD Cert.OutFfnRefIdeal.τ).loc Cert.OutFfnRefIdeal.main_arg7)
          ∧ r.2.mem ((c.tc : Thread Cert.OutFfnRefIdeal.nD Cert.OutFfnRefIdeal.τ).loc Cert.OutFfnRefIdeal.main_arg8) = m' ((c.tc : Thread Cert.OutFfnRefIdeal.nD Cert.OutFfnRefIdeal.τ).loc Cert.OutFfnRefIdeal.main_arg8)
          ∧ r.2.mem ((c.tc : Thread Cert.OutFfnRefIdeal.nD Cert.OutFfnRefIdeal.τ).loc Cert.OutFfnRefIdeal.main_arg9) = m' ((c.tc : Thread Cert.OutFfnRefIdeal.nD Cert.OutFfnRefIdeal.τ).loc Cert.OutFfnRefIdeal.main_arg9)
          ∧ r.2.mem ((c.tc : Thread Cert.OutFfnRefIdeal.nD Cert.OutFfnRefIdeal.τ).loc Cert.OutFfnRefIdeal.main_arg10) = m' ((c.tc : Thread Cert.OutFfnRefIdeal.nD Cert.OutFfnRefIdeal.τ).loc Cert.OutFfnRefIdeal.main_arg10)
          ∧ r.2.mem ((c.tc : Thread Cert.OutFfnRefIdeal.nD Cert.OutFfnRefIdeal.τ).loc Cert.OutFfnRefIdeal.main_arg11) = m' ((c.tc : Thread Cert.OutFfnRefIdeal.nD Cert.OutFfnRefIdeal.τ).loc Cert.OutFfnRefIdeal.main_arg11)
          ∧ r.2.mem ((c.tc : Thread Cert.OutFfnRefIdeal.nD Cert.OutFfnRefIdeal.τ).loc Cert.OutFfnRefIdeal.main_arg12) = m' ((c.tc : Thread Cert.OutFfnRefIdeal.nD Cert.OutFfnRefIdeal.τ).loc Cert.OutFfnRefIdeal.main_arg12)
          ∧ r.2.mem ((c.tc : Thread Cert.OutFfnRefIdeal.nD Cert.OutFfnRefIdeal.τ).loc Cert.OutFfnRefIdeal.main_arg13) = m' ((c.tc : Thread Cert.OutFfnRefIdeal.nD Cert.OutFfnRefIdeal.τ).loc Cert.OutFfnRefIdeal.main_arg13))

def preserves_InPrep_InPrepIdeal : Prop :=
  True

def algebraic_InPrepIdeal_InPrepRefIdeal_pre_finite_in [hInPrepIdeal : Cert.InPrepIdeal.Facts] [hInPrepRefIdeal : Cert.InPrepRefIdeal.Facts] [hPre_finite_in : Cert.Pre_finite_in.Facts] : Prop :=
  ∀ (m : (ℓ : Loc Cert.InPrepIdeal.nD Cert.InPrepIdeal.τ Cert.InPrepIdeal.sig) → Buf (Elt Ideal) ℓ) (g : Dev Cert.InPrepIdeal.nD → PrngReg)
    (m' : (ℓ : Loc Cert.InPrepRefIdeal.nD Cert.InPrepRefIdeal.τ Cert.InPrepRefIdeal.sig) → Buf (Elt Ideal) ℓ) (g' : Dev Cert.InPrepRefIdeal.nD → PrngReg), Pre_InPrepIdeal_finite_in m →
    (∀ c : Dev Cert.InPrepIdeal.nD,
      m' ((c.tc : Thread Cert.InPrepRefIdeal.nD Cert.InPrepRefIdeal.τ).loc Cert.InPrepRefIdeal.main_arg0) = m ((c.tc : Thread Cert.InPrepIdeal.nD Cert.InPrepIdeal.τ).loc Cert.InPrepIdeal.main_arg0)
      ∧ m' ((c.tc : Thread Cert.InPrepRefIdeal.nD Cert.InPrepRefIdeal.τ).loc Cert.InPrepRefIdeal.main_arg1) = m ((c.tc : Thread Cert.InPrepIdeal.nD Cert.InPrepIdeal.τ).loc Cert.InPrepIdeal.main_arg1)
      ∧ m' ((c.tc : Thread Cert.InPrepRefIdeal.nD Cert.InPrepRefIdeal.τ).loc Cert.InPrepRefIdeal.main_arg2) = m ((c.tc : Thread Cert.InPrepIdeal.nD Cert.InPrepIdeal.τ).loc Cert.InPrepIdeal.main_arg2)
      ∧ m' ((c.tc : Thread Cert.InPrepRefIdeal.nD Cert.InPrepRefIdeal.τ).loc Cert.InPrepRefIdeal.main_arg3) = m ((c.tc : Thread Cert.InPrepIdeal.nD Cert.InPrepIdeal.τ).loc Cert.InPrepIdeal.main_arg3)
      ∧ m' ((c.tc : Thread Cert.InPrepRefIdeal.nD Cert.InPrepRefIdeal.τ).loc Cert.InPrepRefIdeal.main_arg4) = m ((c.tc : Thread Cert.InPrepIdeal.nD Cert.InPrepIdeal.τ).loc Cert.InPrepIdeal.main_arg4)
      ∧ m' ((c.tc : Thread Cert.InPrepRefIdeal.nD Cert.InPrepRefIdeal.τ).loc Cert.InPrepRefIdeal.main_arg5) = m ((c.tc : Thread Cert.InPrepIdeal.nD Cert.InPrepIdeal.τ).loc Cert.InPrepIdeal.main_arg5)
      ∧ m' ((c.tc : Thread Cert.InPrepRefIdeal.nD Cert.InPrepRefIdeal.τ).loc Cert.InPrepRefIdeal.main_arg6) = m ((c.tc : Thread Cert.InPrepIdeal.nD Cert.InPrepIdeal.τ).loc Cert.InPrepIdeal.main_arg6)
      ∧ m' ((c.tc : Thread Cert.InPrepRefIdeal.nD Cert.InPrepRefIdeal.τ).loc Cert.InPrepRefIdeal.main_arg7) = m ((c.tc : Thread Cert.InPrepIdeal.nD Cert.InPrepIdeal.τ).loc Cert.InPrepIdeal.main_arg7)
      ∧ m' ((c.tc : Thread Cert.InPrepRefIdeal.nD Cert.InPrepRefIdeal.τ).loc Cert.InPrepRefIdeal.main_arg8) = m ((c.tc : Thread Cert.InPrepIdeal.nD Cert.InPrepIdeal.τ).loc Cert.InPrepIdeal.main_arg8)
      ∧ m' ((c.tc : Thread Cert.InPrepRefIdeal.nD Cert.InPrepRefIdeal.τ).loc Cert.InPrepRefIdeal.main_arg9) = m ((c.tc : Thread Cert.InPrepIdeal.nD Cert.InPrepIdeal.τ).loc Cert.InPrepIdeal.main_arg9)
      ∧ m' ((c.tc : Thread Cert.InPrepRefIdeal.nD Cert.InPrepRefIdeal.τ).loc Cert.InPrepRefIdeal.main_arg10) = m ((c.tc : Thread Cert.InPrepIdeal.nD Cert.InPrepIdeal.τ).loc Cert.InPrepIdeal.main_arg10)
      ∧ m' ((c.tc : Thread Cert.InPrepRefIdeal.nD Cert.InPrepRefIdeal.τ).loc Cert.InPrepRefIdeal.main_arg11) = m ((c.tc : Thread Cert.InPrepIdeal.nD Cert.InPrepIdeal.τ).loc Cert.InPrepIdeal.main_arg11)
      ∧ m' ((c.tc : Thread Cert.InPrepRefIdeal.nD Cert.InPrepRefIdeal.τ).loc Cert.InPrepRefIdeal.main_arg12) = m ((c.tc : Thread Cert.InPrepIdeal.nD Cert.InPrepIdeal.τ).loc Cert.InPrepIdeal.main_arg12)) →
    ∃ (v0 : (c : Dev Cert.InPrepIdeal.nD) → Buf (Elt Ideal) ((c.tc : Thread Cert.InPrepIdeal.nD Cert.InPrepIdeal.τ).loc Cert.InPrepIdeal.main_v14_0)) (v1 : (c : Dev Cert.InPrepIdeal.nD) → Buf (Elt Ideal) ((c.tc : Thread Cert.InPrepIdeal.nD Cert.InPrepIdeal.τ).loc Cert.InPrepIdeal.main_v14_1)) (v2 : (c : Dev Cert.InPrepIdeal.nD) → Buf (Elt Ideal) ((c.tc : Thread Cert.InPrepIdeal.nD Cert.InPrepIdeal.τ).loc Cert.InPrepIdeal.main_v14_2)) (v3 : (c : Dev Cert.InPrepIdeal.nD) → Buf (Elt Ideal) ((c.tc : Thread Cert.InPrepIdeal.nD Cert.InPrepIdeal.τ).loc Cert.InPrepIdeal.main_v14_3)) (v4 : (c : Dev Cert.InPrepIdeal.nD) → Buf (Elt Ideal) ((c.tc : Thread Cert.InPrepIdeal.nD Cert.InPrepIdeal.τ).loc Cert.InPrepIdeal.main_v14_4)) (v5 : (c : Dev Cert.InPrepIdeal.nD) → Buf (Elt Ideal) ((c.tc : Thread Cert.InPrepIdeal.nD Cert.InPrepIdeal.τ).loc Cert.InPrepIdeal.main_v14_5)) (v6 : (c : Dev Cert.InPrepIdeal.nD) → Buf (Elt Ideal) ((c.tc : Thread Cert.InPrepIdeal.nD Cert.InPrepIdeal.τ).loc Cert.InPrepIdeal.main_v14_6)),
      θ_run (Cert.InPrepIdeal.defs (F := Ideal)) (onTc (τ := Cert.InPrepIdeal.τ) (Cert.InPrepIdeal.main (F := Ideal))) ⟨m, fun _ => 0, g⟩ (fun r => ∀ c : Dev Cert.InPrepIdeal.nD,
          r.2.mem ((c.tc : Thread Cert.InPrepIdeal.nD Cert.InPrepIdeal.τ).loc Cert.InPrepIdeal.main_v14_0) = v0 c
          ∧ r.2.mem ((c.tc : Thread Cert.InPrepIdeal.nD Cert.InPrepIdeal.τ).loc Cert.InPrepIdeal.main_v14_1) = v1 c
          ∧ r.2.mem ((c.tc : Thread Cert.InPrepIdeal.nD Cert.InPrepIdeal.τ).loc Cert.InPrepIdeal.main_v14_2) = v2 c
          ∧ r.2.mem ((c.tc : Thread Cert.InPrepIdeal.nD Cert.InPrepIdeal.τ).loc Cert.InPrepIdeal.main_v14_3) = v3 c
          ∧ r.2.mem ((c.tc : Thread Cert.InPrepIdeal.nD Cert.InPrepIdeal.τ).loc Cert.InPrepIdeal.main_v14_4) = v4 c
          ∧ r.2.mem ((c.tc : Thread Cert.InPrepIdeal.nD Cert.InPrepIdeal.τ).loc Cert.InPrepIdeal.main_v14_5) = v5 c
          ∧ r.2.mem ((c.tc : Thread Cert.InPrepIdeal.nD Cert.InPrepIdeal.τ).loc Cert.InPrepIdeal.main_v14_6) = v6 c
          ∧ r.2.mem ((c.tc : Thread Cert.InPrepIdeal.nD Cert.InPrepIdeal.τ).loc Cert.InPrepIdeal.main_arg0) = m ((c.tc : Thread Cert.InPrepIdeal.nD Cert.InPrepIdeal.τ).loc Cert.InPrepIdeal.main_arg0)
          ∧ r.2.mem ((c.tc : Thread Cert.InPrepIdeal.nD Cert.InPrepIdeal.τ).loc Cert.InPrepIdeal.main_arg1) = m ((c.tc : Thread Cert.InPrepIdeal.nD Cert.InPrepIdeal.τ).loc Cert.InPrepIdeal.main_arg1)
          ∧ r.2.mem ((c.tc : Thread Cert.InPrepIdeal.nD Cert.InPrepIdeal.τ).loc Cert.InPrepIdeal.main_arg2) = m ((c.tc : Thread Cert.InPrepIdeal.nD Cert.InPrepIdeal.τ).loc Cert.InPrepIdeal.main_arg2)
          ∧ r.2.mem ((c.tc : Thread Cert.InPrepIdeal.nD Cert.InPrepIdeal.τ).loc Cert.InPrepIdeal.main_arg3) = m ((c.tc : Thread Cert.InPrepIdeal.nD Cert.InPrepIdeal.τ).loc Cert.InPrepIdeal.main_arg3)
          ∧ r.2.mem ((c.tc : Thread Cert.InPrepIdeal.nD Cert.InPrepIdeal.τ).loc Cert.InPrepIdeal.main_arg4) = m ((c.tc : Thread Cert.InPrepIdeal.nD Cert.InPrepIdeal.τ).loc Cert.InPrepIdeal.main_arg4)
          ∧ r.2.mem ((c.tc : Thread Cert.InPrepIdeal.nD Cert.InPrepIdeal.τ).loc Cert.InPrepIdeal.main_arg5) = m ((c.tc : Thread Cert.InPrepIdeal.nD Cert.InPrepIdeal.τ).loc Cert.InPrepIdeal.main_arg5)
          ∧ r.2.mem ((c.tc : Thread Cert.InPrepIdeal.nD Cert.InPrepIdeal.τ).loc Cert.InPrepIdeal.main_arg6) = m ((c.tc : Thread Cert.InPrepIdeal.nD Cert.InPrepIdeal.τ).loc Cert.InPrepIdeal.main_arg6)
          ∧ r.2.mem ((c.tc : Thread Cert.InPrepIdeal.nD Cert.InPrepIdeal.τ).loc Cert.InPrepIdeal.main_arg7) = m ((c.tc : Thread Cert.InPrepIdeal.nD Cert.InPrepIdeal.τ).loc Cert.InPrepIdeal.main_arg7)
          ∧ r.2.mem ((c.tc : Thread Cert.InPrepIdeal.nD Cert.InPrepIdeal.τ).loc Cert.InPrepIdeal.main_arg8) = m ((c.tc : Thread Cert.InPrepIdeal.nD Cert.InPrepIdeal.τ).loc Cert.InPrepIdeal.main_arg8)
          ∧ r.2.mem ((c.tc : Thread Cert.InPrepIdeal.nD Cert.InPrepIdeal.τ).loc Cert.InPrepIdeal.main_arg9) = m ((c.tc : Thread Cert.InPrepIdeal.nD Cert.InPrepIdeal.τ).loc Cert.InPrepIdeal.main_arg9)
          ∧ r.2.mem ((c.tc : Thread Cert.InPrepIdeal.nD Cert.InPrepIdeal.τ).loc Cert.InPrepIdeal.main_arg10) = m ((c.tc : Thread Cert.InPrepIdeal.nD Cert.InPrepIdeal.τ).loc Cert.InPrepIdeal.main_arg10)
          ∧ r.2.mem ((c.tc : Thread Cert.InPrepIdeal.nD Cert.InPrepIdeal.τ).loc Cert.InPrepIdeal.main_arg11) = m ((c.tc : Thread Cert.InPrepIdeal.nD Cert.InPrepIdeal.τ).loc Cert.InPrepIdeal.main_arg11)
          ∧ r.2.mem ((c.tc : Thread Cert.InPrepIdeal.nD Cert.InPrepIdeal.τ).loc Cert.InPrepIdeal.main_arg12) = m ((c.tc : Thread Cert.InPrepIdeal.nD Cert.InPrepIdeal.τ).loc Cert.InPrepIdeal.main_arg12))
      ∧ θ_run (Cert.InPrepRefIdeal.defs (F := Ideal)) (onTc (τ := Cert.InPrepRefIdeal.τ) (Cert.InPrepRefIdeal.main (F := Ideal))) ⟨m', fun _ => 0, g'⟩ (fun r => ∀ c : Dev Cert.InPrepRefIdeal.nD,
          r.2.mem ((c.tc : Thread Cert.InPrepRefIdeal.nD Cert.InPrepRefIdeal.τ).loc Cert.InPrepRefIdeal.main_v109) = v0 c
          ∧ r.2.mem ((c.tc : Thread Cert.InPrepRefIdeal.nD Cert.InPrepRefIdeal.τ).loc Cert.InPrepRefIdeal.main_v110) = v1 c
          ∧ r.2.mem ((c.tc : Thread Cert.InPrepRefIdeal.nD Cert.InPrepRefIdeal.τ).loc Cert.InPrepRefIdeal.main_v114) = v2 c
          ∧ r.2.mem ((c.tc : Thread Cert.InPrepRefIdeal.nD Cert.InPrepRefIdeal.τ).loc Cert.InPrepRefIdeal.main_v124) = v3 c
          ∧ r.2.mem ((c.tc : Thread Cert.InPrepRefIdeal.nD Cert.InPrepRefIdeal.τ).loc Cert.InPrepRefIdeal.main_v134) = v4 c
          ∧ r.2.mem ((c.tc : Thread Cert.InPrepRefIdeal.nD Cert.InPrepRefIdeal.τ).loc Cert.InPrepRefIdeal.main_v135) = v5 c
          ∧ r.2.mem ((c.tc : Thread Cert.InPrepRefIdeal.nD Cert.InPrepRefIdeal.τ).loc Cert.InPrepRefIdeal.main_v136) = v6 c
          ∧ r.2.mem ((c.tc : Thread Cert.InPrepRefIdeal.nD Cert.InPrepRefIdeal.τ).loc Cert.InPrepRefIdeal.main_arg0) = m' ((c.tc : Thread Cert.InPrepRefIdeal.nD Cert.InPrepRefIdeal.τ).loc Cert.InPrepRefIdeal.main_arg0)
          ∧ r.2.mem ((c.tc : Thread Cert.InPrepRefIdeal.nD Cert.InPrepRefIdeal.τ).loc Cert.InPrepRefIdeal.main_arg1) = m' ((c.tc : Thread Cert.InPrepRefIdeal.nD Cert.InPrepRefIdeal.τ).loc Cert.InPrepRefIdeal.main_arg1)
          ∧ r.2.mem ((c.tc : Thread Cert.InPrepRefIdeal.nD Cert.InPrepRefIdeal.τ).loc Cert.InPrepRefIdeal.main_arg2) = m' ((c.tc : Thread Cert.InPrepRefIdeal.nD Cert.InPrepRefIdeal.τ).loc Cert.InPrepRefIdeal.main_arg2)
          ∧ r.2.mem ((c.tc : Thread Cert.InPrepRefIdeal.nD Cert.InPrepRefIdeal.τ).loc Cert.InPrepRefIdeal.main_arg3) = m' ((c.tc : Thread Cert.InPrepRefIdeal.nD Cert.InPrepRefIdeal.τ).loc Cert.InPrepRefIdeal.main_arg3)
          ∧ r.2.mem ((c.tc : Thread Cert.InPrepRefIdeal.nD Cert.InPrepRefIdeal.τ).loc Cert.InPrepRefIdeal.main_arg4) = m' ((c.tc : Thread Cert.InPrepRefIdeal.nD Cert.InPrepRefIdeal.τ).loc Cert.InPrepRefIdeal.main_arg4)
          ∧ r.2.mem ((c.tc : Thread Cert.InPrepRefIdeal.nD Cert.InPrepRefIdeal.τ).loc Cert.InPrepRefIdeal.main_arg5) = m' ((c.tc : Thread Cert.InPrepRefIdeal.nD Cert.InPrepRefIdeal.τ).loc Cert.InPrepRefIdeal.main_arg5)
          ∧ r.2.mem ((c.tc : Thread Cert.InPrepRefIdeal.nD Cert.InPrepRefIdeal.τ).loc Cert.InPrepRefIdeal.main_arg6) = m' ((c.tc : Thread Cert.InPrepRefIdeal.nD Cert.InPrepRefIdeal.τ).loc Cert.InPrepRefIdeal.main_arg6)
          ∧ r.2.mem ((c.tc : Thread Cert.InPrepRefIdeal.nD Cert.InPrepRefIdeal.τ).loc Cert.InPrepRefIdeal.main_arg7) = m' ((c.tc : Thread Cert.InPrepRefIdeal.nD Cert.InPrepRefIdeal.τ).loc Cert.InPrepRefIdeal.main_arg7)
          ∧ r.2.mem ((c.tc : Thread Cert.InPrepRefIdeal.nD Cert.InPrepRefIdeal.τ).loc Cert.InPrepRefIdeal.main_arg8) = m' ((c.tc : Thread Cert.InPrepRefIdeal.nD Cert.InPrepRefIdeal.τ).loc Cert.InPrepRefIdeal.main_arg8)
          ∧ r.2.mem ((c.tc : Thread Cert.InPrepRefIdeal.nD Cert.InPrepRefIdeal.τ).loc Cert.InPrepRefIdeal.main_arg9) = m' ((c.tc : Thread Cert.InPrepRefIdeal.nD Cert.InPrepRefIdeal.τ).loc Cert.InPrepRefIdeal.main_arg9)
          ∧ r.2.mem ((c.tc : Thread Cert.InPrepRefIdeal.nD Cert.InPrepRefIdeal.τ).loc Cert.InPrepRefIdeal.main_arg10) = m' ((c.tc : Thread Cert.InPrepRefIdeal.nD Cert.InPrepRefIdeal.τ).loc Cert.InPrepRefIdeal.main_arg10)
          ∧ r.2.mem ((c.tc : Thread Cert.InPrepRefIdeal.nD Cert.InPrepRefIdeal.τ).loc Cert.InPrepRefIdeal.main_arg11) = m' ((c.tc : Thread Cert.InPrepRefIdeal.nD Cert.InPrepRefIdeal.τ).loc Cert.InPrepRefIdeal.main_arg11)
          ∧ r.2.mem ((c.tc : Thread Cert.InPrepRefIdeal.nD Cert.InPrepRefIdeal.τ).loc Cert.InPrepRefIdeal.main_arg12) = m' ((c.tc : Thread Cert.InPrepRefIdeal.nD Cert.InPrepRefIdeal.τ).loc Cert.InPrepRefIdeal.main_arg12))

def preserves_BiasTable_BiasTableIdeal : Prop :=
  True

def algebraic_BiasTableIdeal_BiasRefIdeal [hBiasTableIdeal : Cert.BiasTableIdeal.Facts] [hBiasRefIdeal : Cert.BiasRefIdeal.Facts] : Prop :=
  ∀ (m : (ℓ : Loc Cert.BiasTableIdeal.nD Cert.BiasTableIdeal.τ Cert.BiasTableIdeal.sig) → Buf (Elt Ideal) ℓ) (g : Dev Cert.BiasTableIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasTableIdeal m →
    (∀ c : Dev Cert.BiasTableIdeal.nD,
      m' ((c.tc : Thread Cert.BiasRefIdeal.nD Cert.BiasRefIdeal.τ).loc Cert.BiasRefIdeal.main_arg0) = m ((c.tc : Thread Cert.BiasTableIdeal.nD Cert.BiasTableIdeal.τ).loc Cert.BiasTableIdeal.main_arg0)) →
    ∃ (v0 : (c : Dev Cert.BiasTableIdeal.nD) → Buf (Elt Ideal) ((c.tc : Thread Cert.BiasTableIdeal.nD Cert.BiasTableIdeal.τ).loc Cert.BiasTableIdeal.main_v38)),
      θ_run (Cert.BiasTableIdeal.defs (F := Ideal)) (onTc (τ := Cert.BiasTableIdeal.τ) (Cert.BiasTableIdeal.main (F := Ideal))) ⟨m, fun _ => 0, g⟩ (fun r => ∀ c : Dev Cert.BiasTableIdeal.nD,
          r.2.mem ((c.tc : Thread Cert.BiasTableIdeal.nD Cert.BiasTableIdeal.τ).loc Cert.BiasTableIdeal.main_v38) = v0 c
          ∧ r.2.mem ((c.tc : Thread Cert.BiasTableIdeal.nD Cert.BiasTableIdeal.τ).loc Cert.BiasTableIdeal.main_arg0) = m ((c.tc : Thread Cert.BiasTableIdeal.nD Cert.BiasTableIdeal.τ).loc Cert.BiasTableIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v42) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def preserves_Mixers_MixersIdeal : Prop :=
  True

def Claim : Prop :=
  ∃ (hOutFfn : Cert.OutFfn.Facts) (hOutFfnIdeal : Cert.OutFfnIdeal.Facts) (hOutFfnRefIdeal : Cert.OutFfnRefIdeal.Facts) (hInPrep : Cert.InPrep.Facts) (hInPrepIdeal : Cert.InPrepIdeal.Facts) (hInPrepRefIdeal : Cert.InPrepRefIdeal.Facts) (hBiasTable : Cert.BiasTable.Facts) (hBiasTableIdeal : Cert.BiasTableIdeal.Facts) (hBiasRefIdeal : Cert.BiasRefIdeal.Facts) (hMixers : Cert.Mixers.Facts) (hMixersIdeal : Cert.MixersIdeal.Facts) (hPre_finite_in : Cert.Pre_finite_in.Facts),
    quiescent_OutFfn (hOutFfn := hOutFfn)
    ∧ quiescent_OutFfnIdeal (hOutFfnIdeal := hOutFfnIdeal)
    ∧ quiescent_OutFfnRefIdeal (hOutFfnRefIdeal := hOutFfnRefIdeal)
    ∧ quiescent_InPrep (hInPrep := hInPrep)
    ∧ quiescent_InPrepIdeal (hInPrepIdeal := hInPrepIdeal)
    ∧ quiescent_InPrepIdeal_pre_finite_in (hInPrepIdeal := hInPrepIdeal) (hPre_finite_in := hPre_finite_in)
    ∧ quiescent_InPrepRefIdeal (hInPrepRefIdeal := hInPrepRefIdeal)
    ∧ quiescent_InPrepRefIdeal_pre_finite_in (hInPrepRefIdeal := hInPrepRefIdeal) (hPre_finite_in := hPre_finite_in)
    ∧ quiescent_BiasTable (hBiasTable := hBiasTable)
    ∧ quiescent_BiasTableIdeal (hBiasTableIdeal := hBiasTableIdeal)
    ∧ quiescent_BiasRefIdeal (hBiasRefIdeal := hBiasRefIdeal)
    ∧ quiescent_Mixers (hMixers := hMixers)
    ∧ quiescent_MixersIdeal (hMixersIdeal := hMixersIdeal)
    ∧ preserves_OutFfn_OutFfnIdeal
    ∧ algebraic_OutFfnIdeal_OutFfnRefIdeal (hOutFfnIdeal := hOutFfnIdeal) (hOutFfnRefIdeal := hOutFfnRefIdeal)
    ∧ preserves_InPrep_InPrepIdeal
    ∧ algebraic_InPrepIdeal_InPrepRefIdeal_pre_finite_in (hInPrepIdeal := hInPrepIdeal) (hInPrepRefIdeal := hInPrepRefIdeal) (hPre_finite_in := hPre_finite_in)
    ∧ preserves_BiasTable_BiasTableIdeal
    ∧ algebraic_BiasTableIdeal_BiasRefIdeal (hBiasTableIdeal := hBiasTableIdeal) (hBiasRefIdeal := hBiasRefIdeal)
    ∧ preserves_Mixers_MixersIdeal
-- ==== Pre_finite_in.lean ====
abbrev S2x8192x1024 : Shape := ⟨3, ![2, 8192, 1024]⟩
abbrev S1024 : Shape := ⟨1, ![1024]⟩
abbrev S1024x2560 : Shape := ⟨2, ![1024, 2560]⟩
abbrev S1792 : Shape := ⟨1, ![1792]⟩
abbrev S2x512 : Shape := ⟨2, ![2, 512]⟩
abbrev S2x64x512 : Shape := ⟨3, ![2, 64, 512]⟩
abbrev S128x512 : Shape := ⟨2, ![128, 512]⟩
abbrev S512 : Shape := ⟨1, ![512]⟩
abbrev S8x64 : Shape := ⟨2, ![8, 64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2560 : S_.BroadcastsInDim S1024x2560 (![] : Fin 0 → Fin S1024x2560.rank)
  reducesTo_S1024x2560_S_d0_1 : S1024x2560.ReducesTo [0, 1] S_
  bcast_S_S1792 : S_.BroadcastsInDim S1792 (![] : Fin 0 → Fin S1792.rank)
  reducesTo_S1792_S_d0 : S1792.ReducesTo [0] S_

variable [Facts]

def fn_part1 {F : FTy → Type} [FloatOps F] (main_v13 : IVec S_ 1) (main_v16 : IVec S1792 1) : IVec S_ 1 :=
  let main_c_5 : IVec S_ 1 := constantI S_ 1 1#1
  let main_v17 : IVec S_ 1 := (fun x v => Host.reduce IntOp.andi x v reducesTo_S1792_S_d0 h_S_) main_v16 main_c_5
  let main_v18 : IVec S_ 1 := andi main_v13 main_v17
  main_v18

def fn {F : FTy → Type} [FloatOps F] (main_arg0 : FVec F S2x8192x1024 .f32) (main_arg1 : FVec F S1024 .f32) (main_arg2 : FVec F S1024x2560 .f32) (main_arg3 : FVec F S1792 .f32) (main_arg4 : FVec F S1792 .f32) (main_arg5 : FVec F S2x512 .f32) (main_arg6 : FVec F S2x64x512 .f32) (main_arg7 : FVec F S2x512 .f32) (main_arg8 : FVec F S2x64x512 .f32) (main_arg9 : FVec F S128x512 .f32) (main_arg10 : FVec F S512 .f32) (main_arg11 : FVec F S512 .f32) (main_arg12 : FVec F S8x64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2560 .f32 := Host.absf main_arg2
  let main_cst_0 : FVec F S_ .f32 := constant S_ .f32 0x7F800000#32
  let main_v5 : FVec F S1024x2560 .f32 := broadcastInDim S1024x2560 ![] bcast_S_S1024x2560 main_cst_0
  let main_v6 : IVec S1024x2560 1 := cmpf .olt main_v4 main_v5
  let main_c_1 : IVec S_ 1 := constantI S_ 1 1#1
  let main_v7 : IVec S_ 1 := (fun x v => Host.reduce IntOp.andi x v reducesTo_S1024x2560_S_d0_1 h_S_) main_v6 main_c_1
  let main_v8 : IVec S_ 1 := andi main_v3 main_v7
  let main_v9 : FVec F S1792 .f32 := Host.absf main_arg3
  let main_cst_2 : FVec F S_ .f32 := constant S_ .f32 0x7F800000#32
  let main_v10 : FVec F S1792 .f32 := broadcastInDim S1792 ![] bcast_S_S1792 main_cst_2
  let main_v11 : IVec S1792 1 := cmpf .olt main_v9 main_v10
  let main_c_3 : IVec S_ 1 := constantI S_ 1 1#1
  let main_v12 : IVec S_ 1 := (fun x v => Host.reduce IntOp.andi x v reducesTo_S1792_S_d0 h_S_) main_v11 main_c_3
  let main_v13 : IVec S_ 1 := andi main_v8 main_v12
  let main_v14 : FVec F S1792 .f32 := Host.absf main_arg4
  let main_cst_4 : FVec F S_ .f32 := constant S_ .f32 0x7F800000#32
  let main_v15 : FVec F S1792 .f32 := broadcastInDim S1792 ![] bcast_S_S1792 main_cst_4
  let main_v16 : IVec S1792 1 := cmpf .olt main_v14 main_v15
  fn_part1 (F := F) main_v13 main_v16
-- ==== OutFfn.lean ====
abbrev S2x8192x1024 : Shape := ⟨3, ![2, 8192, 1024]⟩
abbrev S2x8192x512 : Shape := ⟨3, ![2, 8192, 512]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16384x1024 : Shape := ⟨2, ![16384, 1024]⟩
abbrev S16384x512 : Shape := ⟨2, ![16384, 512]⟩
abbrev S1x512 : Shape := ⟨2, ![1, 512]⟩
abbrev S1x1024 : Shape := ⟨2, ![1, 1024]⟩
abbrev S1x5632 : Shape := ⟨2, ![1, 5632]⟩
abbrev S512x1024 : Shape := ⟨2, ![512, 1024]⟩
abbrev S512x512 : Shape := ⟨2, ![512, 512]⟩
abbrev S8x1024 : Shape := ⟨2, ![8, 1024]⟩
abbrev S8x512 : Shape := ⟨2, ![8, 512]⟩
abbrev S512x2816 : Shape := ⟨2, ![512, 2816]⟩
abbrev S528x1024 : Shape := ⟨2, ![528, 1024]⟩
abbrev S528x512 : Shape := ⟨2, ![528, 512]⟩
abbrev S256x256 : Shape := ⟨2, ![256, 256]⟩
abbrev S528x256 : Shape := ⟨2, ![528, 256]⟩
abbrev S528 : Shape := ⟨1, ![528]⟩
abbrev S528x1 : Shape := ⟨2, ![528, 1]⟩
abbrev S1024x768 : Shape := ⟨2, ![1024, 768]⟩
abbrev S528x768 : Shape := ⟨2, ![528, 768]⟩
abbrev S512x768 : Shape := ⟨2, ![512, 768]⟩
abbrev S1x768 : Shape := ⟨2, ![1, 768]⟩
abbrev S1024x512 : Shape := ⟨2, ![1024, 512]⟩

abbrev nBuf : Space → Nat
  | .hbm => 28
  | .vmem => 47
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x8192x512, .f32⟩
  | .hbm, ⟨6, _⟩ => ⟨S512, .f32⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S1024x5632, .f32⟩
  | .hbm, ⟨11, _⟩ => ⟨S3x5632, .f32⟩
  | .hbm, ⟨12, _⟩ => ⟨S5632, .f32⟩
  | .hbm, ⟨13, _⟩ => ⟨S2816x1024, .f32⟩
  | .hbm, ⟨14, _⟩ => ⟨S16384x1024, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S1x512, .f32⟩
  | .hbm, ⟨21, _⟩ => ⟨S1x512, .f32⟩
  | .hbm, ⟨22, _⟩ => ⟨S1024x1024, .bf16⟩
  | .hbm, ⟨23, _⟩ => ⟨S1x1024, .f32⟩
  | .hbm, ⟨24, _⟩ => ⟨S1024x5632, .bf16⟩
  | .hbm, ⟨25, _⟩ => ⟨S1x5632, .f32⟩
  | .hbm, ⟨26, _⟩ => ⟨S2816x1024, .bf16⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S8x1024, .f32⟩
  | .local _ .vmem, ⟨13, _⟩ => ⟨S8x1024, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | .local _ .vmem, ⟨22, _⟩ => ⟨S8x512, .f32⟩
  | .local _ .vmem, ⟨23, _⟩ => ⟨S8x512, .f32⟩
  | .local _ .vmem, ⟨24, _⟩ => ⟨S8x1024, .f32⟩
  | .local _ .vmem, ⟨25, _⟩ => ⟨S8x1024, .f32⟩
  | .local _ .vmem, ⟨26, _⟩ => ⟨S8x512, .f32⟩
  | .local _ .vmem, ⟨27, _⟩ => ⟨S8x512, .f32⟩
  | .local _ .vmem, ⟨28, _⟩ => ⟨S8x512, .f32⟩
  | .local _ .vmem, ⟨29, _⟩ => ⟨S8x512, .f32⟩
  | .local _ .vmem, ⟨30, _⟩ => ⟨S8x512, .f32⟩
  | .local _ .vmem, ⟨31, _⟩ => ⟨S8x512, .f32⟩
  | .local _ .vmem, ⟨32, _⟩ => ⟨S8x512, .f32⟩
  | .local _ .vmem, ⟨33, _⟩ => ⟨S8x512, .f32⟩
  | .local _ .vmem, ⟨34, _⟩ => ⟨S8x512, .f32⟩
  | .local _ .vmem, ⟨35, _⟩ => ⟨S8x512, .f32⟩
  | .local _ .vmem, ⟨36, _⟩ => ⟨S1x512, .f32⟩
  | .local _ .vmem, ⟨37, _⟩ => ⟨S1x512, .f32⟩
  | .local _ .vmem, ⟨38, _⟩ => ⟨S1024x1024, .bf16⟩
  | .local _ .vmem, ⟨39, _⟩ => ⟨S1x1024, .f32⟩
  | .local _ .vmem, ⟨40, _⟩ => ⟨S1024x5632, .bf16⟩
  | .local _ .vmem, ⟨41, _⟩ => ⟨S3x5632, .f32⟩
  | .local _ .vmem, ⟨42, _⟩ => ⟨S1x5632, .f32⟩
  | .local _ .vmem, ⟨43, _⟩ => ⟨S2816x1024, .bf16⟩
  | .local _ .vmem, ⟨44, _⟩ => ⟨S512x1024, .f32⟩
  | .local _ .vmem, ⟨45, _⟩ => ⟨S512x1024, .f32⟩
  | .local _ .vmem, ⟨46, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg19_0 : Ref sig .tc := ⟨.vmem, 37, rfl⟩
abbrev cc0_stg20_0 : Ref sig .tc := ⟨.vmem, 38, rfl⟩
abbrev cc0_stg21_0 : Ref sig .tc := ⟨.vmem, 39, rfl⟩
abbrev cc0_stg22_0 : Ref sig .tc := ⟨.vmem, 40, rfl⟩
abbrev cc0_stg23_0 : Ref sig .tc := ⟨.vmem, 41, rfl⟩
abbrev cc0_stg24_0 : Ref sig .tc := ⟨.vmem, 42, rfl⟩
abbrev cc0_stg25_0 : Ref sig .tc := ⟨.vmem, 43, rfl⟩
abbrev cc0_stg26_0 : Ref sig .tc := ⟨.vmem, 44, rfl⟩
abbrev cc0_stg26_1 : Ref sig .tc := ⟨.vmem, 45, rfl⟩
abbrev cc0_scratch0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem19_0 : DmaSem sig := 37
abbrev cc0_sem20_0 : DmaSem sig := 38
abbrev cc0_sem21_0 : DmaSem sig := 39
abbrev cc0_sem22_0 : DmaSem sig := 40
abbrev cc0_sem23_0 : DmaSem sig := 41
abbrev cc0_sem24_0 : DmaSem sig := 42
abbrev cc0_sem25_0 : DmaSem sig := 43
abbrev cc0_sem26_0 : DmaSem sig := 44
abbrev cc0_sem26_1 : DmaSem sig := 45

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x5632 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S3x5632 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x5632 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S2816x1024 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S512x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== OutFfnRefIdeal.lean ====
abbrev S2x8192x1024 : Shape := ⟨3, ![2, 8192, 1024]⟩
abbrev S2x8192x512 : Shape := ⟨3, ![2, 8192, 512]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x8192x8x64 : Shape := ⟨4, ![2, 8192, 8, 64]⟩
abbrev S_ : Shape := ⟨0, ![]⟩
abbrev S2x8192x8 : Shape := ⟨3, ![2, 8192, 8]⟩
abbrev S2x8192x8x1 : Shape := ⟨4, ![2, 8192, 8, 1]⟩
abbrev S1x1x512 : Shape := ⟨3, ![1, 1, 512]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S16384x1024 : Shape := ⟨2, ![16384, 1024]⟩

abbrev nBuf : Space → Nat
  | .hbm => 112
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x512, .f32⟩
  | .hbm, ⟨5, _⟩ => ⟨S2x8192x512, .f32⟩
  | .hbm, ⟨6, _⟩ => ⟨S512, .f32⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S1024x5632, .f32⟩
  | .hbm, ⟨11, _⟩ => ⟨S3x5632, .f32⟩
  | .hbm, ⟨12, _⟩ => ⟨S5632, .f32⟩
  | .hbm, ⟨13, _⟩ => ⟨S2816x1024, .f32⟩
  | .hbm, ⟨14, _⟩ => ⟨S2x8192x512, .f32⟩
  | .hbm, ⟨15, _⟩ => ⟨S2x8192x8x64, .f32⟩
  | .hbm, ⟨16, _⟩ => ⟨S_, .f32⟩
  | .hbm, ⟨17, _⟩ => ⟨S2x8192x8, .f32⟩
  | .hbm, ⟨18, _⟩ => ⟨S2x8192x8x1, .f32⟩
  | .hbm, ⟨19, _⟩ => ⟨S_, .f32⟩
  | .hbm, ⟨20, _⟩ => ⟨S2x8192x8x1, .f32⟩
  | .hbm, ⟨21, _⟩ => ⟨S2x8192x8x1, .f32⟩
  | .hbm, ⟨22, _⟩ => ⟨S2x8192x8x64, .f32⟩
  | .hbm, ⟨23, _⟩ => ⟨S2x8192x8x64, .f32⟩
  | .hbm, ⟨24, _⟩ => ⟨S2x8192x8x64, .f32⟩
  | .hbm, ⟨25, _⟩ => ⟨S_, .f32⟩
  | .hbm, ⟨26, _⟩ => ⟨S2x8192x8, .f32⟩
  | .hbm, ⟨27, _⟩ => ⟨S2x8192x8x1, .f32⟩
  | .hbm, ⟨28, _⟩ => ⟨S_, .f32⟩
  | .hbm, ⟨29, _⟩ => ⟨S2x8192x8x1, .f32⟩
  | .hbm, ⟨30, _⟩ => ⟨S2x8192x8x1, .f32⟩
  | .hbm, ⟨31, _⟩ => ⟨S2x8192x8x64, .f32⟩
  | .hbm, ⟨32, _⟩ => ⟨S2x8192x8x64, .f32⟩
  | .hbm, ⟨33, _⟩ => ⟨S_, .f32⟩
  | .hbm, ⟨34, _⟩ => ⟨S2x8192x8x1, .f32⟩
  | .hbm, ⟨35, _⟩ => ⟨S2x8192x8x1, .f32⟩
  | .hbm, ⟨36, _⟩ => ⟨S2x8192x8x1, .f32⟩
  | .hbm, ⟨37, _⟩ => ⟨S2x8192x8x64, .f32⟩
  | .hbm, ⟨38, _⟩ => ⟨S2x8192x8x64, .f32⟩
  | .hbm, ⟨39, _⟩ => ⟨S2x8192x512, .f32⟩
  | .hbm, ⟨40, _⟩ => ⟨S1x1x512, .f32⟩
  | .hbm, ⟨41, _⟩ => ⟨S2x8192x512, .f32⟩
  | .hbm, ⟨42, _⟩ => ⟨S2x8192x512, .f32⟩
  | .hbm, ⟨43, _⟩ => ⟨S1x1x512, .f32⟩
  | .hbm, ⟨44, _⟩ => ⟨S2x8192x512, .f32⟩
  | .hbm, ⟨45, _⟩ => ⟨S2x8192x512, .f32⟩
  | .hbm, ⟨46, _⟩ => ⟨S2x8192x512, .f32⟩
  | .hbm, ⟨47, _⟩ => ⟨S2x8192x512, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S_, .f32⟩
  | .hbm, ⟨53, _⟩ => ⟨S2x8192, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S2x8192x1, .f32⟩
  | .hbm, ⟨62, _⟩ => ⟨S2x8192x1024, .f32⟩
  | .hbm, ⟨63, _⟩ => ⟨S2x8192x1024, .f32⟩
  | .hbm, ⟨64, _⟩ => ⟨S1x1x1024, .f32⟩
  | .hbm, ⟨65, _⟩ => ⟨S2x8192x1024, .f32⟩
  | .hbm, ⟨66, _⟩ => ⟨S2x8192x1024, .f32⟩
  | .hbm, ⟨67, _⟩ => ⟨S2x8192x5632, .f32⟩
  | .hbm, ⟨68, _⟩ => ⟨S_, .i32⟩
  | .hbm, ⟨69, _⟩ => ⟨S_, .f32⟩
  | .hbm, ⟨70, _⟩ => ⟨S2x8194x5632, .f32⟩
  | .hbm, ⟨71, _⟩ => ⟨S2x8192x5632, .f32⟩
  | .hbm, ⟨72, _⟩ => ⟨S1x5632, .f32⟩
  | .hbm, ⟨73, _⟩ => ⟨S5632, .f32⟩
  | .hbm, ⟨74, _⟩ => ⟨S1x1x5632, .f32⟩
  | .hbm, ⟨75, _⟩ => ⟨S2x8192x5632, .f32⟩
  | .hbm, ⟨76, _⟩ => ⟨S2x8192x5632, .f32⟩
  | .hbm, ⟨77, _⟩ => ⟨S_, .f32⟩
  | .hbm, ⟨78, _⟩ => ⟨S2x8192x5632, .f32⟩
  | .hbm, ⟨79, _⟩ => ⟨S2x8192x5632, .f32⟩
  | .hbm, ⟨80, _⟩ => ⟨S2x8192x5632, .f32⟩
  | .hbm, ⟨81, _⟩ => ⟨S1x5632, .f32⟩
  | .hbm, ⟨82, _⟩ => ⟨S5632, .f32⟩
  | .hbm, ⟨83, _⟩ => ⟨S1x1x5632, .f32⟩
  | .hbm, ⟨84, _⟩ => ⟨S2x8192x5632, .f32⟩
  | .hbm, ⟨85, _⟩ => ⟨S2x8192x5632, .f32⟩
  | .hbm, ⟨86, _⟩ => ⟨S2x8192x5632, .f32⟩
  | .hbm, ⟨87, _⟩ => ⟨S2x8192x5632, .f32⟩
  | .hbm, ⟨88, _⟩ => ⟨S1x5632, .f32⟩
  | .hbm, ⟨89, _⟩ => ⟨S5632, .f32⟩
  | .hbm, ⟨90, _⟩ => ⟨S1x1x5632, .f32⟩
  | .hbm, ⟨91, _⟩ => ⟨S2x8192x5632, .f32⟩
  | .hbm, ⟨92, _⟩ => ⟨S2x8192x5632, .f32⟩
  | .hbm, ⟨93, _⟩ => ⟨S2x8192x5632, .f32⟩
  | .hbm, ⟨94, _⟩ => ⟨S1x1x5632, .f32⟩
  | .hbm, ⟨95, _⟩ => ⟨S2x8192x5632, .f32⟩
  | .hbm, ⟨96, _⟩ => ⟨S2x8192x5632, .f32⟩
  | .hbm, ⟨97, _⟩ => ⟨S2x8192x2816, .f32⟩
  | .hbm, ⟨98, _⟩ => ⟨S2x8192x2816, .f32⟩
  | .hbm, ⟨99, _⟩ => ⟨S2x8192x2816, .f32⟩
  | .hbm, ⟨100, _⟩ => ⟨S2x8192x2816, .f32⟩
  | .hbm, ⟨101, _⟩ => ⟨S_, .f32⟩
  | .hbm, ⟨102, _⟩ => ⟨S2x8192x2816, .f32⟩
  | .hbm, ⟨103, _⟩ => ⟨S2x8192x2816, .f32⟩
  | .hbm, ⟨104, _⟩ => ⟨S_, .f32⟩
  | .hbm, ⟨105, _⟩ => ⟨S2x8192x2816, .f32⟩
  | .hbm, ⟨106, _⟩ => ⟨S2x8192x2816, .f32⟩
  | .hbm, ⟨107, _⟩ => ⟨S2x8192x2816, .f32⟩
  | .hbm, ⟨108, _⟩ => ⟨S2x8192x2816, .f32⟩
  | .hbm, ⟨109, _⟩ => ⟨S2x8192x1024, .f32⟩
  | .hbm, ⟨110, _⟩ => ⟨S2x8192x1024, .f32⟩
  | .hbm, ⟨111, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c : Ref sig .tc := ⟨.hbm, 68, rfl⟩
abbrev main_call0_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_7 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩

abbrev nD : Nat := 1
abbrev τ : Topo := Topo.v7x

variable {F : FTy → Type} [FloatOps F]
-- ==== InPrep.lean ====
abbrev S2x8192x1024 : Shape := ⟨3, ![2, 8192, 1024]⟩
abbrev S1024 : Shape := ⟨1, ![1024]⟩
abbrev S1024x2560 : Shape := ⟨2, ![1024, 2560]⟩
abbrev S1792 : Shape := ⟨1, ![1792]⟩
abbrev S2x512 : Shape := ⟨2, ![2, 512]⟩
abbrev S2x64x512 : Shape := ⟨3, ![2, 64, 512]⟩
abbrev S128x512 : Shape := ⟨2, ![128, 512]⟩
abbrev S512 : Shape := ⟨1, ![512]⟩
abbrev S8x64 : Shape := ⟨2, ![8, 64]⟩
abbrev S16384x1024 : Shape := ⟨2, ![16384, 1024]⟩
abbrev S_ : Shape := ⟨0, ![]⟩
abbrev S2x128x512 : Shape := ⟨3, ![2, 128, 512]⟩
abbrev S1x1024 : Shape := ⟨2, ![1, 1024]⟩
abbrev S1x1792 : Shape := ⟨2, ![1, 1792]⟩
abbrev S1x512 : Shape := ⟨2, ![1, 512]⟩
abbrev S16384x512 : Shape := ⟨2, ![16384, 512]⟩
abbrev S16384x256 : Shape := ⟨2, ![16384, 256]⟩
abbrev S16384x1536 : Shape := ⟨2, ![16384, 1536]⟩
abbrev S512x1024 : Shape := ⟨2, ![512, 1024]⟩
abbrev S16x1024 : Shape := ⟨2, ![16, 1024]⟩
abbrev S512x512 : Shape := ⟨2, ![512, 512]⟩
abbrev S512x256 : Shape := ⟨2, ![512, 256]⟩
abbrev S512x1536 : Shape := ⟨2, ![512, 1536]⟩
abbrev S512x1 : Shape := ⟨2, ![512, 1]⟩
abbrev S1024x512 : Shape := ⟨2, ![1024, 512]⟩
abbrev S1024x256 : Shape := ⟨2, ![1024, 256]⟩
abbrev S16 : Shape := ⟨1, ![16]⟩
abbrev S16x1 : Shape := ⟨2, ![16, 1]⟩
abbrev S544x1024 : Shape := ⟨2, ![544, 1024]⟩
abbrev S1024x1792 : Shape := ⟨2, ![1024, 1792]⟩
abbrev S544x256 : Shape := ⟨2, ![544, 256]⟩
abbrev S1x256 : Shape := ⟨2, ![1, 256]⟩
abbrev S512x128 : Shape := ⟨2, ![512, 128]⟩
abbrev S544x512 : Shape := ⟨2, ![544, 512]⟩
abbrev S256x256 : Shape := ⟨2, ![256, 256]⟩
abbrev S1x128x512 : Shape := ⟨3, ![1, 128, 512]⟩

abbrev nBuf : Space → Nat
  | .hbm => 35
  | .vmem => 33
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2560, .f32⟩
  | .hbm, ⟨3, _⟩ => ⟨S1792, .f32⟩
  | .hbm, ⟨4, _⟩ => ⟨S1792, .f32⟩
  | .hbm, ⟨5, _⟩ => ⟨S2x512, .f32⟩
  | .hbm, ⟨6, _⟩ => ⟨S2x64x512, .f32⟩
  | .hbm, ⟨7, _⟩ => ⟨S2x512, .f32⟩
  | .hbm, ⟨8, _⟩ => ⟨S2x64x512, .f32⟩
  | .hbm, ⟨9, _⟩ => ⟨S128x512, .f32⟩
  | .hbm, ⟨10, _⟩ => ⟨S512, .f32⟩
  | .hbm, ⟨11, _⟩ => ⟨S512, .f32⟩
  | .hbm, ⟨12, _⟩ => ⟨S8x64, .f32⟩
  | .hbm, ⟨13, _⟩ => ⟨S16384x1024, .f32⟩
  | .hbm, ⟨14, _⟩ => ⟨S512, .f32⟩
  | .hbm, ⟨15, _⟩ => ⟨S_, .f32⟩
  | .hbm, ⟨16, _⟩ => ⟨S2x64x512, .f32⟩
  | .hbm, ⟨17, _⟩ => ⟨S2x128x512, .f32⟩
  | .hbm, ⟨18, _⟩ => ⟨S2x128x512, .bf16⟩
  | .hbm, ⟨19, _⟩ => ⟨S2x128x512, .f32⟩
  | .hbm, ⟨20, _⟩ => ⟨S2x128x512, .bf16⟩
  | .hbm, ⟨21, _⟩ => ⟨S1x1024, .f32⟩
  | .hbm, ⟨22, _⟩ => ⟨S1x1792, .f32⟩
  | .hbm, ⟨23, _⟩ => ⟨S1x1792, .f32⟩
  | .hbm, ⟨24, _⟩ => ⟨S128x512, .bf16⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S16384x512, .f32⟩
  | .hbm, ⟨29, _⟩ => ⟨S16384x256, .f32⟩
  | .hbm, ⟨30, _⟩ => ⟨S16384x1536, .f32⟩
  | .hbm, ⟨31, _⟩ => ⟨S16384x1536, .f32⟩
  | .hbm, ⟨32, _⟩ => ⟨S16384x1536, .f32⟩
  | .hbm, ⟨33, _⟩ => ⟨S16384x512, .f32⟩
  | .hbm, ⟨34, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1024x2560, .f32⟩
  | .local _ .vmem, ⟨8, _⟩ => ⟨S1x1792, .f32⟩
  | .local _ .vmem, ⟨9, _⟩ => ⟨S1x1792, .f32⟩
  | .local _ .vmem, ⟨10, _⟩ => ⟨S2x512, .f32⟩
  | .local _ .vmem, ⟨11, _⟩ => ⟨S2x128x512, .bf16⟩
  | .local _ .vmem, ⟨12, _⟩ => ⟨S2x512, .f32⟩
  | .local _ .vmem, ⟨13, _⟩ => ⟨S2x128x512, .bf16⟩
  | .local _ .vmem, ⟨14, _⟩ => ⟨S128x512, .bf16⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .f32⟩
  | .local _ .vmem, ⟨19, _⟩ => ⟨S512x512, .f32⟩
  | .local _ .vmem, ⟨20, _⟩ => ⟨S512x256, .f32⟩
  | .local _ .vmem, ⟨21, _⟩ => ⟨S512x256, .f32⟩
  | .local _ .vmem, ⟨22, _⟩ => ⟨S512x1536, .f32⟩
  | .local _ .vmem, ⟨23, _⟩ => ⟨S512x1536, .f32⟩
  | .local _ .vmem, ⟨24, _⟩ => ⟨S512x1536, .f32⟩
  | .local _ .vmem, ⟨25, _⟩ => ⟨S512x1536, .f32⟩
  | .local _ .vmem, ⟨26, _⟩ => ⟨S512x1536, .f32⟩
  | .local _ .vmem, ⟨27, _⟩ => ⟨S512x1536, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S1024x2560, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v14_3 : Ref sig .tc := ⟨.hbm, 31, rfl⟩
abbrev main_v14_4 : Ref sig .tc := ⟨.hbm, 32, rfl⟩
abbrev main_v14_5 : Ref sig .tc := ⟨.hbm, 33, rfl⟩
abbrev main_v14_6 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1792 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1536 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1536 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1536 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== InPrepRefIdeal.lean ====
abbrev S2x8192x1024 : Shape := ⟨3, ![2, 8192, 1024]⟩
abbrev S1024 : Shape := ⟨1, ![1024]⟩
abbrev S1024x2560 : Shape := ⟨2, ![1024, 2560]⟩
abbrev S1792 : Shape := ⟨1, ![1792]⟩
abbrev S2x512 : Shape := ⟨2, ![2, 512]⟩
abbrev S2x64x512 : Shape := ⟨3, ![2, 64, 512]⟩
abbrev S128x512 : Shape := ⟨2, ![128, 512]⟩
abbrev S512 : Shape := ⟨1, ![512]⟩
abbrev S8x64 : Shape := ⟨2, ![8, 64]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2560 : Shape := ⟨3, ![2, 8192, 2560]⟩
abbrev S2x8192x1792 : Shape := ⟨3, ![2, 8192, 1792]⟩
abbrev S2x8192x512 : Shape := ⟨3, ![2, 8192, 512]⟩
abbrev S2x8192x256 : Shape := ⟨3, ![2, 8192, 256]⟩
abbrev S2x8193x1792 : Shape := ⟨3, ![2, 8193, 1792]⟩
abbrev S1x1x1792 : Shape := ⟨3, ![1, 1, 1792]⟩
abbrev S2x8192x64 : Shape := ⟨3, ![2, 8192, 64]⟩
abbrev S2x8192x128 : Shape := ⟨3, ![2, 8192, 128]⟩
abbrev S2x1x1x512 : Shape := ⟨4, ![2, 1, 1, 512]⟩
abbrev S2x512x2x8192 : Shape := ⟨4, ![2, 512, 2, 8192]⟩
abbrev S2x2x8192x512 : Shape := ⟨4, ![2, 2, 8192, 512]⟩
abbrev S1x1x512 : Shape := ⟨3, ![1, 1, 512]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x2x8192x512 : Shape := ⟨4, ![1, 2, 8192, 512]⟩
abbrev S1x1x1x512 : Shape := ⟨4, ![1, 1, 1, 512]⟩
abbrev S2x2x8192x8x64 : Shape := ⟨5, ![2, 2, 8192, 8, 64]⟩
abbrev S1x2x8192x8x64 : Shape := ⟨5, ![1, 2, 8192, 8, 64]⟩
abbrev S1x1x8x64 : Shape := ⟨4, ![1, 1, 8, 64]⟩
abbrev S16384x512 : Shape := ⟨2, ![16384, 512]⟩
abbrev S16384x256 : Shape := ⟨2, ![16384, 256]⟩
abbrev S16384x1536 : Shape := ⟨2, ![16384, 1536]⟩

abbrev nBuf : Space → Nat
  | .hbm => 180
  | .vmem => 0
  | .smem => 0
  | _ => 0

abbrev hbmTy0_0 (i : Nat) : BufTy := match i % 128 with
  | 0 => ⟨S2x8192x1024, .f32⟩
  | 1 => ⟨S1024, .f32⟩
  | 2 => ⟨S1024x2560, .f32⟩
  | 3 => ⟨S1792, .f32⟩
  | 4 => ⟨S1792, .f32⟩
  | 5 => ⟨S2x512, .f32⟩
  | 6 => ⟨S2x64x512, .f32⟩
  | 7 => ⟨S2x512, .f32⟩
  | 8 => ⟨S2x64x512, .f32⟩
  | 9 => ⟨S128x512, .f32⟩
  | 10 => ⟨S512, .f32⟩
  | 11 => ⟨S512, .f32⟩
  | 12 => ⟨S8x64, .f32⟩
  | 13 => ⟨S2x8192x1024, .f32⟩
  | 14 => ⟨S_, .f32⟩
  | 15 => ⟨S2x8192, .f32⟩
  | 16 => ⟨S2x8192x1, .f32⟩
  | 17 => ⟨S_, .f32⟩
  | 18 => ⟨S2x8192x1, .f32⟩
  | 19 => ⟨S2x8192x1, .f32⟩
  | 20 => ⟨S_, .f32⟩
  | 21 => ⟨S2x8192x1, .f32⟩
  | 22 => ⟨S2x8192x1, .f32⟩
  | 23 => ⟨S2x8192x1, .f32⟩
  | 24 => ⟨S2x8192x1024, .f32⟩
  | 25 => ⟨S2x8192x1024, .f32⟩
  | 26 => ⟨S1x1x1024, .f32⟩
  | 27 => ⟨S2x8192x1024, .f32⟩
  | 28 => ⟨S2x8192x1024, .f32⟩
  | 29 => ⟨S2x8192x2560, .f32⟩
  | 30 => ⟨S2x8192x1792, .f32⟩
  | 31 => ⟨S2x8192x512, .f32⟩
  | 32 => ⟨S2x8192x256, .f32⟩
  | 33 => ⟨S_, .i32⟩
  | 34 => ⟨S_, .f32⟩
  | 35 => ⟨S2x8193x1792, .f32⟩
  | 36 => ⟨S2x8192x1792, .f32⟩
  | 37 => ⟨S_, .i32⟩
  | 38 => ⟨S_, .f32⟩
  | 39 => ⟨S2x8193x1792, .f32⟩
  | 40 => ⟨S2x8192x1792, .f32⟩
  | 41 => ⟨S2x8192x1792, .f32⟩
  | 42 => ⟨S1x1x1792, .f32⟩
  | 43 => ⟨S2x8192x1792, .f32⟩
  | 44 => ⟨S2x8192x1792, .f32⟩
  | 45 => ⟨S2x8192x1792, .f32⟩
  | 46 => ⟨S2x8192x1792, .f32⟩
  | 47 => ⟨S1x1x1792, .f32⟩
  | 48 => ⟨S2x8192x1792, .f32⟩
  | 49 => ⟨S2x8192x1792, .f32⟩
  | 50 => ⟨S2x8192x1792, .f32⟩
  | 51 => ⟨S2x8192x512, .f32⟩
  | 52 => ⟨S2x8192x512, .f32⟩
  | 53 => ⟨S2x8192x512, .f32⟩
  | 54 => ⟨S2x8192x64, .f32⟩
  | 55 => ⟨S2x8192x64, .f32⟩
  | 56 => ⟨S2x8192x128, .f32⟩
  | 57 => ⟨S2x1x1x512, .f32⟩
  | 58 => ⟨S2x8192x64, .f32⟩
  | 59 => ⟨S2x512x2x8192, .f32⟩
  | 60 => ⟨S2x2x8192x512, .f32⟩
  | 61 => ⟨S2x2x8192x512, .f32⟩
  | 62 => ⟨S2x2x8192x512, .f32⟩
  | 63 => ⟨S2x2x8192x512, .f32⟩
  | 64 => ⟨S_, .f32⟩
  | 65 => ⟨S2x2x8192x512, .f32⟩
  | 66 => ⟨S2x2x8192x512, .f32⟩
  | 67 => ⟨S2x2x8192x512, .f32⟩
  | 68 => ⟨S2x2x8192x512, .f32⟩
  | 69 => ⟨S2x2x8192x512, .i1⟩
  | 70 => ⟨S2x2x8192x512, .f32⟩
  | 71 => ⟨S2x2x8192x512, .f32⟩
  | 72 => ⟨S2x2x8192x512, .f32⟩
  | 73 => ⟨S2x2x8192x512, .f32⟩
  | 74 => ⟨S2x2x8192x512, .f32⟩
  | 75 => ⟨S2x2x8192x512, .f32⟩
  | 76 => ⟨S2x2x8192x512, .f32⟩
  | 77 => ⟨S2x2x8192x512, .f32⟩
  | 78 => ⟨S2x2x8192x512, .f32⟩
  | 79 => ⟨S2x2x8192x512, .f32⟩
  | 80 => ⟨S_, .f32⟩
  | 81 => ⟨S2x2x8192x512, .f32⟩
  | 82 => ⟨S2x2x8192x512, .f32⟩
  | 83 => ⟨S2x1x1x512, .f32⟩
  | 84 => ⟨S2x512x2x8192, .f32⟩
  | 85 => ⟨S2x2x8192x512, .f32⟩
  | 86 => ⟨S2x2x8192x512, .f32⟩
  | 87 => ⟨S2x2x8192x512, .f32⟩
  | 88 => ⟨S2x2x8192x512, .f32⟩
  | 89 => ⟨S2x2x8192x512, .f32⟩
  | 90 => ⟨S_, .f32⟩
  | 91 => ⟨S2x2x8192x512, .f32⟩
  | 92 => ⟨S2x2x8192x512, .f32⟩
  | 93 => ⟨S_, .f32⟩
  | 94 => ⟨S2x2x8192x512, .f32⟩
  | 95 => ⟨S2x2x8192x512, .f32⟩
  | 96 => ⟨S2x8192x128, .f32⟩
  | 97 => ⟨S2x8192x128, .f32⟩
  | 98 => ⟨S_, .f32⟩
  | 99 => ⟨S2x8192x128, .f32⟩
  | 100 => ⟨S2x8192x128, .f32⟩
  | 101 => ⟨S_, .f32⟩
  | 102 => ⟨S2x8192x128, .f32⟩
  | 103 => ⟨S2x8192x128, .f32⟩
  | 104 => ⟨S2x8192x512, .f32⟩
  | 105 => ⟨S1x1x512, .f32⟩
  | 106 => ⟨S2x8192x512, .f32⟩
  | 107 => ⟨S2x8192x512, .f32⟩
  | 108 => ⟨S2x8192x8x64, .f32⟩
  | 109 => ⟨S2x8192x8x64, .f32⟩
  | 110 => ⟨S_, .f32⟩
  | 111 => ⟨S2x8192x8, .f32⟩
  | 112 => ⟨S2x8192x8x1, .f32⟩
  | 113 => ⟨S_, .f32⟩
  | 114 => ⟨S2x8192x8x1, .f32⟩
  | 115 => ⟨S2x8192x8x1, .f32⟩
  | 116 => ⟨S2x8192x8x1, .f32⟩
  | 117 => ⟨S2x8192x8x64, .f32⟩
  | 118 => ⟨S2x8192x8x64, .f32⟩
  | 119 => ⟨S1x2x8192x512, .f32⟩
  | 120 => ⟨S_, .f32⟩
  | 121 => ⟨S2x2x8192x512, .f32⟩
  | 122 => ⟨S2x2x8192x512, .f32⟩
  | 123 => ⟨S1x1x1x512, .f32⟩
  | 124 => ⟨S2x2x8192x512, .f32⟩
  | 125 => ⟨S2x2x8192x512, .f32⟩
  | 126 => ⟨S_, .f32⟩
  | 127 => ⟨S2x2x8192x512, .f32⟩
  | _ => ⟨S2x8192x1024, .f32⟩

abbrev hbmTy0_1 (i : Nat) : BufTy := match i % 128 with
  | 0 => ⟨S2x2x8192x512, .f32⟩
  | 1 => ⟨S2x2x8192x512, .f32⟩
  | 2 => ⟨S2x2x8192x512, .f32⟩
  | 3 => ⟨S2x2x8192x8x64, .f32⟩
  | 4 => ⟨S1x2x8192x8x64, .f32⟩
  | 5 => ⟨S2x2x8192x8x64, .f32⟩
  | 6 => ⟨S2x2x8192x8x64, .f32⟩
  | 7 => ⟨S2x8192x8x64, .f32⟩
  | 8 => ⟨S1x2x8192x512, .f32⟩
  | 9 => ⟨S2x8192x512, .f32⟩
  | 10 => ⟨S1x2x8192x512, .f32⟩
  | 11 => ⟨S2x8192x512, .f32⟩
  | 12 => ⟨S2x8192x512, .f32⟩
  | 13 => ⟨S2x8192x8x64, .f32⟩
  | 14 => ⟨S2x8192x8x64, .f32⟩
  | 15 => ⟨S1x1x8x64, .f32⟩
  | 16 => ⟨S2x8192x8x64, .f32⟩
  | 17 => ⟨S2x8192x8x64, .f32⟩
  | 18 => ⟨S_, .f32⟩
  | 19 => ⟨S2x8192x8, .f32⟩
  | 20 => ⟨S2x8192x8x1, .f32⟩
  | 21 => ⟨S2x8192x8x64, .f32⟩
  | 22 => ⟨S2x8192x8x64, .f32⟩
  | 23 => ⟨S2x8192x8x64, .f32⟩
  | 24 => ⟨S16384x512, .f32⟩
  | 25 => ⟨S16384x256, .f32⟩
  | 26 => ⟨S16384x512, .f32⟩
  | 27 => ⟨S16384x512, .f32⟩
  | 28 => ⟨S16384x512, .f32⟩
  | 29 => ⟨S16384x1536, .f32⟩
  | 30 => ⟨S1x2x8192x512, .f32⟩
  | 31 => ⟨S2x8192x512, .f32⟩
  | 32 => ⟨S1x2x8192x512, .f32⟩
  | 33 => ⟨S2x8192x512, .f32⟩
  | 34 => ⟨S1x2x8192x8x64, .f32⟩
  | 35 => ⟨S2x8192x8x64, .f32⟩
  | 36 => ⟨S16384x512, .f32⟩
  | 37 => ⟨S16384x512, .f32⟩
  | 38 => ⟨S16384x512, .f32⟩
  | 39 => ⟨S16384x1536, .f32⟩
  | 40 => ⟨S1x2x8192x512, .f32⟩
  | 41 => ⟨S2x8192x512, .f32⟩
  | 42 => ⟨S1x2x8192x512, .f32⟩
  | 43 => ⟨S2x8192x512, .f32⟩
  | 44 => ⟨S1x2x8192x8x64, .f32⟩
  | 45 => ⟨S2x8192x8x64, .f32⟩
  | 46 => ⟨S16384x512, .f32⟩
  | 47 => ⟨S16384x512, .f32⟩
  | 48 => ⟨S16384x512, .f32⟩
  | 49 => ⟨S16384x1536, .f32⟩
  | 50 => ⟨S16384x512, .f32⟩
  | 51 => ⟨S16384x512, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_call0_v0 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_call1_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_3 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_4 : Ref sig .tc := ⟨.hbm, 90, rfl⟩
abbrev main_v56 : Ref sig .tc := ⟨.hbm, 91, rfl⟩
abbrev main_v57 : Ref sig .tc := ⟨.hbm, 92, rfl⟩
abbrev main_cst_5 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_6 : Ref sig .tc := ⟨.hbm, 98, rfl⟩
abbrev main_v62 : Ref sig .tc := ⟨.hbm, 99, rfl⟩
abbrev main_v63 : Ref sig .tc := ⟨.hbm, 100, rfl⟩
abbrev main_cst_7 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_cst_8 : Ref sig .tc := ⟨.hbm, 110, rfl⟩
abbrev main_v72 : Ref sig .tc := ⟨.hbm, 111, rfl⟩
abbrev main_v73 : Ref sig .tc := ⟨.hbm, 112, rfl⟩
abbrev main_cst_9 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_10 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_11 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_12 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩

abbrev nD : Nat := 1
abbrev τ : Topo := Topo.v7x

variable {F : FTy → Type} [FloatOps F]
-- ==== BiasTable.lean ====
abbrev S32x8 : Shape := ⟨2, ![32, 8]⟩
abbrev S512 : Shape := ⟨1, ![512]⟩
abbrev S_ : Shape := ⟨0, ![]⟩
abbrev S512x1 : Shape := ⟨2, ![512, 1]⟩
abbrev S512x8 : Shape := ⟨2, ![512, 8]⟩
abbrev S8x512 : Shape := ⟨2, ![8, 512]⟩
abbrev S8x1x512 : Shape := ⟨3, ![8, 1, 512]⟩
abbrev S8x128x384 : Shape := ⟨3, ![8, 128, 384]⟩
abbrev S1x1x512 : Shape := ⟨3, ![1, 1, 512]⟩
abbrev S1x128x384 : Shape := ⟨3, ![1, 128, 384]⟩
abbrev S1x512 : Shape := ⟨2, ![1, 512]⟩
abbrev S128x512 : Shape := ⟨2, ![128, 512]⟩
abbrev S128x384 : Shape := ⟨2, ![128, 384]⟩

abbrev nBuf : Space → Nat
  | .hbm => 56
  | .vmem => 4
  | .smem => 0
  | _ => 0

abbrev bufTy : (tb : Table) → Fin (tcTables nBuf tb) → BufTy
  | .hbm, ⟨0, _⟩ => ⟨S32x8, .f32⟩
  | .hbm, ⟨1, _⟩ => ⟨S512, .i32⟩
  | .hbm, ⟨2, _⟩ => ⟨S_, .i32⟩
  | .hbm, ⟨3, _⟩ => ⟨S512, .i32⟩
  | .hbm, ⟨4, _⟩ => ⟨S512, .i32⟩
  | .hbm, ⟨5, _⟩ => ⟨S_, .i32⟩
  | .hbm, ⟨6, _⟩ => ⟨S512, .i32⟩
  | .hbm, ⟨7, _⟩ => ⟨S512, .i1⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S_, .i32⟩
  | .hbm, ⟨33, _⟩ => ⟨S512, .i32⟩
  | .hbm, ⟨34, _⟩ => ⟨S512, .i32⟩
  | .hbm, ⟨35, _⟩ => ⟨S_, .i32⟩
  | .hbm, ⟨36, _⟩ => ⟨S512, .i32⟩
  | .hbm, ⟨37, _⟩ => ⟨S512, .i1⟩
  | .hbm, ⟨38, _⟩ => ⟨S512, .i32⟩
  | .hbm, ⟨39, _⟩ => ⟨S512, .i32⟩
  | .hbm, ⟨40, _⟩ => ⟨S512, .i32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S512x8, .f32⟩
  | .hbm, ⟨50, _⟩ => ⟨S8x512, .f32⟩
  | .hbm, ⟨51, _⟩ => ⟨S_, .f32⟩
  | .hbm, ⟨52, _⟩ => ⟨S8x512, .f32⟩
  | .hbm, ⟨53, _⟩ => ⟨S8x512, .f32⟩
  | .hbm, ⟨54, _⟩ => ⟨S8x1x512, .f32⟩
  | .hbm, ⟨55, _⟩ => ⟨S8x128x384, .f32⟩
  | .local _ .vmem, ⟨0, _⟩ => ⟨S1x1x512, .f32⟩
  | .local _ .vmem, ⟨1, _⟩ => ⟨S1x1x512, .f32⟩
  | .local _ .vmem, ⟨2, _⟩ => ⟨S1x128x384, .f32⟩
  | .local _ .vmem, ⟨3, _⟩ => ⟨S1x128x384, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_6 : Ref sig .tc := ⟨.hbm, 29, rfl⟩
abbrev main_v18 : Ref sig .tc := ⟨.hbm, 30, rfl⟩
abbrev main_v19 : Ref sig .tc := ⟨.hbm, 31, rfl⟩
abbrev main_c_7 : Ref sig .tc := ⟨.hbm, 32, rfl⟩
abbrev main_v20 : Ref sig .tc := ⟨.hbm, 33, rfl⟩
abbrev main_v21 : Ref sig .tc := ⟨.hbm, 34, rfl⟩
abbrev main_c_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_9 : Ref sig .tc := ⟨.hbm, 41, rfl⟩
abbrev main_v27 : Ref sig .tc := ⟨.hbm, 42, rfl⟩
abbrev main_v28 : Ref sig .tc := ⟨.hbm, 43, rfl⟩
abbrev main_c_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BiasRefIdeal.lean ====
abbrev S32x8 : Shape := ⟨2, ![32, 8]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩

abbrev nBuf : Space → Nat
  | .hbm => 60
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S128, .i32⟩
  | .hbm, ⟨2, _⟩ => ⟨S128x1, .i32⟩
  | .hbm, ⟨3, _⟩ => ⟨S384, .i32⟩
  | .hbm, ⟨4, _⟩ => ⟨S1x384, .i32⟩
  | .hbm, ⟨5, _⟩ => ⟨S_, .i32⟩
  | .hbm, ⟨6, _⟩ => ⟨S1x384, .i32⟩
  | .hbm, ⟨7, _⟩ => ⟨S1x384, .i32⟩
  | .hbm, ⟨8, _⟩ => ⟨S128x384, .i32⟩
  | .hbm, ⟨9, _⟩ => ⟨S128x384, .i32⟩
  | .hbm, ⟨10, _⟩ => ⟨S128x384, .i32⟩
  | .hbm, ⟨11, _⟩ => ⟨S_, .i32⟩
  | .hbm, ⟨12, _⟩ => ⟨S128x384, .i32⟩
  | .hbm, ⟨13, _⟩ => ⟨S128x384, .i1⟩
  | .hbm, ⟨14, _⟩ => ⟨S_, .i32⟩
  | .hbm, ⟨15, _⟩ => ⟨S_, .i32⟩
  | .hbm, ⟨16, _⟩ => ⟨S128x384, .i32⟩
  | .hbm, ⟨17, _⟩ => ⟨S128x384, .i32⟩
  | .hbm, ⟨18, _⟩ => ⟨S128x384, .i32⟩
  | .hbm, ⟨19, _⟩ => ⟨S128x384, .i32⟩
  | .hbm, ⟨20, _⟩ => ⟨S_, .i32⟩
  | .hbm, ⟨21, _⟩ => ⟨S128x384, .i32⟩
  | .hbm, ⟨22, _⟩ => ⟨S128x384, .i32⟩
  | .hbm, ⟨23, _⟩ => ⟨S128x384, .f32⟩
  | .hbm, ⟨24, _⟩ => ⟨S_, .f32⟩
  | .hbm, ⟨25, _⟩ => ⟨S128x384, .f32⟩
  | .hbm, ⟨26, _⟩ => ⟨S128x384, .f32⟩
  | .hbm, ⟨27, _⟩ => ⟨S128x384, .f32⟩
  | .hbm, ⟨28, _⟩ => ⟨S_, .f32⟩
  | .hbm, ⟨29, _⟩ => ⟨S128x384, .f32⟩
  | .hbm, ⟨30, _⟩ => ⟨S128x384, .f32⟩
  | .hbm, ⟨31, _⟩ => ⟨S_, .f32⟩
  | .hbm, ⟨32, _⟩ => ⟨S128x384, .f32⟩
  | .hbm, ⟨33, _⟩ => ⟨S128x384, .f32⟩
  | .hbm, ⟨34, _⟩ => ⟨S128x384, .i32⟩
  | .hbm, ⟨35, _⟩ => ⟨S_, .i32⟩
  | .hbm, ⟨36, _⟩ => ⟨S128x384, .i32⟩
  | .hbm, ⟨37, _⟩ => ⟨S128x384, .i32⟩
  | .hbm, ⟨38, _⟩ => ⟨S_, .i32⟩
  | .hbm, ⟨39, _⟩ => ⟨S128x384, .i32⟩
  | .hbm, ⟨40, _⟩ => ⟨S128x384, .i32⟩
  | .hbm, ⟨41, _⟩ => ⟨S_, .i32⟩
  | .hbm, ⟨42, _⟩ => ⟨S128x384, .i32⟩
  | .hbm, ⟨43, _⟩ => ⟨S128x384, .i1⟩
  | .hbm, ⟨44, _⟩ => ⟨S128x384, .i32⟩
  | .hbm, ⟨45, _⟩ => ⟨S128x384, .i32⟩
  | .hbm, ⟨46, _⟩ => ⟨S128x384, .i32⟩
  | .hbm, ⟨47, _⟩ => ⟨S_, .i32⟩
  | .hbm, ⟨48, _⟩ => ⟨S128x384, .i32⟩
  | .hbm, ⟨49, _⟩ => ⟨S128x384, .i1⟩
  | .hbm, ⟨50, _⟩ => ⟨S_, .i32⟩
  | .hbm, ⟨51, _⟩ => ⟨S128x384, .i32⟩
  | .hbm, ⟨52, _⟩ => ⟨S128x384, .i32⟩
  | .hbm, ⟨53, _⟩ => ⟨S128x384, .i32⟩
  | .hbm, ⟨54, _⟩ => ⟨S128x384x1, .i32⟩
  | .hbm, ⟨55, _⟩ => ⟨S128x384x8, .f32⟩
  | .hbm, ⟨56, _⟩ => ⟨S8x128x384, .f32⟩
  | .hbm, ⟨57, _⟩ => ⟨S_, .f32⟩
  | .hbm, ⟨58, _⟩ => ⟨S8x128x384, .f32⟩
  | .hbm, ⟨59, _⟩ => ⟨S8x128x384, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_c_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Mixers.lean ====
abbrev S2x8192x1536 : Shape := ⟨3, ![2, 8192, 1536]⟩
abbrev S2x8192x512 : Shape := ⟨3, ![2, 8192, 512]⟩
abbrev S2x8192x256 : Shape := ⟨3, ![2, 8192, 256]⟩
abbrev S64 : Shape := ⟨1, ![64]⟩
abbrev S8x128x384 : Shape := ⟨3, ![8, 128, 384]⟩
abbrev S8 : Shape := ⟨1, ![8]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x128x1536 : Shape := ⟨3, ![2, 128, 1536]⟩
abbrev S1x256x512 : Shape := ⟨3, ![1, 256, 512]⟩
abbrev S1x128x256 : Shape := ⟨3, ![1, 128, 256]⟩
abbrev S1x256x256 : Shape := ⟨3, ![1, 256, 256]⟩
abbrev S2x128x512 : Shape := ⟨3, ![2, 128, 512]⟩
abbrev S2x2x4x128x128 : Shape := ⟨5, ![2, 2, 4, 128, 128]⟩
abbrev S128x256 : Shape := ⟨2, ![128, 256]⟩
abbrev S64x128 : Shape := ⟨2, ![64, 128]⟩
abbrev S128x128 : Shape := ⟨2, ![128, 128]⟩
abbrev S64x64 : Shape := ⟨2, ![64, 64]⟩
abbrev S1x64x512 : Shape := ⟨3, ![1, 64, 512]⟩
abbrev S64x512 : Shape := ⟨2, ![64, 512]⟩
abbrev S512 : Shape := ⟨1, ![512]⟩
abbrev S1x512 : Shape := ⟨2, ![1, 512]⟩
abbrev S256x128 : Shape := ⟨2, ![256, 128]⟩
abbrev S384x128 : Shape := ⟨2, ![384, 128]⟩
abbrev S128x384 : Shape := ⟨2, ![128, 384]⟩
abbrev S1x128x128 : Shape := ⟨3, ![1, 128, 128]⟩
abbrev S768x128 : Shape := ⟨2, ![768, 128]⟩
abbrev S256x768 : Shape := ⟨2, ![256, 768]⟩
abbrev S1x128x384 : Shape := ⟨3, ![1, 128, 384]⟩
abbrev S1 : Shape := ⟨1, ![1]⟩
abbrev S128x1 : Shape := ⟨2, ![128, 1]⟩
abbrev S1024x384 : Shape := ⟨2, ![1024, 384]⟩
abbrev S1024x128 : Shape := ⟨2, ![1024, 128]⟩
abbrev S64x256 : Shape := ⟨2, ![64, 256]⟩
abbrev S1x1x1x128x128 : Shape := ⟨5, ![1, 1, 1, 128, 128]⟩
abbrev S192x128 : Shape := ⟨2, ![192, 128]⟩
abbrev S1x64x128 : Shape := ⟨3, ![1, 64, 128]⟩

abbrev nBuf : Space → Nat
  | .hbm => 20
  | .vmem => 26
  | .smem => 1
  | _ => 0

abbrev bufTy : (tb : Table) → Fin (tcTables nBuf tb) → BufTy
  | .hbm, ⟨0, _⟩ => ⟨S2x8192x1536, .f32⟩
  | .hbm, ⟨1, _⟩ => ⟨S2x8192x1536, .f32⟩
  | .hbm, ⟨2, _⟩ => ⟨S2x8192x1536, .f32⟩
  | .hbm, ⟨3, _⟩ => ⟨S2x8192x512, .f32⟩
  | .hbm, ⟨4, _⟩ => ⟨S2x8192x256, .f32⟩
  | .hbm, ⟨5, _⟩ => ⟨S64, .f32⟩
  | .hbm, ⟨6, _⟩ => ⟨S64, .f32⟩
  | .hbm, ⟨7, _⟩ => ⟨S8x128x384, .f32⟩
  | .hbm, ⟨8, _⟩ => ⟨S8, .f32⟩
  | .hbm, ⟨9, _⟩ => ⟨S1x64, .f32⟩
  | .hbm, ⟨10, _⟩ => ⟨S2x64, .f32⟩
  | .hbm, ⟨11, _⟩ => ⟨S128, .f32⟩
  | .hbm, ⟨12, _⟩ => ⟨S1x128, .f32⟩
  | .hbm, ⟨13, _⟩ => ⟨S1x64, .f32⟩
  | .hbm, ⟨14, _⟩ => ⟨S2x64, .f32⟩
  | .hbm, ⟨15, _⟩ => ⟨S128, .f32⟩
  | .hbm, ⟨16, _⟩ => ⟨S1x128, .f32⟩
  | .hbm, ⟨17, _⟩ => ⟨S2x8192x512, .f32⟩
  | .hbm, ⟨18, _⟩ => ⟨S2x8192x512, .f32⟩
  | .hbm, ⟨19, _⟩ => ⟨S2x8192x512, .f32⟩
  | .local _ .vmem, ⟨0, _⟩ => ⟨S2x128x1536, .f32⟩
  | .local _ .vmem, ⟨1, _⟩ => ⟨S2x128x1536, .f32⟩
  | .local _ .vmem, ⟨2, _⟩ => ⟨S2x128x1536, .f32⟩
  | .local _ .vmem, ⟨3, _⟩ => ⟨S2x128x1536, .f32⟩
  | .local _ .vmem, ⟨4, _⟩ => ⟨S2x128x1536, .f32⟩
  | .local _ .vmem, ⟨5, _⟩ => ⟨S2x128x1536, .f32⟩
  | .local _ .vmem, ⟨6, _⟩ => ⟨S2x128x1536, .f32⟩
  | .local _ .vmem, ⟨7, _⟩ => ⟨S2x128x1536, .f32⟩
  | .local _ .vmem, ⟨8, _⟩ => ⟨S1x256x512, .f32⟩
  | .local _ .vmem, ⟨9, _⟩ => ⟨S1x256x512, .f32⟩
  | .local _ .vmem, ⟨10, _⟩ => ⟨S1x128x256, .f32⟩
  | .local _ .vmem, ⟨11, _⟩ => ⟨S1x128x256, .f32⟩
  | .local _ .vmem, ⟨12, _⟩ => ⟨S1x256x256, .f32⟩
  | .local _ .vmem, ⟨13, _⟩ => ⟨S1x256x256, .f32⟩
  | .local _ .vmem, ⟨14, _⟩ => ⟨S1x128x256, .f32⟩
  | .local _ .vmem, ⟨15, _⟩ => ⟨S1x128x256, .f32⟩
  | .local _ .vmem, ⟨16, _⟩ => ⟨S1x128, .f32⟩
  | .local _ .vmem, ⟨17, _⟩ => ⟨S1x128, .f32⟩
  | .local _ .vmem, ⟨18, _⟩ => ⟨S8x128x384, .f32⟩
  | .local _ .vmem, ⟨19, _⟩ => ⟨S2x128x512, .f32⟩
  | .local _ .vmem, ⟨20, _⟩ => ⟨S2x128x512, .f32⟩
  | .local _ .vmem, ⟨21, _⟩ => ⟨S2x128x512, .f32⟩
  | .local _ .vmem, ⟨22, _⟩ => ⟨S2x128x512, .f32⟩
  | .local _ .vmem, ⟨23, _⟩ => ⟨S1x256x512, .f32⟩
  | .local _ .vmem, ⟨24, _⟩ => ⟨S1x256x512, .f32⟩
  | .local _ .vmem, ⟨25, _⟩ => ⟨S2x2x4x128x128, .f32⟩
  | .local _ .smem, ⟨0, _⟩ => ⟨S8, .f32⟩
  | _, _ => ⟨S2x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_stg11_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.muli v26 c2_i32
  let c1_i32_10 : BitVec 32 := 1#32
  let v28 : BitVec 32 := Scalar.subi v27 c1_i32_10
  let c0_i32_11 : BitVec 32 := 0#32
  let v29 : BitVec 32 := Scalar.maxsi v28 c0_i32_11
  let c0_i32_12 : BitVec 32 := 0#32
  let c0_i32_13 : BitVec 32 := 0#32
  ![v16.toNat, v29.toNat, c0_i32_12.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c2_i32 : BitVec 32 := 2#32
  let v28 : BitVec 32 := Scalar.muli v27 c2_i32
  let c63_i32 : BitVec 32 := 63#32
  let v29 : BitVec 32 := Scalar.minsi v28 c63_i32
  let c0_i32_11 : BitVec 32 := 0#32
  let c0_i32_12 : BitVec 32 := 0#32
  ![v16.toNat, v29.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S2x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Proof.OutFfnFrame.lean ====
module

public import proofs.«01_k».proof.Proof.OutFfnRun
public import Idealize.ShloMosaic.Lib.Claim

/-! The launch of the body's run: the pipeline's proof data, the body's obligation, the run and the frame. -/

@[expose] public section

set_option maxRecDepth 16384
set_option maxHeartbeats 4000000

noncomputable section

namespace Cert.Proof.OutFfn

open Cert.OutFfn Cert.OutFfn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (26): nothing reads what the kernel leaves in them, so nothing
    of it is named. -/
def forgets0 : Fin 27 → Bool := fun w => w.val == 26

/-- The proof data of the pipeline on core `c`: each input's buffer at its block and the output's at the run's contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, h⟩ => Pipeline.Dat.unnamed (cfg := cfg0) ⟨26, h⟩ t
    | ⟨_ + 27, h⟩ => absurd h (Nat.not_lt.2 (Nat.le_add_left _ _))
  Φ _ := Pipeline.ΦA spec0 c
  q w := Pipeline.shareOf spec0 w
  owed _ := 0

/-- The proof data's arrays are those at the region's entry. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ (∃ d, owns (c : Thread nD τ) (ms0_26 t) fullShare d))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [HS0]; · iexact HS0
  iintro ⟨H0, H1, H2, H3, H4, H5, H6, H7, H8, H9, H10, H11, H12, H13, H14, H15, H16, H17, H18, H19, H20, H21, H22, H23, H24, H25, H26, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 26), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Where the arrays end as the proof data says, the argument arrays end unchanged. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      (Pipeline.RDat.FramePost.arr_in h c 23 rfl).trans ((hA c 23).trans (V_main_arg11 m c)),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of_forget m ρ (fun c => (dats m 0 c).toRForget forgets0) (A_eq m) (run_main m ρ)

/-- The frame: the argument arrays end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Proof.OutFfn

end
-- ==== Proof.OutFfnIdealRun.lean ====
module

public import proofs.«01_k».proof.Proof.Gen.OutFfnIdeal.Frame.Runs

/-! The body's run, taken over from the generated certificate for a larger budget: the body has 28 buffers. -/

@[expose] public section

set_option maxRecDepth 16384
set_option maxHeartbeats 8000000

noncomputable section

namespace Cert.Proof.OutFfnIdeal

open Cert.OutFfnIdeal Cert.OutFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run on whole staging buffers: what its stores leave in the output's buffer and in the activation scratch, with the proof. -/
noncomputable def kernelRun0_A (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S8x1024 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x1024 .f32) (harg13 : arg13.IsWhole) (arg14 : Memref sig .tc .vmem S8x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1024x5632 .bf16) (harg23 : arg23.IsWhole) (arg24 : Memref sig .tc .vmem S3x5632 .f32) (harg24 : arg24.IsWhole) (arg25 : Memref sig .tc .vmem S1x5632 .f32) (harg25 : arg25.IsWhole) (arg26 : Memref sig .tc .vmem S2816x1024 .bf16) (harg26 : arg26.IsWhole) (arg27 : Memref sig .tc .vmem S512x1024 .f32) (harg27 : arg27.IsWhole) (arg28 : Memref sig .tc .vmem S512x2816 .bf16) (harg28 : arg28.IsWhole)
    (x0 : Vec F S512x1024 .f32) (x1 : Vec F S512x512 .f32) (x2 : Vec F S512x512 .f32) (x3 : Vec F S512x512 .f32) (x4 : Vec F S512x512 .f32) (x5 : Vec F S512x512 .f32) (x6 : Vec F S8x1024 .f32) (x7 : Vec F S8x512 .f32) (x8 : Vec F S8x512 .f32) (x9 : Vec F S8x512 .f32) (x10 : Vec F S8x512 .f32) (x11 : Vec F S8x512 .f32) (x12 : Vec F S8x1024 .f32) (x13 : Vec F S8x512 .f32) (x14 : Vec F S8x512 .f32) (x15 : Vec F S8x512 .f32) (x16 : Vec F S8x512 .f32) (x17 : Vec F S8x512 .f32) (x18 : Vec F S1x512 .f32) (x19 : Vec F S1x512 .f32) (x20 : Vec F S1024x1024 .bf16) (x21 : Vec F S1x1024 .f32) (x22 : Vec F S1024x5632 .bf16) (x23 : Vec F S3x5632 .f32) (x24 : Vec F S1x5632 .f32) (x25 : Vec F S2816x1024 .bf16) :
    Σ' (L26 : List (View.Piece (Elt F) S512x1024 .f32)), { LT0 : List (View.Piece (Elt F) S512x2816 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f LT0)) -∗ K ⟨⟩))
          ⊢ wp frame (wpE (defs₀ (F := F)) Variants.none c none) E (cc0_out_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, fun E K => ?run⟩
  case run =>
    simp only [cc0_out_ffn_eq_skeleton]; unfold cc0_out_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]; · iexists _; iexact H26
    iexists _; iexact HS0

end Cert.Proof.OutFfnIdeal

end
-- ==== Proof.OutFfnIdealFrame.lean ====
module

public import proofs.«01_k».proof.Proof.OutFfnIdealRun
public import Idealize.ShloMosaic.Lib.Claim

/-! The launch of the body's run: the pipeline's proof data, the body's obligation, the run and the frame. -/

@[expose] public section

set_option maxRecDepth 16384
set_option maxHeartbeats 4000000

noncomputable section

namespace Cert.Proof.OutFfnIdeal

open Cert.OutFfnIdeal Cert.OutFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's one store into the output covers its block. -/
theorem cover0_A_26 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S8x1024 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x1024 .f32) (harg13 : arg13.IsWhole) (arg14 : Memref sig .tc .vmem S8x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1024x5632 .bf16) (harg23 : arg23.IsWhole) (arg24 : Memref sig .tc .vmem S3x5632 .f32) (harg24 : arg24.IsWhole) (arg25 : Memref sig .tc .vmem S1x5632 .f32) (harg25 : arg25.IsWhole) (arg26 : Memref sig .tc .vmem S2816x1024 .bf16) (harg26 : arg26.IsWhole) (arg27 : Memref sig .tc .vmem S512x1024 .f32) (harg27 : arg27.IsWhole) (arg28 : Memref sig .tc .vmem S512x2816 .bf16) (harg28 : arg28.IsWhole)
    (x0 : Vec F S512x1024 .f32) (x1 : Vec F S512x512 .f32) (x2 : Vec F S512x512 .f32) (x3 : Vec F S512x512 .f32) (x4 : Vec F S512x512 .f32) (x5 : Vec F S512x512 .f32) (x6 : Vec F S8x1024 .f32) (x7 : Vec F S8x512 .f32) (x8 : Vec F S8x512 .f32) (x9 : Vec F S8x512 .f32) (x10 : Vec F S8x512 .f32) (x11 : Vec F S8x512 .f32) (x12 : Vec F S8x1024 .f32) (x13 : Vec F S8x512 .f32) (x14 : Vec F S8x512 .f32) (x15 : Vec F S8x512 .f32) (x16 : Vec F S8x512 .f32) (x17 : Vec F S8x512 .f32) (x18 : Vec F S1x512 .f32) (x19 : Vec F S1x512 .f32) (x20 : Vec F S1024x1024 .bf16) (x21 : Vec F S1x1024 .f32) (x22 : Vec F S1024x5632 .bf16) (x23 : Vec F S3x5632 .f32) (x24 : Vec F S1x5632 .f32) (x25 : Vec F S2816x1024 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25).1 S512x1024.size (by sl_kernel_rfl) y

/-- What the run leaves in output 26's staging buffer: its pieces read back over junk. -/
def out0_A_26 (c : Dev nD) (i : grid0.Coords) (arg1 : Memref sig .tc .vmem S512x1024 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S8x1024 .f32) (harg7 : arg7.IsWhole) (arg8 : Memref sig .tc .vmem S8x512 .f32) (harg8 : arg8.IsWhole) (arg9 : Memref sig .tc .vmem S8x512 .f32) (harg9 : arg9.IsWhole) (arg10 : Memref sig .tc .vmem S8x512 .f32) (harg10 : arg10.IsWhole) (arg11 : Memref sig .tc .vmem S8x512 .f32) (harg11 : arg11.IsWhole) (arg12 : Memref sig .tc .vmem S8x512 .f32) (harg12 : arg12.IsWhole) (arg13 : Memref sig .tc .vmem S8x1024 .f32) (harg13 : arg13.IsWhole) (arg14 : Memref sig .tc .vmem S8x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S1x1024 .f32) (harg22 : arg22.IsWhole) (arg23 : Memref sig .tc .vmem S1024x5632 .bf16) (harg23 : arg23.IsWhole) (arg24 : Memref sig .tc .vmem S3x5632 .f32) (harg24 : arg24.IsWhole) (arg25 : Memref sig .tc .vmem S1x5632 .f32) (harg25 : arg25.IsWhole) (arg26 : Memref sig .tc .vmem S2816x1024 .bf16) (harg26 : arg26.IsWhole) (arg27 : Memref sig .tc .vmem S512x1024 .f32) (harg27 : arg27.IsWhole) (arg28 : Memref sig .tc .vmem S512x2816 .bf16) (harg28 : arg28.IsWhole)
    (x0 : Vec F S512x1024 .f32) (x1 : Vec F S512x512 .f32) (x2 : Vec F S512x512 .f32) (x3 : Vec F S512x512 .f32) (x4 : Vec F S512x512 .f32) (x5 : Vec F S512x512 .f32) (x6 : Vec F S8x1024 .f32) (x7 : Vec F S8x512 .f32) (x8 : Vec F S8x512 .f32) (x9 : Vec F S8x512 .f32) (x10 : Vec F S8x512 .f32) (x11 : Vec F S8x512 .f32) (x12 : Vec F S8x1024 .f32) (x13 : Vec F S8x512 .f32) (x14 : Vec F S8x512 .f32) (x15 : Vec F S8x512 .f32) (x16 : Vec F S8x512 .f32) (x17 : Vec F S8x512 .f32) (x18 : Vec F S1x512 .f32) (x19 : Vec F S1x512 .f32) (x20 : Vec F S1024x1024 .bf16) (x21 : Vec F S1x1024 .f32) (x22 : Vec F S1024x5632 .bf16) (x23 : Vec F S3x5632 .f32) (x24 : Vec F S1x5632 .f32) (x25 : Vec F S2816x1024 .bf16) : Vec F S512x1024 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18 x19 x20 x21 x22 x23 x24 x25).1)

/-! ## What the outputs hold after each point -/

/-- What the outputs' staging buffers hold after the body at point `t`: the run's contents at
    the point's memrefs and input blocks. -/
def outsAt0 (c : Dev nD) (t : Fin cfg0.N) : Vec F S512x1024 .f32 :=
  out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)

/-! ## The pipeline's proof data -/

/-- The proof data of the pipeline on core `c`: each input's buffer at its block and the output's at the run's contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => (outsAt0 m c t)
    | ⟨_ + 27, h⟩ => absurd h (Nat.not_lt.2 (Nat.le_add_left _ _))
  Φ _ := Pipeline.ΦA spec0 c
  q w := Pipeline.shareOf spec0 w
  owed _ := 0

/-- The proof data's arrays are those at the region's entry. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m 0 c).Φ t.castSucc = Pipeline.ΦA spec0 c from rfl, PhiA0_eq]
  unfold outsAt0
  unfold out0_A_26
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  isplitl [HS0]; · iexact HS0
  iintro ⟨H0, H1, H2, H3, H4, H5, H6, H7, H8, H9, H10, H11, H12, H13, H14, H15, H16, H17, H18, H19, H20, H21, H22, H23, H24, H25, ⟨%e26, H26⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  unfold owns; iexists _; isplitr
  swap; · iexact H26
  ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame: the argument arrays end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Proof.OutFfnIdeal

end
-- ==== Proof.HeadNorm.lean ====
module

public import Idealize.ShloMosaic.Lib.Pointwise
public import Idealize.ShloMosaic.Lib.IdealHost
public import Idealize.ShloMosaic.Lib.WordCmp

/-! The normalisation of one 64-wide head over the extended reals: the reference's mean, and the kernel's mean, which adds
    the sum of what a split of the values leaves over (zero for finite values). -/

@[expose] public section

noncomputable section

namespace Cert.Proof

open Idealize.ShloMosaic

/-- A sum with a summand `⊥` is `⊥`. -/
theorem sum_eq_bot {ι : Type} [Fintype ι] (f : ι → EReal) (i : ι) (h : f i = ⊥) : ∑ j, f j = ⊥ := by
  classical
  rw [← Finset.add_sum_erase _ _ (Finset.mem_univ i), h, EReal.bot_add]

/-- A sum without a summand `⊥` is not `⊥`. -/
theorem sum_ne_bot {ι : Type} (s : Finset ι) (f : ι → EReal) (h : ∀ j, f j ≠ ⊥) : ∑ j ∈ s, f j ≠ ⊥ :=
  Finset.sum_induction f (fun x => x ≠ ⊥) (fun a b ha hb => by simp [EReal.add_eq_bot_iff, ha, hb]) (by simp)
    (fun j _ => h j)

/-- A sum with a summand `⊤` and none `⊥` is `⊤`. -/
theorem sum_eq_top {ι : Type} [Fintype ι] (f : ι → EReal) (i : ι) (h : f i = ⊤) (hb : ∀ j, f j ≠ ⊥) : ∑ j, f j = ⊤ := by
  classical
  rw [← Finset.add_sum_erase _ _ (Finset.mem_univ i), h, EReal.top_add_of_ne_bot (sum_ne_bot _ f hb)]

/-- A sum with an infinite summand is infinite. -/
theorem sum_infinite {ι : Type} [Fintype ι] (f : ι → EReal) (i : ι) (h : f i = ⊤ ∨ f i = ⊥) :
    ∑ j, f j = ⊤ ∨ ∑ j, f j = ⊥ := by
  by_cases hb : ∃ j, f j = ⊥
  · obtain ⟨j, hj⟩ := hb; exact .inr (sum_eq_bot f j hj)
  · push Not at hb
    rcases h with h | h
    · exact .inl (sum_eq_top f i h hb)
    · exact absurd h (hb i)

/-- What is left of an infinite mean is infinite … -/
theorem sub_infinite (x mu : EReal) (h : mu = ⊤ ∨ mu = ⊥) : x - mu = ⊤ ∨ x - mu = ⊥ := by
  rcases h with rfl | rfl
  · right; rw [sub_eq_add_neg, EReal.neg_top, EReal.add_bot]
  · induction x with
    | bot => right; rw [sub_eq_add_neg, EReal.bot_add]
    | top => left; simp [sub_eq_add_neg]
    | coe r => left; rw [sub_eq_add_neg, EReal.neg_bot, EReal.coe_add_top]

/-- … and its square is `⊤`. -/
theorem sq_infinite (x : EReal) (h : x = ⊤ ∨ x = ⊥) : x * x = ⊤ := by
  rcases h with rfl | rfl <;> simp

/-- A positive real multiple of an infinity. -/
theorem infinite_mul (x : EReal) (r : ℝ) (hr : 0 < r) (h : x = ⊤ ∨ x = ⊥) : x * (r : EReal) = ⊤ ∨ x * (r : EReal) = ⊥ := by
  rcases h with rfl | rfl
  · left; exact EReal.top_mul_coe_of_pos hr
  · right; exact EReal.bot_mul_coe_of_pos hr

/-- With an infinite mean the normalised value is 0. -/
theorem norm_infinite {ι : Type} [Fintype ι] (y : ι → EReal) (mu : EReal) (r e : ℝ) (hr : 0 < r) (s : ι)
    (h : mu = ⊤ ∨ mu = ⊥) :
    (y s - mu) * Ideal.rsqrt ((∑ j, (y j - mu) * (y j - mu)) * (r : EReal) + (e : EReal)) = 0 := by
  have hs : ∑ j, (y j - mu) * (y j - mu) = ⊤ :=
    sum_eq_top _ s (sq_infinite _ (sub_infinite _ _ h)) fun j => by rw [sq_infinite _ (sub_infinite _ _ h)]; simp
  rw [hs, EReal.top_mul_coe_of_pos hr, EReal.top_add_coe]
  exact mul_zero _

/-- One head normalised, the mean a multiple of the sum. -/
def headNorm (r e : ℝ) (y : Fin 64 → EReal) (s : Fin 64) : EReal :=
  (y s - (∑ j, y j) * (r : EReal)) * Ideal.rsqrt ((∑ j, (y j - (∑ j, y j) * (r : EReal)) * (y j - (∑ j, y j) * (r : EReal))) * (r : EReal) + (e : EReal))

/-- The kernel's form: to the sum is added the sum of the differences `y - y`. -/
theorem headNorm_split (r e : ℝ) (hr : 0 < r) (y : Fin 64 → EReal) (s : Fin 64) (mu : EReal)
    (hmu : mu = (∑ j, y j + ∑ j, (y j - y j)) * (r : EReal)) :
    (y s - mu) * Ideal.rsqrt ((∑ j, (y j - mu) * (y j - mu)) * (r : EReal) + (e : EReal)) = headNorm r e y s := by
  by_cases h : ∃ j, y j = ⊤ ∨ y j = ⊥
  · obtain ⟨j, hj⟩ := h
    have h0 : ∑ j, (y j - y j) = ⊥ := sum_eq_bot _ j (by rcases hj with hj | hj <;> simp [hj, sub_eq_add_neg])
    have h1 : mu = ⊤ ∨ mu = ⊥ := by
      rw [hmu, h0, EReal.add_bot]; exact infinite_mul _ r hr (.inr rfl)
    rw [norm_infinite y mu r e hr s h1]
    exact (norm_infinite y _ r e hr s (infinite_mul _ r hr (sum_infinite y j hj))).symm
  · push Not at h
    have h0 : ∑ j, (y j - y j) = 0 := Finset.sum_eq_zero fun j _ => EReal.sub_self (h j).1 (h j).2
    have h1 : mu = (∑ j, y j) * (r : EReal) := by rw [hmu, h0, add_zero]
    rw [h1]; rfl

/-- A division by a nonzero real is the product with its inverse. -/
theorem div_real (x : EReal) (r : ℝ) (hr : r ≠ 0) : Ideal.div x (r : EReal) = x * ((1 / r : ℝ) : EReal) := Ideal.div_coe hr x

/-- The head of a row that column `c` belongs to. -/
def headOf (y : Fin 512 → EReal) (c : Fin 512) (s : Fin 64) : EReal := y ⟨64 * (c.val / 64) + s.val, by omega⟩

/-- A row of eight heads, each normalised. -/
def rowNorm (r e : ℝ) (y : Fin 512 → EReal) (c : Fin 512) : EReal :=
  headNorm r e (headOf y c) ⟨c.val % 64, Nat.mod_lt _ (by decide)⟩

theorem headOf_self (y : Fin 512 → EReal) (c : Fin 512) : headOf y c ⟨c.val % 64, Nat.mod_lt _ (by decide)⟩ = y c :=
  congrArg y (Fin.ext (Nat.div_add_mod c.val 64))

/-- A sum over 256 columns against the 0/1 mask of the columns of `c`'s head is the sum over that head. -/
theorem sum_mask (f : Fin 256 → EReal) (c : Fin 256) :
    ∑ x : Fin 256, f x * (if x.val / 64 = c.val / 64 then (1 : EReal) else 0)
      = ∑ s : Fin 64, f ⟨64 * (c.val / 64) + s.val, by omega⟩ := by
  simp only [mul_ite, mul_one, mul_zero]
  rw [← Finset.sum_filter]
  symm
  refine Finset.sum_bij (fun s _ => (⟨64 * (c.val / 64) + s.val, by omega⟩ : Fin 256)) ?_ ?_ ?_ ?_
  · intro s _; simp only [Finset.mem_filter, Finset.mem_univ, true_and]; omega
  · intro s _ s' _ h; simp only [Fin.mk.injEq] at h; exact Fin.ext (by omega)
  · intro x hx
    simp only [Finset.mem_filter, Finset.mem_univ, true_and] at hx
    exact ⟨⟨x.val % 64, by omega⟩, Finset.mem_univ _, Fin.ext (by show 64 * (c.val / 64) + x.val % 64 = x.val; omega)⟩
  · intro s _; rfl

/-- Half a row (four heads) normalised with means taken by products with the 0/1 mask of the heads. -/
theorem half_norm (r e : ℝ) (hr : 0 < r) (f : Fin 256 → EReal) (m : Fin 256 → Fin 256 → EReal)
    (hm : ∀ x c : Fin 256, m x c = if x.val / 64 = c.val / 64 then (1 : EReal) else 0) (M : Fin 256 → EReal)
    (hM : ∀ x, M x = (∑ z, f z * m z x + ∑ z, (f z - f z) * m z x) * (r : EReal)) (c : Fin 256) :
    (f c - M c) * Ideal.rsqrt ((∑ x, (f x - M x) * (f x - M x) * m x c) * (r : EReal) + (e : EReal))
      = headNorm r e (fun s => f ⟨64 * (c.val / 64) + s.val, by omega⟩) ⟨c.val % 64, Nat.mod_lt _ (by decide)⟩ := by
  simp only [hm] at hM ⊢
  have hmu : ∀ x : Fin 256, x.val / 64 = c.val / 64 → M x
      = (∑ s : Fin 64, f ⟨64 * (c.val / 64) + s.val, by omega⟩
          + ∑ s : Fin 64, (f ⟨64 * (c.val / 64) + s.val, by omega⟩ - f ⟨64 * (c.val / 64) + s.val, by omega⟩)) * (r : EReal) := by
    intro x hx
    rw [hM, sum_mask f x, sum_mask (fun z => f z - f z) x]
    simp only [hx]
  have hc : f c = f ⟨64 * (c.val / 64) + c.val % 64, by omega⟩ := congrArg f (Fin.ext (Nat.div_add_mod c.val 64).symm)
  have hq : ∀ s : Fin 64, M ⟨64 * (c.val / 64) + s.val, by omega⟩ = M c := fun s => by
    rw [hmu c rfl]
    exact hmu ⟨64 * (c.val / 64) + s.val, by omega⟩ (by show (64 * (c.val / 64) + s.val) / 64 = c.val / 64; omega)
  rw [sum_mask (fun x => (f x - M x) * (f x - M x)) c]
  simp only [hq]
  rw [hc]
  exact headNorm_split r e hr (fun s : Fin 64 => f ⟨64 * (c.val / 64) + s.val, by omega⟩)
    ⟨c.val % 64, Nat.mod_lt _ (by decide)⟩ (M c) (hmu c rfl)

/-- The word the kernel's mask is made of, as the extended real it is converted to. -/
theorem mask_word (x c : Fin 256) :
    (FloatOps.sitofp (F := Ideal) FTy.f32 (BitVec.setWidth 32 (IntOp.cmpi CmpIPredicate.eq
        (IntOp.shrsi ArithUnit.vector (BitVec.ofNat 32 x.val) 6#32) (IntOp.shrsi ArithUnit.vector (BitVec.ofNat 32 c.val) 6#32))) : EReal)
      = if x.val / 64 = c.val / 64 then (1 : EReal) else 0 := by
  have h : ∀ y : Fin 256, IntOp.shrsi ArithUnit.vector (BitVec.ofNat 32 y.val) 6#32 = BitVec.ofNat 32 (y.val / 64) := by decide +kernel
  rw [h, h, WordCmp.cmpi_eq_ofNat (by omega) (by omega)]
  by_cases hx : x.val / 64 = c.val / 64
  · simp [hx, FloatOps.sitofp]
  · simp [hx, FloatOps.sitofp]

theorem ofBits_inv64 : Ideal.ofBits .f32 0x3C800000#32 = ((1 / 64 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_lnxEps : Ideal.ofBits .f32 0x3A27C5AC#32 = ((10995116 / 2 ^ 34 : ℝ) : EReal) := by
  simp [Ideal.ofBits, Ideal.ieee, -EReal.coe_mul]; norm_num

end Cert.Proof
-- ==== Proof.FfnSpec.lean ====
module

public import proofs.«01_k».proof.Proof.HeadNorm

/-! The last call's mathematics on one row: the mixed row, the residual, the normalised row, one column of the depthwise
    convolution over three rows, the gated unit and the output row. -/

@[expose] public section

noncomputable section

namespace Cert.Proof.Ffn

open Idealize.ShloMosaic

/-- The head norm's epsilon, the value of its single-precision literal. -/
abbrev lnxEps : ℝ := 10995116 / 2 ^ 34

/-- A row of the recurrence's output: the two directions' sum head-normalised, the bonus, the gate. -/
def mixRow (yf yb bo ga lw lb : Fin 512 → EReal) (c : Fin 512) : EReal :=
  (rowNorm (1 / 64) lnxEps (fun k => yf k + yb k) c * lw c + lb c + bo c) * ga c

/-- The residual row after the output projection. -/
def resRow (x : Fin 1024 → EReal) (mix at_ : Fin 512 → EReal) (wo : Fin 1024 → Fin 1024 → EReal) (d : Fin 1024) : EReal :=
  x d + ∑ k : Fin 512, mix k * wo ⟨k.val, by omega⟩ d + ∑ k : Fin 512, at_ k * wo ⟨512 + k.val, by omega⟩ d

/-- The row normalised by its root mean square. -/
def rmsRow (x1 gf : Fin 1024 → EReal) (d : Fin 1024) : EReal :=
  x1 d * Ideal.rsqrt (Ideal.div (∑ e, x1 e * x1 e) (Ideal.ofBits .f32 0x44800000#32) + Ideal.ofBits .f32 0x358637BD#32) * gf d

/-- One column of the up-projection convolved over the row before, the row and the row after. -/
def convAt (h0 h1 h2 : Fin 1024 → EReal) (w : Fin 1024 → EReal) (c0 c1 c2 cb : EReal) : EReal :=
  (∑ k, h0 k * w k) * c0 + (∑ k, h1 k * w k) * c1 + (∑ k, h2 k * w k) * c2 + cb

/-- The gated unit. -/
def glu (g v : EReal) : EReal := g * Ideal.logistic g * v

/-- The activation row. -/
def actRow (h0 h1 h2 : Fin 1024 → EReal) (wu : Fin 1024 → Fin 5632 → EReal) (cw : Fin 3 → Fin 5632 → EReal) (cb : Fin 5632 → EReal)
    (f : Fin 2816) : EReal :=
  glu (convAt h0 h1 h2 (fun k => wu k ⟨f.val, by omega⟩) (cw 0 ⟨f.val, by omega⟩) (cw 1 ⟨f.val, by omega⟩) (cw 2 ⟨f.val, by omega⟩) (cb ⟨f.val, by omega⟩))
    (convAt h0 h1 h2 (fun k => wu k ⟨2816 + f.val, by omega⟩) (cw 0 ⟨2816 + f.val, by omega⟩) (cw 1 ⟨2816 + f.val, by omega⟩)
      (cw 2 ⟨2816 + f.val, by omega⟩) (cb ⟨2816 + f.val, by omega⟩))

/-- The output row. -/
def outRow (x1 h0 h1 h2 : Fin 1024 → EReal) (wu : Fin 1024 → Fin 5632 → EReal) (cw : Fin 3 → Fin 5632 → EReal) (cb : Fin 5632 → EReal)
    (wd : Fin 2816 → Fin 1024 → EReal) (d : Fin 1024) : EReal :=
  x1 d + ∑ f, actRow h0 h1 h2 wu cw cb f * wd f d

/-- The hidden row before `t` in its sequence, zero before the first. -/
def prevRow (h : Fin 8192 → Fin 1024 → EReal) (t : Fin 8192) (k : Fin 1024) : EReal :=
  if 0 < t.val then h ⟨t.val - 1, by omega⟩ k else 0

/-- The hidden row after `t` in its sequence, zero after the last. -/
def nextRow (h : Fin 8192 → Fin 1024 → EReal) (t : Fin 8192) (k : Fin 1024) : EReal :=
  if h' : t.val + 1 < 8192 then h ⟨t.val + 1, h'⟩ k else 0

/-- The call's arguments, by coordinates. -/
structure Args where
  x : Fin 2 → Fin 8192 → Fin 1024 → EReal
  yf : Fin 2 → Fin 8192 → Fin 512 → EReal
  yb : Fin 2 → Fin 8192 → Fin 512 → EReal
  bonus : Fin 2 → Fin 8192 → Fin 512 → EReal
  gate : Fin 2 → Fin 8192 → Fin 512 → EReal
  attn : Fin 2 → Fin 8192 → Fin 512 → EReal
  lw : Fin 512 → EReal
  lb : Fin 512 → EReal
  wo : Fin 1024 → Fin 1024 → EReal
  gf : Fin 1024 → EReal
  wu : Fin 1024 → Fin 5632 → EReal
  cw : Fin 3 → Fin 5632 → EReal
  cb : Fin 5632 → EReal
  wd : Fin 2816 → Fin 1024 → EReal

/-- The mixed row of position `t` in batch `b`. -/
def Args.mix (A : Args) (b : Fin 2) (t : Fin 8192) : Fin 512 → EReal :=
  mixRow (A.yf b t) (A.yb b t) (A.bonus b t) (A.gate b t) A.lw A.lb

/-- The residual row. -/
def Args.res (A : Args) (b : Fin 2) (t : Fin 8192) : Fin 1024 → EReal := resRow (A.x b t) (A.mix b t) (A.attn b t) A.wo

/-- The normalised row. -/
def Args.hid (A : Args) (b : Fin 2) (t : Fin 8192) : Fin 1024 → EReal := rmsRow (A.res b t) A.gf

/-- The call's result at position `t` of batch `b`. -/
def Args.out (A : Args) (b : Fin 2) (t : Fin 8192) : Fin 1024 → EReal :=
  outRow (A.res b t) (prevRow (A.hid b) t) (A.hid b t) (nextRow (A.hid b) t) A.wu A.cw A.cb A.wd

/-- The gated unit in the kernel's spelling. -/
theorem glu_kernel (g v : EReal) : g * Ideal.div 1 (1 + Ideal.exp (0 - g)) * v = glu g v := by
  unfold glu
  rw [sub_eq_add_neg, zero_add]; rfl

end Cert.Proof.Ffn
-- ==== Proof.FfnPay.lean ====
module

public import proofs.«01_k».proof.Proof.Gen.OutFfnIdeal.Skeleton
public import proofs.«01_k».proof.Proof.FfnSpec

/-! The last call's payloads at an index. -/

@[expose] public section

set_option maxRecDepth 16384

noncomputable section

namespace Cert.Proof.Ffn

open Idealize.ShloMosaic
open Cert.OutFfnIdeal Cert.OutFfnIdeal.Gen

/-- Row `p` of the block with its two halos. -/
def catRow {n : Nat} (a : Fin 8 → Fin n → EReal) (b : Fin 512 → Fin n → EReal) (c : Fin 8 → Fin n → EReal) (p : Fin 528) (k : Fin n) : EReal :=
  if h : p.val < 8 then a ⟨p.val, h⟩ k else if h' : p.val - 8 < 512 then b ⟨p.val - 8, h'⟩ k else c ⟨p.val - 8 - 512, by omega⟩ k

theorem pay3_at (a : Vec Ideal S8x1024 .f32) (b : Vec Ideal S512x1024 .f32) (c : Vec Ideal S8x1024 .f32) (p : Fin 528) (d : Fin 1024) :
    k0_pay3 a b c (ix2 p d) = catRow (fun p d => a (ix2 p d)) (fun p d => b (ix2 p d)) (fun p d => c (ix2 p d)) p d := by
  unfold catRow
  pointwise [k0_pay3]

theorem pay6_at (a : Vec Ideal S8x512 .f32) (b : Vec Ideal S512x512 .f32) (c : Vec Ideal S8x512 .f32) (p : Fin 528) (d : Fin 512) :
    k0_pay6 a b c (ix2 p d) = catRow (fun p d => a (ix2 p d)) (fun p d => b (ix2 p d)) (fun p d => c (ix2 p d)) p d := by
  unfold catRow
  pointwise [k0_pay6]

theorem pay7_at (a : Vec Ideal S8x512 .f32) (b : Vec Ideal S512x512 .f32) (c : Vec Ideal S8x512 .f32) (p : Fin 528) (d : Fin 512) :
    k0_pay7 a b c (ix2 p d) = catRow (fun p d => a (ix2 p d)) (fun p d => b (ix2 p d)) (fun p d => c (ix2 p d)) p d := by
  unfold catRow
  pointwise [k0_pay7]

theorem pay8_at (a : Vec Ideal S8x512 .f32) (b : Vec Ideal S512x512 .f32) (c : Vec Ideal S8x512 .f32) (p : Fin 528) (d : Fin 512) :
    k0_pay8 a b c (ix2 p d) = catRow (fun p d => a (ix2 p d)) (fun p d => b (ix2 p d)) (fun p d => c (ix2 p d)) p d := by
  unfold catRow
  pointwise [k0_pay8]

theorem pay9_at (a : Vec Ideal S8x512 .f32) (b : Vec Ideal S512x512 .f32) (c : Vec Ideal S8x512 .f32)
    (a' : Vec Ideal S8x512 .f32) (b' : Vec Ideal S512x512 .f32) (c' : Vec Ideal S8x512 .f32) (p : Fin 528) (d : Fin 512) :
    k0_pay9 (k0_pay4 a) (k0_pay5 b) c a' b' c' (ix2 p d) = catRow (fun p d => a (ix2 p d)) (fun p d => b (ix2 p d)) (fun p d => c (ix2 p d)) p d
      + catRow (fun p d => a' (ix2 p d)) (fun p d => b' (ix2 p d)) (fun p d => c' (ix2 p d)) p d := by
  unfold catRow
  pointwise [k0_pay9, k0_pay4, k0_pay5]

theorem pay11_low (v : FVec Ideal S528x512 .f32) (p : Fin 528) (c : Fin 256) :
    k0_pay11 v k0_pay10 (ix2 p ⟨c.val, by omega⟩) = headNorm (1 / 64) lnxEps (fun s => v (ix2 p ⟨64 * (c.val / 64) + s.val, by omega⟩)) ⟨c.val % 64, Nat.mod_lt _ (by decide)⟩ := by
  rw [← half_norm (1 / 64) lnxEps (by norm_num) (fun x : Fin 256 => v (ix2 p ⟨x.val, by omega⟩)) _ mask_word _ (fun x => rfl) c]
  pointwise [k0_pay11, k0_pay10]
  have hc : c.val < 256 := c.isLt
  simp only [hc, dite_true, ofBits_inv64, ofBits_lnxEps]

theorem pay11_high (v : FVec Ideal S528x512 .f32) (p : Fin 528) (c : Fin 256) :
    k0_pay11 v k0_pay10 (ix2 p ⟨256 + c.val, by omega⟩) = headNorm (1 / 64) lnxEps (fun s => v (ix2 p ⟨256 + (64 * (c.val / 64) + s.val), by omega⟩)) ⟨c.val % 64, Nat.mod_lt _ (by decide)⟩ := by
  rw [← half_norm (1 / 64) lnxEps (by norm_num) (fun x : Fin 256 => v (ix2 p ⟨256 + x.val, by omega⟩)) _ mask_word _ (fun x => rfl) c]
  pointwise [k0_pay11, k0_pay10]
  have hc : ¬ 256 + c.val < 256 := by omega
  simp only [hc, dite_false, ofBits_inv64, ofBits_lnxEps]

theorem pay11_at (v : FVec Ideal S528x512 .f32) (p : Fin 528) (c : Fin 512) :
    k0_pay11 v k0_pay10 (ix2 p c) = rowNorm (1 / 64) lnxEps (fun k => v (ix2 p k)) c := by
  unfold rowNorm headOf
  rcases Nat.lt_or_ge c.val 256 with h | h
  · exact pay11_low v p ⟨c.val, h⟩
  · obtain ⟨c, hc⟩ := c
    obtain ⟨c', rfl⟩ : ∃ c' : Fin 256, c = 256 + c'.val := ⟨⟨c - 256, by omega⟩, by show c = 256 + (c - 256); simp only at h; omega⟩
    rw [pay11_high]
    congr 1
    · funext s; congr 2; exact Fin.ext (by show 256 + (64 * (c'.val / 64) + s.val) = 64 * ((256 + c'.val) / 64) + s.val; omega)
    · exact Fin.ext (by show c'.val % 64 = (256 + c'.val) % 64; omega)

theorem pay12_at (v28 : FVec Ideal S528x1024 .f32) (v49 : FVec Ideal S528x512 .f32) (v56 : FVec Ideal S528x512 .f32) (v63 : FVec Ideal S528x512 .f32) (v115 : FVec Ideal S528x512 .f32) (v116 : Vec Ideal S1x512 .f32) (v120 : Vec Ideal S1x512 .f32) (v127 : Vec Ideal S512x1024 .bf16) (v132 : Vec Ideal S512x1024 .bf16) (p : Fin 528) (d : Fin 1024) :
    k0_pay12 v28 v49 v56 v63 v115 v116 v120 v127 v132 (ix2 p d) = v28 (ix2 p d) +
        ∑ x : Fin 512, (v115 (ix2 p x) * v116 (ix2 0 x) + v120 (ix2 0 x) + v49 (ix2 p x)) * v56 (ix2 p x) * v127 (ix2 x d) +
      ∑ x : Fin 512, v63 (ix2 p x) * v132 (ix2 x d) := by
  pointwise [k0_pay12]

theorem pay14_at (v28 : FVec Ideal S528x1024 .f32) (v49 : FVec Ideal S528x512 .f32) (v56 : FVec Ideal S528x512 .f32) (v63 : FVec Ideal S528x512 .f32) (v115 : FVec Ideal S528x512 .f32) (v116 : Vec Ideal S1x512 .f32) (v120 : Vec Ideal S1x512 .f32) (v127 : Vec Ideal S512x1024 .bf16) (v132 : Vec Ideal S512x1024 .bf16) (v147 : Vec Ideal S1x1024 .f32) (p : Fin 528) (d : Fin 1024) :
    k0_pay14 v28 v49 v56 v63 v115 v116 v120 v127 v132 v147 (ix2 p d)
      = rmsRow (fun e => k0_pay12 v28 v49 v56 v63 v115 v116 v120 v127 v132 (ix2 p e)) (fun e => v147 (ix2 0 e)) d := by
  unfold rmsRow
  pointwise [k0_pay14]

theorem pay18_at (v150 : FVec Ideal S528x1024 .f32) (a b : BitVec 1) (p : Fin 528) (d : Fin 1024) :
    k0_pay18 v150 (k0_pay15 a) k0_pay16 (k0_pay17 b) (ix2 p d) =
      if (a = 1#1 ∧ p.val < 8) ∨ (b = 1#1 ∧ 520 ≤ p.val) then 0 else v150 (ix2 p d) := by
  pointwise [k0_pay18, k0_pay15, k0_pay16, k0_pay17]
  have h1 : ∀ p : Fin 528, IntOp.cmpi CmpIPredicate.slt (BitVec.ofNat 32 p.val) 8#32 = BitVec.ofBool (decide (p.val < 8)) := by decide +kernel
  have h2 : ∀ p : Fin 528, IntOp.cmpi CmpIPredicate.sge (BitVec.ofNat 32 p.val) 520#32 = BitVec.ofBool (decide (520 ≤ p.val)) := by decide +kernel
  rw [h1, h2]
  rcases BitVec.eq_zero_or_eq_one a with rfl | rfl <;> rcases BitVec.eq_zero_or_eq_one b with rfl | rfl <;>
    by_cases h8 : p.val < 8 <;> by_cases h520 : 520 ≤ p.val <;> simp [h8, h520, Scalar.select, IntOp.ori, IntOp.andi]

/-- One chunk's column of the convolved up-projection, from the rows of the block with its halos. -/
abbrev convBlk (h : Fin 528 → Fin 1024 → EReal) (w : Fin 1024 → EReal) (c0 c1 c2 cb : EReal) (p : Fin 512) : EReal :=
  convAt (h ⟨p.val + 7, by omega⟩) (h ⟨p.val + 8, by omega⟩) (h ⟨p.val + 9, by omega⟩) w c0 c1 c2 cb

theorem rows_at (p : Fin 512) (q1 : (8 + p.val + 528 - 1) % 528 < 528) (q2 : 8 + p.val < 528) (q3 : (8 + p.val + 528 - 527) % 528 < 528) :
    (⟨(8 + p.val + 528 - 1) % 528, q1⟩ : Fin 528) = ⟨p.val + 7, by omega⟩ ∧ (⟨8 + p.val, q2⟩ : Fin 528) = ⟨p.val + 8, by omega⟩
      ∧ (⟨(8 + p.val + 528 - 527) % 528, q3⟩ : Fin 528) = ⟨p.val + 9, by omega⟩ :=
  ⟨Fin.ext (by show (8 + p.val + 528 - 1) % 528 = p.val + 7; omega), Fin.ext (by show 8 + p.val = p.val + 8; omega),
    Fin.ext (by show (8 + p.val + 528 - 527) % 528 = p.val + 9; omega)⟩

end Cert.Proof.Ffn
-- ==== Proof.FfnChunk.lean ====
module

public import proofs.«01_k».proof.Proof.FfnPay

/-! The four stored pieces of the activation, and the output block, at an index. -/

@[expose] public section

set_option maxRecDepth 16384

noncomputable section

namespace Cert.Proof.Ffn

open Idealize.ShloMosaic
open Cert.OutFfnIdeal Cert.OutFfnIdeal.Gen

/-- A row of a matrix. -/
abbrev rowOf {n k : Nat} (x : (⟨2, ![n, k]⟩ : Shape).Idx → EReal) (p : Fin n) (j : Fin k) : EReal := x (ix2 p j)
/-- A column of a matrix. -/
abbrev colOf {n k : Nat} (x : (⟨2, ![n, k]⟩ : Shape).Idx → EReal) (j : Fin k) (p : Fin n) : EReal := x (ix2 p j)

theorem chunk0_at (v150 : FVec Ideal S528x1024 .f32) (a b c : IVec S528x1 1) (w w' : Vec Ideal S1024x768 .bf16)
    (c0 c1 c2 cb c0' c1' c2' cb' : Vec Ideal S1x768 .f32) (p : Fin 512) (l : Fin 768) :
    k0_pay24 (k0_pay19 v150 a b c w c0 c1 c2 cb) (k0_pay20 v150 a b c w') (k0_pay21 v150 a b c w') (k0_pay22 v150 a b c w') (k0_pay23 c0') c1' c2' cb' (ix2 p l)
      = glu (convBlk (rowOf (k0_pay18 v150 a b c)) (colOf w l) (c0 (ix2 0 l)) (c1 (ix2 0 l)) (c2 (ix2 0 l)) (cb (ix2 0 l)) p)
          (convBlk (rowOf (k0_pay18 v150 a b c)) (colOf w' l) (c0' (ix2 0 l)) (c1' (ix2 0 l)) (c2' (ix2 0 l)) (cb' (ix2 0 l)) p) := by
  rw [← glu_kernel]; unfold convBlk convAt rowOf colOf
  pointwise [k0_pay24, k0_pay19, k0_pay20, k0_pay21, k0_pay22, k0_pay23]
  obtain ⟨h1, h2, h3⟩ := rows_at p (Nat.mod_lt _ (by decide)) (by omega) (Nat.mod_lt _ (by decide))
  simp only [h1, h2, h3]

theorem chunk1_at (H : FVec Ideal S528x1024 .bf16) (w w' : Vec Ideal S1024x768 .bf16)
    (c0 c1 c2 cb c0' c1' c2' cb' : Vec Ideal S1x768 .f32) (p : Fin 512) (l : Fin 768) :
    k0_pay33 (k0_pay29 (k0_pay26 H w) (k0_pay27 H w c0) (k0_pay28 H w) c1 c2 cb) (k0_pay30 H w' c0' c1' c2' cb')
        (k0_pay31 (k0_pay26 H w) (k0_pay27 H w c0) (k0_pay28 H w) c1 c2 cb) (k0_pay32 (F := Ideal)) (ix2 p l)
      = glu (convBlk (rowOf H) (colOf w l) (c0 (ix2 0 l)) (c1 (ix2 0 l)) (c2 (ix2 0 l)) (cb (ix2 0 l)) p)
          (convBlk (rowOf H) (colOf w' l) (c0' (ix2 0 l)) (c1' (ix2 0 l)) (c2' (ix2 0 l)) (cb' (ix2 0 l)) p) := by
  rw [← glu_kernel]; unfold convBlk convAt rowOf colOf
  pointwise [k0_pay33, k0_pay31, k0_pay32, k0_pay30, k0_pay29, k0_pay28, k0_pay27, k0_pay26, k0_pay25]
  obtain ⟨h1, h2, h3⟩ := rows_at p (Nat.mod_lt _ (by decide)) (by omega) (Nat.mod_lt _ (by decide))
  simp only [h1, h2, h3]

theorem chunk2_at (H : FVec Ideal S528x1024 .bf16) (w w' : Vec Ideal S1024x768 .bf16)
    (c0 c1 c2 cb c0' c1' c2' cb' : Vec Ideal S1x768 .f32) (p : Fin 512) (l : Fin 768) :
    k0_pay38 (k0_pay34 H w c0 c1 c2 cb) (k0_pay35 H w') (k0_pay36 H w') (k0_pay37 H w') c0' c1' c2' cb' (ix2 p l)
      = glu (convBlk (rowOf H) (colOf w l) (c0 (ix2 0 l)) (c1 (ix2 0 l)) (c2 (ix2 0 l)) (cb (ix2 0 l)) p)
          (convBlk (rowOf H) (colOf w' l) (c0' (ix2 0 l)) (c1' (ix2 0 l)) (c2' (ix2 0 l)) (cb' (ix2 0 l)) p) := by
  rw [← glu_kernel]; unfold convBlk convAt rowOf colOf
  pointwise [k0_pay38, k0_pay34, k0_pay35, k0_pay36, k0_pay37]
  obtain ⟨h1, h2, h3⟩ := rows_at p (Nat.mod_lt _ (by decide)) (by omega) (Nat.mod_lt _ (by decide))
  simp only [h1, h2, h3]

theorem chunk3_at (H : FVec Ideal S528x1024 .bf16) (w w' : Vec Ideal S1024x512 .bf16)
    (c0 c1 c2 cb c0' c1' c2' cb' : Vec Ideal S1x512 .f32) (p : Fin 512) (l : Fin 512) :
    k0_pay1 (k0_pay43 (k0_pay40 H w) (k0_pay41 H w c0) (k0_pay42 H w) c1 c2 cb) (k0_pay44 H w' c0' c1' c2' cb')
        (k0_pay45 (k0_pay40 H w) (k0_pay41 H w c0) (k0_pay42 H w) c1 c2 cb) (ix2 p l)
      = glu (convBlk (rowOf H) (colOf w l) (c0 (ix2 0 l)) (c1 (ix2 0 l)) (c2 (ix2 0 l)) (cb (ix2 0 l)) p)
          (convBlk (rowOf H) (colOf w' l) (c0' (ix2 0 l)) (c1' (ix2 0 l)) (c2' (ix2 0 l)) (cb' (ix2 0 l)) p) := by
  rw [← glu_kernel]; unfold convBlk convAt rowOf colOf
  pointwise [k0_pay1, k0_pay45, k0_pay44, k0_pay43, k0_pay42, k0_pay41, k0_pay40, k0_pay39]
  obtain ⟨h1, h2, h3⟩ := rows_at p (Nat.mod_lt _ (by decide)) (by omega) (Nat.mod_lt _ (by decide))
  simp only [h1, h2, h3]

theorem pay2_at (v136 : FVec Ideal S512x1024 .f32) (act : Vec Ideal S512x2816 .bf16) (wd : Vec Ideal S2816x1024 .bf16) (p : Fin 512) (d : Fin 1024) :
    k0_pay2 v136 act wd (ix2 p d) = v136 (ix2 p d) + ∑ f : Fin 2816, act (ix2 p f) * wd (ix2 f d) := by
  pointwise [k0_pay2]

theorem pay13_at (v28 : FVec Ideal S528x1024 .f32) (v49 : FVec Ideal S528x512 .f32) (v56 : FVec Ideal S528x512 .f32) (v63 : FVec Ideal S528x512 .f32) (v115 : FVec Ideal S528x512 .f32) (v116 : Vec Ideal S1x512 .f32) (v120 : Vec Ideal S1x512 .f32) (v127 : Vec Ideal S512x1024 .bf16) (v132 : Vec Ideal S512x1024 .bf16) (p : Fin 512) (d : Fin 1024) :
    k0_pay13 v28 v49 v56 v63 v115 v116 v120 v127 v132 (ix2 p d) = k0_pay12 v28 v49 v56 v63 v115 v116 v120 v127 v132 (ix2 ⟨p.val + 8, by omega⟩ d) := by
  pointwise [k0_pay13]
  simp only [Nat.add_comm 8 p.val]

end Cert.Proof.Ffn
-- ==== Proof.FfnIn.lean ====
module

public import proofs.«01_k».proof.Proof.Gen.OutFfnIdeal.Frame.Runs
public import proofs.«01_k».proof.Proof.FfnPay
public import Idealize.ShloMosaic.Lib.Pipeline.ValueKit
public import Idealize.ShloMosaic.Lib.StableHlo.RunRead
public import Idealize.ShloMosaic.Lib.Pointwise

/-! What the kernel's windows hold at each grid point, read off the call's arguments. -/

@[expose] public section

set_option maxRecDepth 16384

noncomputable section

namespace Cert.Proof.Ffn

open Idealize.ShloMosaic Idealize.ShloMosaic.TcCoe
open Cert.OutFfnIdeal Cert.OutFfnIdeal.Gen

variable (m : (ℓ : Loc nD τ sig) → Buf (Elt Ideal) ℓ) (c : Dev nD)

/-- The launch's arguments on one device, by coordinates. -/
def kArgs : Args where
  x b t d := m ((c : Thread nD τ).loc main_arg0) (ix3 b t d)
  yf b t d := m ((c : Thread nD τ).loc main_arg1) (ix3 b t d)
  yb b t d := m ((c : Thread nD τ).loc main_arg2) (ix3 b t d)
  bonus b t d := m ((c : Thread nD τ).loc main_arg3) (ix3 b t d)
  gate b t d := m ((c : Thread nD τ).loc main_arg4) (ix3 b t d)
  attn b t d := m ((c : Thread nD τ).loc main_arg5) (ix3 b t d)
  lw d := m ((c : Thread nD τ).loc main_arg6) (ix1 d)
  lb d := m ((c : Thread nD τ).loc main_arg7) (ix1 d)
  wo k d := m ((c : Thread nD τ).loc main_arg8) (ix2 k d)
  gf d := m ((c : Thread nD τ).loc main_arg9) (ix1 d)
  wu k d := m ((c : Thread nD τ).loc main_arg10) (ix2 k d)
  cw k d := m ((c : Thread nD τ).loc main_arg11) (ix2 k d)
  cb d := m ((c : Thread nD τ).loc main_arg12) (ix1 d)
  wd k d := m ((c : Thread nD τ).loc main_arg13) (ix2 k d)

theorem lt32 (t : Fin cfg0.N) : t.val < 32 := lt_of_lt_of_eq t.isLt N_0

/-- A row of the block with its halos that the block's own rows depend on at point `t`. -/
def Live (t : Fin cfg0.N) (q : Fin 528) : Prop :=
  7 ≤ q.val ∧ q.val ≤ 520 ∧ (q.val = 7 → t.val % 16 ≠ 0) ∧ (q.val = 520 → t.val % 16 ≠ 15)

theorem catLive {n : Nat} (a : Fin 8 → Fin n → EReal) (b : Fin 512 → Fin n → EReal) (c : Fin 8 → Fin n → EReal)
    (X : Fin 2 → Fin 8192 → Fin n → EReal) (t : Fin cfg0.N)
    (ha : ∀ (p : Fin 8) k (r : Nat) (hr : r = (64 * t.val - 1) * 8 + p.val) (hr' : r < 16384), a p k = X ⟨r / 8192, by omega⟩ ⟨r % 8192, by omega⟩ k)
    (hb : ∀ (p : Fin 512) k (r : Nat) (hr : r = t.val * 512 + p.val) (hr' : r < 16384), b p k = X ⟨r / 8192, by omega⟩ ⟨r % 8192, by omega⟩ k)
    (hc : ∀ (p : Fin 8) k (r : Nat) (hr : r = min (64 * (t.val + 1)) 2047 * 8 + p.val) (hr' : r < 16384), c p k = X ⟨r / 8192, by omega⟩ ⟨r % 8192, by omega⟩ k)
    (q : Fin 528) (hq : Live t q) (k : Fin n) (B : Fin 2) (T : Fin 8192) (hB : B.val = t.val / 16) (hT : T.val + 8 = t.val % 16 * 512 + q.val) :
    catRow a b c q k = X B T k := by
  obtain ⟨h7, h520, hf, hl⟩ := hq
  have ht := lt32 t
  have key : ∀ (r : Nat) (hr' : r < 16384), r + 8 = t.val * 512 + q.val → X ⟨r / 8192, by omega⟩ ⟨r % 8192, by omega⟩ k = X B T k := by
    intro r hr' hr
    rw [show (⟨r / 8192, by omega⟩ : Fin 2) = B from Fin.ext (by simp only; omega), show (⟨r % 8192, by omega⟩ : Fin 8192) = T from Fin.ext (by simp only; omega)]
  unfold catRow
  split
  · rename_i h
    rw [ha ⟨q.val, h⟩ k (t.val * 512 + q.val - 8) (by simp only; omega) (by omega)]
    exact key _ (by omega) (by omega)
  · split
    · rename_i h h'
      rw [hb ⟨q.val - 8, h'⟩ k (t.val * 512 + q.val - 8) (by simp only; omega) (by omega)]
      exact key _ (by omega) (by omega)
    · rename_i h h'
      rw [hc ⟨q.val - 8 - 512, by omega⟩ k (t.val * 512 + q.val - 8) (by simp only; omega) (by omega)]
      exact key _ (by omega) (by omega)

theorem V_v0 (r : Fin 16384) (d : Fin 1024) : V m c main_v0 (ix2 r d) = (kArgs m c).x ⟨r.val / 8192, by omega⟩ ⟨r.val % 8192, by omega⟩ d := by
  unfold V hostOps0
  after_results_simp
  pointwise [kArgs]

theorem V_v1 (r : Fin 16384) (d : Fin 512) : V m c main_v1 (ix2 r d) = (kArgs m c).yf ⟨r.val / 8192, by omega⟩ ⟨r.val % 8192, by omega⟩ d := by
  unfold V hostOps0
  after_results_simp
  pointwise [kArgs]

theorem V_v2 (r : Fin 16384) (d : Fin 512) : V m c main_v2 (ix2 r d) = (kArgs m c).yb ⟨r.val / 8192, by omega⟩ ⟨r.val % 8192, by omega⟩ d := by
  unfold V hostOps0
  after_results_simp
  pointwise [kArgs]

theorem V_v3 (r : Fin 16384) (d : Fin 512) : V m c main_v3 (ix2 r d) = (kArgs m c).bonus ⟨r.val / 8192, by omega⟩ ⟨r.val % 8192, by omega⟩ d := by
  unfold V hostOps0
  after_results_simp
  pointwise [kArgs]

theorem V_v4 (r : Fin 16384) (d : Fin 512) : V m c main_v4 (ix2 r d) = (kArgs m c).gate ⟨r.val / 8192, by omega⟩ ⟨r.val % 8192, by omega⟩ d := by
  unfold V hostOps0
  after_results_simp
  pointwise [kArgs]

theorem V_v5 (r : Fin 16384) (d : Fin 512) : V m c main_v5 (ix2 r d) = (kArgs m c).attn ⟨r.val / 8192, by omega⟩ ⟨r.val % 8192, by omega⟩ d := by
  unfold V hostOps0
  after_results_simp
  pointwise [kArgs]

theorem idx0 : ∀ t : Fin cfg0.N, win0_0.index t = ![t.val, 0] := (by decide +kernel : ∀ t : Fin grid0.N, _)
theorem in0 (t : Fin cfg0.N) (p : Fin 512) (d : Fin 1024) (r : Nat) (hr : r = (t.val) * 512 + p.val) (hr' : r < 16384) :
    iblk m c 0 t (ix2 p d) = (kArgs m c).x ⟨r / 8192, by omega⟩ ⟨r % 8192, by omega⟩ d := by
  rw [← V_v0 m c ⟨r, hr'⟩ d]
  blk_ext! [iblk, idx0 t]

theorem idx1 : ∀ t : Fin cfg0.N, win0_1.index t = ![t.val, 0] := (by decide +kernel : ∀ t : Fin grid0.N, _)
theorem in1 (t : Fin cfg0.N) (p : Fin 512) (d : Fin 512) (r : Nat) (hr : r = (t.val) * 512 + p.val) (hr' : r < 16384) :
    iblk m c 1 t (ix2 p d) = (kArgs m c).yf ⟨r / 8192, by omega⟩ ⟨r % 8192, by omega⟩ d := by
  rw [← V_v1 m c ⟨r, hr'⟩ d]
  blk_ext! [iblk, idx1 t]

theorem idx2 : ∀ t : Fin cfg0.N, win0_2.index t = ![t.val, 0] := (by decide +kernel : ∀ t : Fin grid0.N, _)
theorem in2 (t : Fin cfg0.N) (p : Fin 512) (d : Fin 512) (r : Nat) (hr : r = (t.val) * 512 + p.val) (hr' : r < 16384) :
    iblk m c 2 t (ix2 p d) = (kArgs m c).yb ⟨r / 8192, by omega⟩ ⟨r % 8192, by omega⟩ d := by
  rw [← V_v2 m c ⟨r, hr'⟩ d]
  blk_ext! [iblk, idx2 t]

theorem idx3 : ∀ t : Fin cfg0.N, win0_3.index t = ![t.val, 0] := (by decide +kernel : ∀ t : Fin grid0.N, _)
theorem in3 (t : Fin cfg0.N) (p : Fin 512) (d : Fin 512) (r : Nat) (hr : r = (t.val) * 512 + p.val) (hr' : r < 16384) :
    iblk m c 3 t (ix2 p d) = (kArgs m c).bonus ⟨r / 8192, by omega⟩ ⟨r % 8192, by omega⟩ d := by
  rw [← V_v3 m c ⟨r, hr'⟩ d]
  blk_ext! [iblk, idx3 t]

theorem idx4 : ∀ t : Fin cfg0.N, win0_4.index t = ![t.val, 0] := (by decide +kernel : ∀ t : Fin grid0.N, _)
theorem in4 (t : Fin cfg0.N) (p : Fin 512) (d : Fin 512) (r : Nat) (hr : r = (t.val) * 512 + p.val) (hr' : r < 16384) :
    iblk m c 4 t (ix2 p d) = (kArgs m c).gate ⟨r / 8192, by omega⟩ ⟨r % 8192, by omega⟩ d := by
  rw [← V_v4 m c ⟨r, hr'⟩ d]
  blk_ext! [iblk, idx4 t]

theorem idx5 : ∀ t : Fin cfg0.N, win0_5.index t = ![t.val, 0] := (by decide +kernel : ∀ t : Fin grid0.N, _)
theorem in5 (t : Fin cfg0.N) (p : Fin 512) (d : Fin 512) (r : Nat) (hr : r = (t.val) * 512 + p.val) (hr' : r < 16384) :
    iblk m c 5 t (ix2 p d) = (kArgs m c).attn ⟨r / 8192, by omega⟩ ⟨r % 8192, by omega⟩ d := by
  rw [← V_v5 m c ⟨r, hr'⟩ d]
  blk_ext! [iblk, idx5 t]

theorem idx6 : ∀ t : Fin cfg0.N, win0_6.index t = ![64 * t.val - 1, 0] := (by decide +kernel : ∀ t : Fin grid0.N, _)
theorem in6 (t : Fin cfg0.N) (p : Fin 8) (d : Fin 1024) (r : Nat) (hr : r = (64 * t.val - 1) * 8 + p.val) (hr' : r < 16384) :
    iblk m c 6 t (ix2 p d) = (kArgs m c).x ⟨r / 8192, by omega⟩ ⟨r % 8192, by omega⟩ d := by
  rw [← V_v0 m c ⟨r, hr'⟩ d]
  blk_ext! [iblk, idx6 t]

theorem idx7 : ∀ t : Fin cfg0.N, win0_7.index t = ![64 * t.val - 1, 0] := (by decide +kernel : ∀ t : Fin grid0.N, _)
theorem in7 (t : Fin cfg0.N) (p : Fin 8) (d : Fin 512) (r : Nat) (hr : r = (64 * t.val - 1) * 8 + p.val) (hr' : r < 16384) :
    iblk m c 7 t (ix2 p d) = (kArgs m c).yf ⟨r / 8192, by omega⟩ ⟨r % 8192, by omega⟩ d := by
  rw [← V_v1 m c ⟨r, hr'⟩ d]
  blk_ext! [iblk, idx7 t]

theorem idx8 : ∀ t : Fin cfg0.N, win0_8.index t = ![64 * t.val - 1, 0] := (by decide +kernel : ∀ t : Fin grid0.N, _)
theorem in8 (t : Fin cfg0.N) (p : Fin 8) (d : Fin 512) (r : Nat) (hr : r = (64 * t.val - 1) * 8 + p.val) (hr' : r < 16384) :
    iblk m c 8 t (ix2 p d) = (kArgs m c).yb ⟨r / 8192, by omega⟩ ⟨r % 8192, by omega⟩ d := by
  rw [← V_v2 m c ⟨r, hr'⟩ d]
  blk_ext! [iblk, idx8 t]

theorem idx9 : ∀ t : Fin cfg0.N, win0_9.index t = ![64 * t.val - 1, 0] := (by decide +kernel : ∀ t : Fin grid0.N, _)
theorem in9 (t : Fin cfg0.N) (p : Fin 8) (d : Fin 512) (r : Nat) (hr : r = (64 * t.val - 1) * 8 + p.val) (hr' : r < 16384) :
    iblk m c 9 t (ix2 p d) = (kArgs m c).bonus ⟨r / 8192, by omega⟩ ⟨r % 8192, by omega⟩ d := by
  rw [← V_v3 m c ⟨r, hr'⟩ d]
  blk_ext! [iblk, idx9 t]

theorem idx10 : ∀ t : Fin cfg0.N, win0_10.index t = ![64 * t.val - 1, 0] := (by decide +kernel : ∀ t : Fin grid0.N, _)
theorem in10 (t : Fin cfg0.N) (p : Fin 8) (d : Fin 512) (r : Nat) (hr : r = (64 * t.val - 1) * 8 + p.val) (hr' : r < 16384) :
    iblk m c 10 t (ix2 p d) = (kArgs m c).gate ⟨r / 8192, by omega⟩ ⟨r % 8192, by omega⟩ d := by
  rw [← V_v4 m c ⟨r, hr'⟩ d]
  blk_ext! [iblk, idx10 t]

theorem idx11 : ∀ t : Fin cfg0.N, win0_11.index t = ![64 * t.val - 1, 0] := (by decide +kernel : ∀ t : Fin grid0.N, _)
theorem in11 (t : Fin cfg0.N) (p : Fin 8) (d : Fin 512) (r : Nat) (hr : r = (64 * t.val - 1) * 8 + p.val) (hr' : r < 16384) :
    iblk m c 11 t (ix2 p d) = (kArgs m c).attn ⟨r / 8192, by omega⟩ ⟨r % 8192, by omega⟩ d := by
  rw [← V_v5 m c ⟨r, hr'⟩ d]
  blk_ext! [iblk, idx11 t]

theorem idx12 : ∀ t : Fin cfg0.N, win0_12.index t = ![min (64 * (t.val + 1)) 2047, 0] := (by decide +kernel : ∀ t : Fin grid0.N, _)
theorem in12 (t : Fin cfg0.N) (p : Fin 8) (d : Fin 1024) (r : Nat) (hr : r = (min (64 * (t.val + 1)) 2047) * 8 + p.val) (hr' : r < 16384) :
    iblk m c 12 t (ix2 p d) = (kArgs m c).x ⟨r / 8192, by omega⟩ ⟨r % 8192, by omega⟩ d := by
  rw [← V_v0 m c ⟨r, hr'⟩ d]
  blk_ext! [iblk, idx12 t]

theorem idx13 : ∀ t : Fin cfg0.N, win0_13.index t = ![min (64 * (t.val + 1)) 2047, 0] := (by decide +kernel : ∀ t : Fin grid0.N, _)
theorem in13 (t : Fin cfg0.N) (p : Fin 8) (d : Fin 512) (r : Nat) (hr : r = (min (64 * (t.val + 1)) 2047) * 8 + p.val) (hr' : r < 16384) :
    iblk m c 13 t (ix2 p d) = (kArgs m c).yf ⟨r / 8192, by omega⟩ ⟨r % 8192, by omega⟩ d := by
  rw [← V_v1 m c ⟨r, hr'⟩ d]
  blk_ext! [iblk, idx13 t]

theorem idx14 : ∀ t : Fin cfg0.N, win0_14.index t = ![min (64 * (t.val + 1)) 2047, 0] := (by decide +kernel : ∀ t : Fin grid0.N, _)
theorem in14 (t : Fin cfg0.N) (p : Fin 8) (d : Fin 512) (r : Nat) (hr : r = (min (64 * (t.val + 1)) 2047) * 8 + p.val) (hr' : r < 16384) :
    iblk m c 14 t (ix2 p d) = (kArgs m c).yb ⟨r / 8192, by omega⟩ ⟨r % 8192, by omega⟩ d := by
  rw [← V_v2 m c ⟨r, hr'⟩ d]
  blk_ext! [iblk, idx14 t]

theorem idx15 : ∀ t : Fin cfg0.N, win0_15.index t = ![min (64 * (t.val + 1)) 2047, 0] := (by decide +kernel : ∀ t : Fin grid0.N, _)
theorem in15 (t : Fin cfg0.N) (p : Fin 8) (d : Fin 512) (r : Nat) (hr : r = (min (64 * (t.val + 1)) 2047) * 8 + p.val) (hr' : r < 16384) :
    iblk m c 15 t (ix2 p d) = (kArgs m c).bonus ⟨r / 8192, by omega⟩ ⟨r % 8192, by omega⟩ d := by
  rw [← V_v3 m c ⟨r, hr'⟩ d]
  blk_ext! [iblk, idx15 t]

theorem idx16 : ∀ t : Fin cfg0.N, win0_16.index t = ![min (64 * (t.val + 1)) 2047, 0] := (by decide +kernel : ∀ t : Fin grid0.N, _)
theorem in16 (t : Fin cfg0.N) (p : Fin 8) (d : Fin 512) (r : Nat) (hr : r = (min (64 * (t.val + 1)) 2047) * 8 + p.val) (hr' : r < 16384) :
    iblk m c 16 t (ix2 p d) = (kArgs m c).gate ⟨r / 8192, by omega⟩ ⟨r % 8192, by omega⟩ d := by
  rw [← V_v4 m c ⟨r, hr'⟩ d]
  blk_ext! [iblk, idx16 t]

theorem idx17 : ∀ t : Fin cfg0.N, win0_17.index t = ![min (64 * (t.val + 1)) 2047, 0] := (by decide +kernel : ∀ t : Fin grid0.N, _)
theorem in17 (t : Fin cfg0.N) (p : Fin 8) (d : Fin 512) (r : Nat) (hr : r = (min (64 * (t.val + 1)) 2047) * 8 + p.val) (hr' : r < 16384) :
    iblk m c 17 t (ix2 p d) = (kArgs m c).attn ⟨r / 8192, by omega⟩ ⟨r % 8192, by omega⟩ d := by
  rw [← V_v5 m c ⟨r, hr'⟩ d]
  blk_ext! [iblk, idx17 t]

theorem cat0 (t : Fin cfg0.N) (q : Fin 528) (hq : Live t q) (k : Fin 1024) (B : Fin 2) (T : Fin 8192) (hB : B.val = t.val / 16) (hT : T.val + 8 = t.val % 16 * 512 + q.val) :
    catRow (fun p d => iblk m c 6 t (ix2 p d)) (fun p d => iblk m c 0 t (ix2 p d)) (fun p d => iblk m c 12 t (ix2 p d)) q k = (kArgs m c).x B T k :=
  catLive _ _ _ _ t (fun p k => in6 m c t p k) (fun p k => in0 m c t p k) (fun p k => in12 m c t p k) q hq k B T hB hT

theorem cat1 (t : Fin cfg0.N) (q : Fin 528) (hq : Live t q) (k : Fin 512) (B : Fin 2) (T : Fin 8192) (hB : B.val = t.val / 16) (hT : T.val + 8 = t.val % 16 * 512 + q.val) :
    catRow (fun p d => iblk m c 7 t (ix2 p d)) (fun p d => iblk m c 1 t (ix2 p d)) (fun p d => iblk m c 13 t (ix2 p d)) q k = (kArgs m c).yf B T k :=
  catLive _ _ _ _ t (fun p k => in7 m c t p k) (fun p k => in1 m c t p k) (fun p k => in13 m c t p k) q hq k B T hB hT

theorem cat2 (t : Fin cfg0.N) (q : Fin 528) (hq : Live t q) (k : Fin 512) (B : Fin 2) (T : Fin 8192) (hB : B.val = t.val / 16) (hT : T.val + 8 = t.val % 16 * 512 + q.val) :
    catRow (fun p d => iblk m c 8 t (ix2 p d)) (fun p d => iblk m c 2 t (ix2 p d)) (fun p d => iblk m c 14 t (ix2 p d)) q k = (kArgs m c).yb B T k :=
  catLive _ _ _ _ t (fun p k => in8 m c t p k) (fun p k => in2 m c t p k) (fun p k => in14 m c t p k) q hq k B T hB hT

theorem cat3 (t : Fin cfg0.N) (q : Fin 528) (hq : Live t q) (k : Fin 512) (B : Fin 2) (T : Fin 8192) (hB : B.val = t.val / 16) (hT : T.val + 8 = t.val % 16 * 512 + q.val) :
    catRow (fun p d => iblk m c 9 t (ix2 p d)) (fun p d => iblk m c 3 t (ix2 p d)) (fun p d => iblk m c 15 t (ix2 p d)) q k = (kArgs m c).bonus B T k :=
  catLive _ _ _ _ t (fun p k => in9 m c t p k) (fun p k => in3 m c t p k) (fun p k => in15 m c t p k) q hq k B T hB hT

theorem cat4 (t : Fin cfg0.N) (q : Fin 528) (hq : Live t q) (k : Fin 512) (B : Fin 2) (T : Fin 8192) (hB : B.val = t.val / 16) (hT : T.val + 8 = t.val % 16 * 512 + q.val) :
    catRow (fun p d => iblk m c 10 t (ix2 p d)) (fun p d => iblk m c 4 t (ix2 p d)) (fun p d => iblk m c 16 t (ix2 p d)) q k = (kArgs m c).gate B T k :=
  catLive _ _ _ _ t (fun p k => in10 m c t p k) (fun p k => in4 m c t p k) (fun p k => in16 m c t p k) q hq k B T hB hT

theorem cat5 (t : Fin cfg0.N) (q : Fin 528) (hq : Live t q) (k : Fin 512) (B : Fin 2) (T : Fin 8192) (hB : B.val = t.val / 16) (hT : T.val + 8 = t.val % 16 * 512 + q.val) :
    catRow (fun p d => iblk m c 11 t (ix2 p d)) (fun p d => iblk m c 5 t (ix2 p d)) (fun p d => iblk m c 17 t (ix2 p d)) q k = (kArgs m c).attn B T k :=
  catLive _ _ _ _ t (fun p k => in11 m c t p k) (fun p k => in5 m c t p k) (fun p k => in17 m c t p k) q hq k B T hB hT

theorem idx18 : ∀ t : Fin cfg0.N, win0_18.index t = ![0, 0] := (by decide +kernel : ∀ t : Fin grid0.N, _)
theorem V_v6 (d : Fin 512) : V m c main_v6 (ix2 0 d) = (kArgs m c).lw d := by
  unfold V hostOps0
  after_results_simp
  pointwise [kArgs]
theorem in18 (t : Fin cfg0.N) (d : Fin 512) : iblk m c 18 t (ix2 0 d) = (kArgs m c).lw d := by
  rw [← V_v6 m c d]
  blk_ext! [iblk, idx18 t]

theorem idx19 : ∀ t : Fin cfg0.N, win0_19.index t = ![0, 0] := (by decide +kernel : ∀ t : Fin grid0.N, _)
theorem V_v7 (d : Fin 512) : V m c main_v7 (ix2 0 d) = (kArgs m c).lb d := by
  unfold V hostOps0
  after_results_simp
  pointwise [kArgs]
theorem in19 (t : Fin cfg0.N) (d : Fin 512) : iblk m c 19 t (ix2 0 d) = (kArgs m c).lb d := by
  rw [← V_v7 m c d]
  blk_ext! [iblk, idx19 t]

theorem idx21 : ∀ t : Fin cfg0.N, win0_21.index t = ![0, 0] := (by decide +kernel : ∀ t : Fin grid0.N, _)
theorem V_v9 (d : Fin 1024) : V m c main_v9 (ix2 0 d) = (kArgs m c).gf d := by
  unfold V hostOps0
  after_results_simp
  pointwise [kArgs]
theorem in21 (t : Fin cfg0.N) (d : Fin 1024) : iblk m c 21 t (ix2 0 d) = (kArgs m c).gf d := by
  rw [← V_v9 m c d]
  blk_ext! [iblk, idx21 t]

theorem idx24 : ∀ t : Fin cfg0.N, win0_24.index t = ![0, 0] := (by decide +kernel : ∀ t : Fin grid0.N, _)
theorem V_v11 (d : Fin 5632) : V m c main_v11 (ix2 0 d) = (kArgs m c).cb d := by
  unfold V hostOps0
  after_results_simp
  pointwise [kArgs]
theorem in24 (t : Fin cfg0.N) (d : Fin 5632) : iblk m c 24 t (ix2 0 d) = (kArgs m c).cb d := by
  rw [← V_v11 m c d]
  blk_ext! [iblk, idx24 t]

theorem idx20 : ∀ t : Fin cfg0.N, win0_20.index t = ![0, 0] := (by decide +kernel : ∀ t : Fin grid0.N, _)
theorem V_v8 (k : Fin 1024) (d : Fin 1024) : V m c main_v8 (ix2 k d) = (kArgs m c).wo k d := by
  unfold V hostOps0
  after_results_simp
  pointwise [kArgs]
theorem in20 (t : Fin cfg0.N) (k : Fin 1024) (d : Fin 1024) : iblk m c 20 t (ix2 k d) = (kArgs m c).wo k d := by
  rw [← V_v8 m c k d]
  blk_ext! [iblk, idx20 t]

theorem idx22 : ∀ t : Fin cfg0.N, win0_22.index t = ![0, 0] := (by decide +kernel : ∀ t : Fin grid0.N, _)
theorem V_v10 (k : Fin 1024) (d : Fin 5632) : V m c main_v10 (ix2 k d) = (kArgs m c).wu k d := by
  unfold V hostOps0
  after_results_simp
  pointwise [kArgs]
theorem in22 (t : Fin cfg0.N) (k : Fin 1024) (d : Fin 5632) : iblk m c 22 t (ix2 k d) = (kArgs m c).wu k d := by
  rw [← V_v10 m c k d]
  blk_ext! [iblk, idx22 t]

theorem idx25 : ∀ t : Fin cfg0.N, win0_25.index t = ![0, 0] := (by decide +kernel : ∀ t : Fin grid0.N, _)
theorem V_v12 (k : Fin 2816) (d : Fin 1024) : V m c main_v12 (ix2 k d) = (kArgs m c).wd k d := by
  unfold V hostOps0
  after_results_simp
  pointwise [kArgs]
theorem in25 (t : Fin cfg0.N) (k : Fin 2816) (d : Fin 1024) : iblk m c 25 t (ix2 k d) = (kArgs m c).wd k d := by
  rw [← V_v12 m c k d]
  blk_ext! [iblk, idx25 t]

theorem idx23 : ∀ t : Fin cfg0.N, win0_23.index t = ![0, 0] := (by decide +kernel : ∀ t : Fin grid0.N, _)
theorem V_arg11 (k : Fin 3) (d : Fin 5632) : V m c main_arg11 (ix2 k d) = (kArgs m c).cw k d := by
  rw [V_main_arg11 m c]; rfl
theorem in23 (t : Fin cfg0.N) (k : Fin 3) (d : Fin 5632) : iblk m c 23 t (ix2 k d) = (kArgs m c).cw k d := by
  rw [← V_arg11 m c k d]
  blk_ext! [iblk, idx23 t]

end Cert.Proof.Ffn
-- ==== Proof.LoadAt.lean ====
module

public import Idealize.ShloMosaic.Lib.Pipeline.ValueKit
public import Idealize.ShloMosaic.Lib.Pointwise

/-! Indices with given coordinates, and loads of rectangles at an entry. -/

@[expose] public section

noncomputable section

namespace Cert.Proof.Ffn

open Idealize.ShloMosaic Idealize.ShloMosaic.TcCoe

/-- An index with given coordinates. -/
theorem eq_ix2 {a b : Nat} (x : (⟨2, ![a, b]⟩ : Shape).Idx) (p : Fin a) (q : Fin b) (h0 : p.val = (x 0).val) (h1 : q.val = (x 1).val) : x = ix2 p q := by
  funext r
  match r with
  | ⟨0, _⟩ => exact Fin.ext h0.symm
  | ⟨1, _⟩ => exact Fin.ext h1.symm

/-- A load of a rectangle of a matrix, at an entry. -/
theorem ld_at {a b n w o1 o2 : Nat} {e : EltTy} (X : Vec Ideal (⟨2, ![a, b]⟩ : Shape) e) (inb : ∀ q, (![o1, o2] : Fin 2 → Nat) q + (![n, w] : Fin 2 → Nat) q ≤ (⟨2, ![a, b]⟩ : Shape).size q)
    (k : Fin n) (l : Fin w) (hk : o1 + k.val < a) (hl : o2 + l.val < b) :
    View.ld X (Rect.unit (s := (⟨2, ![a, b]⟩ : Shape)) ![o1, o2] ![n, w] inb) (ix2 k l) = X (ix2 ⟨o1 + k.val, hk⟩ ⟨o2 + l.val, hl⟩) := by
  refine View.ld_unit_apply_of X _ _ inb _ _ fun q => ?_
  match q with
  | ⟨0, _⟩ => rfl
  | ⟨1, _⟩ => rfl

end Cert.Proof.Ffn
-- ==== Proof.FfnBlock.lean ====
module

public import proofs.«01_k».proof.Proof.OutFfnIdealFrame
public import proofs.«01_k».proof.Proof.FfnChunk
public import proofs.«01_k».proof.Proof.FfnIn
public import proofs.«01_k».proof.Proof.LoadAt

/-! What the body leaves in the output block at one grid point: the call's result at the block's 512 positions. -/

@[expose] public section

set_option maxRecDepth 16384

noncomputable section

namespace Cert.Proof.Ffn

open Idealize.ShloMosaic Idealize.ShloMosaic.TcCoe
open Cert.OutFfnIdeal Cert.OutFfnIdeal.Gen Cert.Proof.OutFfnIdeal

/-- The four stores cover the activation scratch. -/
theorem act_cover (P0 P1 P2 : Vec Ideal S512x768 .bf16) (P3 : Vec Ideal S512x512 .bf16) (p : Fin 512) (f : Fin 2816) :
    ∃ pc ∈ ([⟨Rect.unit ![0, 2304] ![512, 512] inb_S512x2816_S512x512_0_2304, P3⟩, ⟨Rect.unit ![0, 1536] ![512, 768] inb_S512x2816_S512x768_0_1536, P2⟩,
      ⟨Rect.unit ![0, 768] ![512, 768] inb_S512x2816_S512x768_0_768, P1⟩, ⟨Rect.unit ![0, 0] ![512, 768] inb_S512x2816_S512x768_0_0, P0⟩] : List (View.Piece (Elt Ideal) S512x2816 .bf16)), (ix2 p f : S512x2816.Idx) ∈ pc.1.set := by
  have hp := p.isLt
  have hf := f.isLt
  have key : ∀ (o w : Nat) (inb : ∀ q, (![0, o] : Fin 2 → Nat) q + (![512, w] : Fin 2 → Nat) q ≤ S512x2816.size q), o ≤ f.val → f.val < o + w →
      (ix2 p f : S512x2816.Idx) ∈ (Rect.unit (s := S512x2816) ![0, o] ![512, w] inb).set := by
    intro o w inb h1 h2
    rw [Rect.mem_set_unit]
    intro q
    match q with
    | ⟨0, _⟩ => exact ⟨Nat.zero_le _, by show p.val < 0 + 512; omega⟩
    | ⟨1, _⟩ => exact ⟨h1, h2⟩
  by_cases a : 2304 ≤ f.val
  · exact ⟨_, List.mem_cons_self, key _ _ (by decide) a (by omega)⟩
  by_cases b : 1536 ≤ f.val
  · exact ⟨_, List.mem_cons_of_mem _ List.mem_cons_self, key _ _ (by decide) b (by omega)⟩
  by_cases c : 768 ≤ f.val
  · exact ⟨_, List.mem_cons_of_mem _ (List.mem_cons_of_mem _ List.mem_cons_self), key _ _ (by decide) c (by omega)⟩
  · exact ⟨_, List.mem_cons_of_mem _ (List.mem_cons_of_mem _ (List.mem_cons_of_mem _ List.mem_cons_self)), key _ _ (by decide) (Nat.zero_le _) (by omega)⟩

/-- The activation scratch after its four stores, at an entry. -/
theorem act_at (P0 P1 P2 : Vec Ideal S512x768 .bf16) (P3 : Vec Ideal S512x512 .bf16) (p : Fin 512) (G : Fin 2816 → EReal)
    (h0 : ∀ l : Fin 768, P0 (ix2 p l) = G ⟨l.val, by omega⟩) (h1 : ∀ l : Fin 768, P1 (ix2 p l) = G ⟨768 + l.val, by omega⟩)
    (h2 : ∀ l : Fin 768, P2 (ix2 p l) = G ⟨1536 + l.val, by omega⟩) (h3 : ∀ l : Fin 512, P3 (ix2 p l) = G ⟨2304 + l.val, by omega⟩) (f : Fin 2816) :
    View.canon (Val := Elt Ideal) (s := S512x2816) (e := .bf16) [⟨Rect.unit ![0, 2304] ![512, 512] inb_S512x2816_S512x512_0_2304, P3⟩, ⟨Rect.unit ![0, 1536] ![512, 768] inb_S512x2816_S512x768_0_1536, P2⟩,
      ⟨Rect.unit ![0, 768] ![512, 768] inb_S512x2816_S512x768_0_768, P1⟩, ⟨Rect.unit ![0, 0] ![512, 768] inb_S512x2816_S512x768_0_0, P0⟩] (ix2 p f) = G f := by
  have hf : f.val < 2816 := f.isLt
  have g0 := h0
  have g1 := h1
  canon_tiles x h using (act_cover P0 P1 P2 P3 p f)
  · exact (congrArg P3 (eq_ix2 x p ⟨_, x1_lt⟩ h0 rfl)).trans ((h3 _).trans (congrArg G (Fin.ext h1.symm)))
  · exact (congrArg P2 (eq_ix2 x p ⟨_, x1_lt⟩ h0 rfl)).trans ((h2 _).trans (congrArg G (Fin.ext h1.symm)))
  · exact (congrArg P1 (eq_ix2 x p ⟨_, x1_lt⟩ h0 rfl)).trans ((g1 _).trans (congrArg G (Fin.ext h1.symm)))
  · exact (congrArg P0 (eq_ix2 x p ⟨_, x1_lt⟩ h0 rfl)).trans ((g0 _).trans (congrArg G (Fin.ext h1.symm)))

theorem first_flag : ∀ t : Fin cfg0.N, Scalar.cmpi CmpIPredicate.eq
                    (Scalar.select
                      (Scalar.andi
                        (Scalar.xori
                          (Scalar.cmpi CmpIPredicate.slt (Scalar.remsi (BitVec.ofNat 32 (grid0.coords t 0).val) 16#32)
                            0#32)
                          0#1)
                        (Scalar.cmpi CmpIPredicate.ne (Scalar.remsi (BitVec.ofNat 32 (grid0.coords t 0).val) 16#32) 0#32))
                      (Scalar.addi (Scalar.remsi (BitVec.ofNat 32 (grid0.coords t 0).val) 16#32) 16#32)
                      (Scalar.remsi (BitVec.ofNat 32 (grid0.coords t 0).val) 16#32))
                    0#32 = BitVec.ofBool (decide (t.val % 16 = 0)) := (by decide +kernel : ∀ t : Fin grid0.N, _)

theorem last_flag : ∀ t : Fin cfg0.N, Scalar.cmpi CmpIPredicate.eq
                    (Scalar.select
                      (Scalar.andi
                        (Scalar.xori
                          (Scalar.cmpi CmpIPredicate.slt (Scalar.remsi (BitVec.ofNat 32 (grid0.coords t 0).val) 16#32)
                            0#32)
                          0#1)
                        (Scalar.cmpi CmpIPredicate.ne (Scalar.remsi (BitVec.ofNat 32 (grid0.coords t 0).val) 16#32) 0#32))
                      (Scalar.addi (Scalar.remsi (BitVec.ofNat 32 (grid0.coords t 0).val) 16#32) 16#32)
                      (Scalar.remsi (BitVec.ofNat 32 (grid0.coords t 0).val) 16#32))
                    15#32 = BitVec.ofBool (decide (t.val % 16 = 15)) := (by decide +kernel : ∀ t : Fin grid0.N, _)

/-- The residual row from the entries it is made of. -/
theorem res_of (v28 : FVec Ideal S528x1024 .f32) (v49 v56 v63 v115 : FVec Ideal S528x512 .f32) (v116 v120 : Vec Ideal S1x512 .f32) (v127 v132 : Vec Ideal S512x1024 .bf16)
    (q : Fin 528) (x : Fin 1024 → EReal) (y bo ga at_ lw lb : Fin 512 → EReal) (wo : Fin 1024 → Fin 1024 → EReal)
    (h28 : ∀ d, v28 (ix2 q d) = x d) (h49 : ∀ k, v49 (ix2 q k) = bo k) (h56 : ∀ k, v56 (ix2 q k) = ga k) (h63 : ∀ k, v63 (ix2 q k) = at_ k)
    (h115 : ∀ k, v115 (ix2 q k) = rowNorm (1 / 64) lnxEps y k) (h116 : ∀ k, v116 (ix2 0 k) = lw k) (h120 : ∀ k, v120 (ix2 0 k) = lb k)
    (h127 : ∀ (k : Fin 512) d, v127 (ix2 k d) = wo ⟨k.val, by omega⟩ d) (h132 : ∀ (k : Fin 512) d, v132 (ix2 k d) = wo ⟨512 + k.val, by omega⟩ d) (d : Fin 1024) :
    k0_pay12 v28 v49 v56 v63 v115 v116 v120 v127 v132 (ix2 q d)
      = resRow x (fun k => (rowNorm (1 / 64) lnxEps y k * lw k + lb k + bo k) * ga k) at_ wo d := by
  rw [pay12_at]
  unfold resRow
  simp only [h28, h49, h56, h63, h115, h116, h120, h127, h132]

variable (m : (ℓ : Loc nD τ sig) → Buf (Elt Ideal) ℓ) (c : Dev nD)

/-- The residual rows of a block with its halos. -/
theorem res_at (t : Fin cfg0.N) (q : Fin 528) (hq : Live t q) (d : Fin 1024) (B : Fin 2) (T : Fin 8192) (hB : B.val = t.val / 16) (hT : T.val + 8 = t.val % 16 * 512 + q.val) :
    k0_pay12 (k0_pay3 (iblk m c 6 t) (iblk m c 0 t) (iblk m c 12 t))
                  (k0_pay6 (iblk m c 9 t) (iblk m c 3 t) (iblk m c 15 t))
                  (k0_pay7 (iblk m c 10 t) (iblk m c 4 t) (iblk m c 16 t))
                  (k0_pay8 (iblk m c 11 t) (iblk m c 5 t) (iblk m c 17 t))
                  (k0_pay11
                    (k0_pay9 (k0_pay4 (iblk m c 7 t)) (k0_pay5 (iblk m c 1 t)) (iblk m c 13 t) (iblk m c 8 t)
                      (iblk m c 2 t) (iblk m c 14 t))
                    k0_pay10)
                  (iblk m c 18 t) (iblk m c 19 t)
                  (View.ld (iblk m c 20 t) (Rect.unit ![0, 0] ![512, 1024] inb_S1024x1024_S512x1024_0_0))
                  (View.ld (iblk m c 20 t) (Rect.unit ![512, 0] ![512, 1024] inb_S1024x1024_S512x1024_512_0)) (ix2 q d)
      = (kArgs m c).res B T d := by
  refine res_of _ _ _ _ _ _ _ _ _ q ((kArgs m c).x B T) (fun k => (kArgs m c).yf B T k + (kArgs m c).yb B T k) ((kArgs m c).bonus B T) ((kArgs m c).gate B T)
    ((kArgs m c).attn B T) (kArgs m c).lw (kArgs m c).lb (kArgs m c).wo ?_ ?_ ?_ ?_ ?_ ?_ ?_ ?_ ?_ d
  · exact fun d => (pay3_at _ _ _ q d).trans (cat0 m c t q hq d B T hB hT)
  · exact fun d => (pay6_at _ _ _ q d).trans (cat3 m c t q hq d B T hB hT)
  · exact fun d => (pay7_at _ _ _ q d).trans (cat4 m c t q hq d B T hB hT)
  · exact fun d => (pay8_at _ _ _ q d).trans (cat5 m c t q hq d B T hB hT)
  · intro k
    refine (pay11_at _ q k).trans (congrArg (fun f => rowNorm (1 / 64) lnxEps f k) (funext fun k' => ?_))
    rw [pay9_at, cat1 m c t q hq k' B T hB hT, cat2 m c t q hq k' B T hB hT]
  · exact in18 m c t
  · exact in19 m c t
  · intro k d
    refine (ld_at _ _ k d (by omega) (by omega)).trans ((in20 m c t _ _).trans ?_)
    exact congrArg₂ (kArgs m c).wo (Fin.ext (Nat.zero_add _)) (Fin.ext (Nat.zero_add _))
  · intro k d
    refine (ld_at _ _ k d (by omega) (by omega)).trans ((in20 m c t _ _).trans ?_)
    exact congrArg₂ (kArgs m c).wo rfl (Fin.ext (Nat.zero_add _))

/-- The normalised rows of a block with its halos. -/
theorem norm_at (t : Fin cfg0.N) (q : Fin 528) (hq : Live t q) (d : Fin 1024) (B : Fin 2) (T : Fin 8192) (hB : B.val = t.val / 16) (hT : T.val + 8 = t.val % 16 * 512 + q.val) :
    k0_pay14 (k0_pay3 (iblk m c 6 t) (iblk m c 0 t) (iblk m c 12 t))
                  (k0_pay6 (iblk m c 9 t) (iblk m c 3 t) (iblk m c 15 t))
                  (k0_pay7 (iblk m c 10 t) (iblk m c 4 t) (iblk m c 16 t))
                  (k0_pay8 (iblk m c 11 t) (iblk m c 5 t) (iblk m c 17 t))
                  (k0_pay11
                    (k0_pay9 (k0_pay4 (iblk m c 7 t)) (k0_pay5 (iblk m c 1 t)) (iblk m c 13 t) (iblk m c 8 t)
                      (iblk m c 2 t) (iblk m c 14 t))
                    k0_pay10)
                  (iblk m c 18 t) (iblk m c 19 t)
                  (View.ld (iblk m c 20 t) (Rect.unit ![0, 0] ![512, 1024] inb_S1024x1024_S512x1024_0_0))
                  (View.ld (iblk m c 20 t) (Rect.unit ![512, 0] ![512, 1024] inb_S1024x1024_S512x1024_512_0)) (iblk m c 21 t) (ix2 q d)
      = (kArgs m c).hid B T d :=
  (pay14_at _ _ _ _ _ _ _ _ _ _ q d).trans (congrArg₂ (fun f g => rmsRow f g d) (funext fun e => res_at m c t q hq e B T hB hT) (funext fun e => in21 m c t e))

/-- The residual rows of the block itself. -/
theorem resid_at (t : Fin cfg0.N) (p : Fin 512) (d : Fin 1024) (B : Fin 2) (T : Fin 8192) (hB : B.val = t.val / 16) (hT : T.val = t.val % 16 * 512 + p.val) :
    k0_pay13 (k0_pay3 (iblk m c 6 t) (iblk m c 0 t) (iblk m c 12 t))
                  (k0_pay6 (iblk m c 9 t) (iblk m c 3 t) (iblk m c 15 t))
                  (k0_pay7 (iblk m c 10 t) (iblk m c 4 t) (iblk m c 16 t))
                  (k0_pay8 (iblk m c 11 t) (iblk m c 5 t) (iblk m c 17 t))
                  (k0_pay11
                    (k0_pay9 (k0_pay4 (iblk m c 7 t)) (k0_pay5 (iblk m c 1 t)) (iblk m c 13 t) (iblk m c 8 t)
                      (iblk m c 2 t) (iblk m c 14 t))
                    k0_pay10)
                  (iblk m c 18 t) (iblk m c 19 t)
                  (View.ld (iblk m c 20 t) (Rect.unit ![0, 0] ![512, 1024] inb_S1024x1024_S512x1024_0_0))
                  (View.ld (iblk m c 20 t) (Rect.unit ![512, 0] ![512, 1024] inb_S1024x1024_S512x1024_512_0)) (ix2 p d)
      = (kArgs m c).res B T d :=
  (pay13_at _ _ _ _ _ _ _ _ _ p d).trans (res_at m c t ⟨p.val + 8, by omega⟩ ⟨by simp only; omega, by simp only; omega, fun h => by simp only at h; omega, fun h => by simp only at h; omega⟩ d B T hB (by simp only; omega))

/-- The rows that the convolution reads: the row before, the row and the row after, zero past the sequence's ends. -/
theorem hid_rows (V150 : FVec Ideal S528x1024 .f32) (t : Fin cfg0.N) (hid : Fin 8192 → Fin 1024 → EReal)
    (hN : ∀ q, Live t q → ∀ d (T : Fin 8192), T.val + 8 = t.val % 16 * 512 + q.val → V150 (ix2 q d) = hid T d)
    (p : Fin 512) (T : Fin 8192) (hT : T.val = t.val % 16 * 512 + p.val) :
    rowOf (k0_pay18 V150 (k0_pay15 (BitVec.ofBool (decide (t.val % 16 = 0)))) k0_pay16 (k0_pay17 (BitVec.ofBool (decide (t.val % 16 = 15))))) ⟨p.val + 7, by omega⟩ = prevRow hid T
    ∧ rowOf (k0_pay18 V150 (k0_pay15 (BitVec.ofBool (decide (t.val % 16 = 0)))) k0_pay16 (k0_pay17 (BitVec.ofBool (decide (t.val % 16 = 15))))) ⟨p.val + 8, by omega⟩ = hid T
    ∧ rowOf (k0_pay18 V150 (k0_pay15 (BitVec.ofBool (decide (t.val % 16 = 0)))) k0_pay16 (k0_pay17 (BitVec.ofBool (decide (t.val % 16 = 15))))) ⟨p.val + 9, by omega⟩ = nextRow hid T := by
  have hp := p.isLt
  have hb : ∀ (P : Prop) [Decidable P], (BitVec.ofBool (decide P) = 1#1) = P := by
    intro P _
    by_cases h : P <;> simp [h]
  refine ⟨funext fun k => ?_, funext fun k => ?_, funext fun k => ?_⟩
  · unfold rowOf prevRow
    rw [pay18_at]
    simp only [hb]
    by_cases h : 0 < T.val
    · rw [if_neg (by omega), if_pos h]
      exact hN _ ⟨by simp only; omega, by simp only; omega, fun h => by simp only at h; omega, fun h => by simp only at h; omega⟩ k _ (by simp only; omega)
    · rw [if_pos (by omega), if_neg h]
  · unfold rowOf
    rw [pay18_at]
    simp only [hb]
    rw [if_neg (by omega)]
    exact hN _ ⟨by simp only; omega, by simp only; omega, fun h => by simp only at h; omega, fun h => by simp only at h; omega⟩ k _ (by simp only; omega)
  · unfold rowOf nextRow
    rw [pay18_at]
    simp only [hb]
    by_cases h : T.val + 1 < 8192
    · rw [if_neg (by omega), dif_pos h]
      exact hN _ ⟨by simp only; omega, by simp only; omega, fun h => by simp only at h; omega, fun h => by simp only at h; omega⟩ k _ (by simp only; omega)
    · rw [if_pos (by omega), dif_neg h]

/-- One column of the convolved up-projection, from the loads of its weights. -/
theorem col_at {w : Nat} (t : Fin cfg0.N) (H : FVec Ideal S528x1024 .bf16) (p : Fin 512) (h0 h1 h2 : Fin 1024 → EReal)
    (r0 : rowOf H ⟨p.val + 7, by omega⟩ = h0) (r1 : rowOf H ⟨p.val + 8, by omega⟩ = h1) (r2 : rowOf H ⟨p.val + 9, by omega⟩ = h2)
    (o : Nat) (i22 : ∀ q, (![0, o] : Fin 2 → Nat) q + (![1024, w] : Fin 2 → Nat) q ≤ S1024x5632.size q)
    (i0 : ∀ q, (![0, o] : Fin 2 → Nat) q + (![1, w] : Fin 2 → Nat) q ≤ S3x5632.size q) (i1 : ∀ q, (![1, o] : Fin 2 → Nat) q + (![1, w] : Fin 2 → Nat) q ≤ S3x5632.size q)
    (i2 : ∀ q, (![2, o] : Fin 2 → Nat) q + (![1, w] : Fin 2 → Nat) q ≤ S3x5632.size q) (i24 : ∀ q, (![0, o] : Fin 2 → Nat) q + (![1, w] : Fin 2 → Nat) q ≤ S1x5632.size q)
    (l : Fin w) (f : Fin 5632) (hf : f.val = o + l.val) :
    convBlk (rowOf H) (colOf (n := 1024) (k := w) (View.ld (iblk m c 22 t) (Rect.unit ![0, o] ![1024, w] i22)) l)
        (View.ld (iblk m c 23 t) (Rect.unit ![0, o] ![1, w] i0) (ix2 0 l)) (View.ld (iblk m c 23 t) (Rect.unit ![1, o] ![1, w] i1) (ix2 0 l))
        (View.ld (iblk m c 23 t) (Rect.unit ![2, o] ![1, w] i2) (ix2 0 l)) (View.ld (iblk m c 24 t) (Rect.unit ![0, o] ![1, w] i24) (ix2 0 l)) p
      = convAt h0 h1 h2 (fun k => (kArgs m c).wu k f) ((kArgs m c).cw 0 f) ((kArgs m c).cw 1 f) ((kArgs m c).cw 2 f) ((kArgs m c).cb f) := by
  have ho : o + l.val < 5632 := hf ▸ f.isLt
  obtain rfl : f = ⟨o + l.val, ho⟩ := Fin.ext hf
  have e22 : colOf (n := 1024) (k := w) (View.ld (iblk m c 22 t) (Rect.unit ![0, o] ![1024, w] i22)) l = fun k => (kArgs m c).wu k ⟨o + l.val, ho⟩ :=
    funext fun k => (ld_at _ i22 k l (by omega) ho).trans ((in22 m c t _ _).trans (congrArg (fun k => (kArgs m c).wu k _) (Fin.ext (Nat.zero_add _))))
  have e0 := (ld_at (iblk m c 23 t) i0 0 l (by decide) ho).trans (in23 m c t _ _)
  have e1 := (ld_at (iblk m c 23 t) i1 0 l (by decide) ho).trans (in23 m c t _ _)
  have e2 := (ld_at (iblk m c 23 t) i2 0 l (by decide) ho).trans (in23 m c t _ _)
  have e24 := (ld_at (iblk m c 24 t) i24 0 l (by decide) ho).trans (in24 m c t _)
  unfold convBlk
  rw [r0, r1, r2, e22]
  exact congr (congr (congr (congrArg (convAt h0 h1 h2 _) e0) e1) e2) e24

/-- The output block at point `t`: the call's result at the block's positions. -/
theorem block_at (t : Fin cfg0.N) (p : Fin 512) (d : Fin 1024) (B : Fin 2) (T : Fin 8192) (hB : B.val = t.val / 16) (hT : T.val = t.val % 16 * 512 + p.val) :
    outsAt0 m c t (ix2 p d) = (kArgs m c).out B T d := by
  unfold outsAt0
  frame_out
  rw [first_flag t, last_flag t, View.readCov_eq_canon_ld]
  swap
  · intro y; rw [eq_ix2 y (y 0) (y 1) rfl rfl]; exact act_cover _ _ _ _ _ _
  simp (disch := decide) only [View.ld_unit_lit']
  have hN : ∀ q, Live t q → ∀ d (T : Fin 8192), T.val + 8 = t.val % 16 * 512 + q.val → _ = (kArgs m c).hid B T d :=
    fun q hq d T hT => norm_at m c t q hq d B T hB hT
  have hR := resid_at m c t p d B T hB hT
  generalize k0_pay14 (F := Ideal) _ _ _ _ _ _ _ _ _ _ = V150 at hN ⊢
  generalize k0_pay13 (F := Ideal) _ _ _ _ _ _ _ _ _ = V136 at hR ⊢
  obtain ⟨r0, r1, r2⟩ := hid_rows V150 t _ hN p T hT
  rw [pay2_at, hR]
  unfold Args.out outRow
  refine congrArg _ (Finset.sum_congr rfl fun f _ => ?_)
  rw [in25]
  refine congrArg (· * _) (act_at _ _ _ _ p (actRow _ _ _ (kArgs m c).wu (kArgs m c).cw (kArgs m c).cb) (fun l => ?_) (fun l => ?_) (fun l => ?_) (fun l => ?_) f)
  · exact (chunk0_at _ _ _ _ _ _ _ _ _ _ _ _ _ _ p l).trans (congrArg₂ glu
      (col_at m c t _ p _ _ _ r0 r1 r2 0 _ _ _ _ _ l _ (Nat.zero_add _).symm) (col_at m c t _ p _ _ _ r0 r1 r2 2816 _ _ _ _ _ l _ rfl))
  · exact (chunk1_at _ _ _ _ _ _ _ _ _ _ _ p l).trans (congrArg₂ glu
      (col_at m c t _ p _ _ _ r0 r1 r2 768 _ _ _ _ _ l _ rfl) (col_at m c t _ p _ _ _ r0 r1 r2 3584 _ _ _ _ _ l _ (by simp only; omega)))
  · exact (chunk2_at _ _ _ _ _ _ _ _ _ _ _ p l).trans (congrArg₂ glu
      (col_at m c t _ p _ _ _ r0 r1 r2 1536 _ _ _ _ _ l _ rfl) (col_at m c t _ p _ _ _ r0 r1 r2 4352 _ _ _ _ _ l _ (by simp only; omega)))
  · exact (chunk3_at _ _ _ _ _ _ _ _ _ _ _ p l).trans (congrArg₂ glu
      (col_at m c t _ p _ _ _ r0 r1 r2 2304 _ _ _ _ _ l _ rfl) (col_at m c t _ p _ _ _ r0 r1 r2 5120 _ _ _ _ _ l _ (by simp only; omega)))

end Cert.Proof.Ffn
-- ==== Proof.FfnValue.lean ====
module

public import proofs.«01_k».proof.Proof.FfnBlock
public import Idealize.ShloMosaic.Lib.Pipeline.ValueKit

/-! The kernel's result array after the run: the call's result at every position. -/

@[expose] public section

set_option maxRecDepth 16384

noncomputable section

namespace Cert.Proof.Ffn

open Idealize.ShloMosaic Idealize.ShloMosaic.TcCoe Idealize.SL.Sem
open Cert.OutFfnIdeal Cert.OutFfnIdeal.Gen Cert.Proof.OutFfnIdeal

/-- The result array that the call's inputs give: row `r` is position `r % 8192` of sequence `r / 8192`. -/
def outArr (A : Args) : FVec Ideal S16384x1024 .f32 := fun i =>
  A.out ⟨(i 0).val / 8192, by have h : (i 0).val < 16384 := (i 0).isLt; omega⟩ ⟨(i 0).val % 8192, by omega⟩ ⟨(i 1).val, (i 1).isLt⟩

variable (m : (ℓ : Loc nD τ sig) → Buf (Elt Ideal) ℓ) (ρ : Dev nD → PrngReg)

/-- The output block of point `t` starts at row `512 t`. -/
theorem idx26 : ∀ t : Fin cfg0.N, win0_26.index t = ![t.val, 0] :=
  (by decide +kernel : ∀ t : Fin grid0.N, win0_26.index t = ![t.val, 0])

/-- After the run the result array holds the call's result. -/
theorem final26 (c : Dev nD) : (dats m 0 c).arrAt 26 cfg0.N = outArr (kArgs m c) := by
  refine (dats m 0 c).arrAt_eq_of_covers 26 _ (by decide +kernel) fun t hf y => ?_
  blk_simp
  rw [after0_26]
  have ht := lt32 t
  have hy0 : (y 0).val < 512 := (y 0).isLt
  have hy1 : (y 1).val < 1024 := (y 1).isLt
  have e0 : (((win0_26.blk t).view.emb y) 0).val = t.val * 512 + (y 0).val := by blk_simp [idx26 t]
  have e1 : (((win0_26.blk t).view.emb y) 1).val = (y 1).val := by blk_simp [idx26 t]
  refine (congrArg (outsAt0 m c t) (eq_ix2 y ⟨_, hy0⟩ ⟨_, hy1⟩ rfl rfl)).trans ((block_at m c t ⟨_, hy0⟩ ⟨_, hy1⟩ ⟨t.val / 16, by omega⟩ ⟨t.val % 16 * 512 + (y 0).val, by omega⟩ rfl rfl).trans ?_)
  unfold outArr
  congr 1 <;> refine Fin.ext ?_ <;> simp only [e0, e1] <;> omega

/-- The kernel's run: the result array holds the call's result, the arguments are unchanged. -/
theorem run : θ_run defs (onTc (τ := τ) (main (F := Ideal))) ⟨m, fun _ => 0, ρ⟩ (fun r => ∀ c : Dev nD,
      r.2.mem ((c.tc : Thread nD τ).loc main_v13) = outArr (kArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  θ_run_mono (θ_run_and (run_main m ρ) (unchanged m ρ)) fun r h c => ⟨((h.1 c).1 26).trans (final26 m c), h.2 c⟩

end Cert.Proof.Ffn

end
-- ==== Proof.FfnRef.lean ====
module

public import proofs.«01_k».proof.Proof.Gen.OutFfnRefIdeal.Read
public import proofs.«01_k».proof.Proof.FfnSpec
public import Idealize.ShloMosaic.Lib.Pointwise

/-! The reference of the last call, stage by stage, at an index. -/

@[expose] public section

set_option maxRecDepth 16384

noncomputable section

namespace Cert.Proof.Ffn

open Idealize.ShloMosaic
open Cert.OutFfnRefIdeal Cert.OutFfnRefIdeal.Gen Cert.OutFfnRefIdeal.Read

variable (x0 : (⟨S2x8192x1024, .f32⟩ : BufTy).Contents (Elt Ideal)) (x1 : (⟨S2x8192x512, .f32⟩ : BufTy).Contents (Elt Ideal)) (x2 : (⟨S2x8192x512, .f32⟩ : BufTy).Contents (Elt Ideal)) (x3 : (⟨S2x8192x512, .f32⟩ : BufTy).Contents (Elt Ideal)) (x4 : (⟨S2x8192x512, .f32⟩ : BufTy).Contents (Elt Ideal)) (x5 : (⟨S2x8192x512, .f32⟩ : BufTy).Contents (Elt Ideal)) (x6 : (⟨S512, .f32⟩ : BufTy).Contents (Elt Ideal)) (x7 : (⟨S512, .f32⟩ : BufTy).Contents (Elt Ideal)) (x8 : (⟨S1024x1024, .f32⟩ : BufTy).Contents (Elt Ideal)) (x9 : (⟨S1024, .f32⟩ : BufTy).Contents (Elt Ideal)) (x10 : (⟨S1024x5632, .f32⟩ : BufTy).Contents (Elt Ideal)) (x11 : (⟨S3x5632, .f32⟩ : BufTy).Contents (Elt Ideal)) (x12 : (⟨S5632, .f32⟩ : BufTy).Contents (Elt Ideal)) (x13 : (⟨S2816x1024, .f32⟩ : BufTy).Contents (Elt Ideal))

/-- The arguments, by coordinates. -/
abbrev refArgs : Args where
  x b t k := x0 (ix3 b t k)
  yf b t k := x1 (ix3 b t k)
  yb b t k := x2 (ix3 b t k)
  bonus b t k := x3 (ix3 b t k)
  gate b t k := x4 (ix3 b t k)
  attn b t k := x5 (ix3 b t k)
  lw k := x6 (ix1 k)
  lb k := x7 (ix1 k)
  wo i j := x8 (ix2 i j)
  gf k := x9 (ix1 k)
  wu i j := x10 (ix2 i j)
  cw i j := x11 (ix2 i j)
  cb k := x12 (ix1 k)
  wd i j := x13 (ix2 i j)

theorem ref1 (b : Fin 2) (t : Fin 8192) (h : Fin 8) (s : Fin 64) :
    val_main_v1 (F := Ideal) x1 x2 (ix4 b t h s) = x1 (ix3 b t ⟨64 * h.val + s.val, by omega⟩) + x2 (ix3 b t ⟨64 * h.val + s.val, by omega⟩) := by
  pointwise [val_main_v1, val_main_v0]
  simp only [Nat.mul_comm]

theorem ref5 (b : Fin 2) (t : Fin 8192) (h : Fin 8) :
    val_main_v5 (F := Ideal) x1 x2 (ix4 b t h 0) = (∑ s : Fin 64, val_main_v1 (F := Ideal) x1 x2 (ix4 b t h s)) * ((1 / 64 : ℝ) : EReal) := by
  pointwise [val_main_v5, val_main_v4, val_main_v3, val_main_v2, val_main_cst, val_main_cst_0]
  rw [ofBits_64, div_real _ 64 (by norm_num)]

theorem ref20 (b : Fin 2) (t : Fin 8192) (c : Fin 512) :
    val_main_v20 (F := Ideal) x1 x2 (ix3 b t c) = rowNorm (1 / 64) lnxEps (fun k => x1 (ix3 b t k) + x2 (ix3 b t k)) c := by
  pointwise [val_main_v20, val_main_v19, val_main_v18, val_main_v17, val_main_v16, val_main_v15, val_main_v14, val_main_v13, val_main_v12, val_main_v11, val_main_v10, val_main_v9, val_main_v8, val_main_v7, val_main_v6, val_main_cst_1, val_main_cst_2, val_main_cst_3]
  rw [ofBits_64, ofBits_lnxEps, div_real _ 64 (by norm_num)]
  simp only [ref5, ref1]
  rfl

theorem ref28 (b : Fin 2) (t : Fin 8192) (c : Fin 512) :
    val_main_v28 (F := Ideal) x1 x2 x3 x4 x6 x7 (ix3 b t c) = (refArgs x0 x1 x2 x3 x4 x5 x6 x7 x8 x9 x10 x11 x12 x13).mix b t c := by
  pointwise [val_main_v28, val_main_v27, val_main_v26, val_main_v25, val_main_v24, val_main_v23, val_main_v22, val_main_v21]
  rw [ref20]; rfl

theorem ref31 (b : Fin 2) (t : Fin 8192) (d : Fin 1024) :
    val_main_v31 (F := Ideal) x0 x1 x2 x3 x4 x5 x6 x7 x8 (ix3 b t d) = (refArgs x0 x1 x2 x3 x4 x5 x6 x7 x8 x9 x10 x11 x12 x13).res b t d := by
  pointwise [val_main_v31, val_main_v30, val_main_v29]
  simp only [ref28 x0 x1 x2 x3 x4 x5 x6 x7 x8 x9 x10 x11 x12 x13]
  unfold Args.res resRow
  rw [add_assoc]

theorem ref44 (b : Fin 2) (t : Fin 8192) (d : Fin 1024) :
    val_main_v44 (F := Ideal) x0 x1 x2 x3 x4 x5 x6 x7 x8 x9 (ix3 b t d) = (refArgs x0 x1 x2 x3 x4 x5 x6 x7 x8 x9 x10 x11 x12 x13).hid b t d := by
  pointwise [val_main_v44, val_main_v43, val_main_v42, val_main_v41, val_main_v40, val_main_v39, val_main_v38, val_main_v37, val_main_v36, val_main_v35, val_main_v34, val_main_v33, val_main_v32, val_main_cst_4, val_main_cst_5, val_main_cst_6]
  simp only [ref31 x0 x1 x2 x3 x4 x5 x6 x7 x8 x9 x10 x11 x12 x13]
  rfl

theorem ref71 (b : Fin 2) (t : Fin 8192) (f : Fin 5632) :
    val_main_v71 (F := Ideal) x0 x1 x2 x3 x4 x5 x6 x7 x8 x9 x10 x11 x12 (ix3 b t f) = convAt (prevRow ((refArgs x0 x1 x2 x3 x4 x5 x6 x7 x8 x9 x10 x11 x12 x13).hid b) t) ((refArgs x0 x1 x2 x3 x4 x5 x6 x7 x8 x9 x10 x11 x12 x13).hid b t) (nextRow ((refArgs x0 x1 x2 x3 x4 x5 x6 x7 x8 x9 x10 x11 x12 x13).hid b) t)
      (fun k => x10 (ix2 k f)) (x11 (ix2 0 f)) (x11 (ix2 1 f)) (x11 (ix2 2 f)) (x12 (ix1 f)) := by
  pointwise [val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_cst_7, val_main_c, val_main_call0_v0]
  have h0 : (FloatOps.sitofp (F := Ideal) FTy.f32 0#32) = (0 : EReal) := by show (((0#32 : BitVec 32).toInt : ℝ) : EReal) = 0; simp
  simp only [ref44 x0 x1 x2 x3 x4 x5 x6 x7 x8 x9 x10 x11 x12 x13, h0]
  unfold convAt
  have e1 : (if h : 1 ≤ t.val ∧ t.val - 1 < 8192 then ∑ k : Fin 1024, (refArgs x0 x1 x2 x3 x4 x5 x6 x7 x8 x9 x10 x11 x12 x13).hid b ⟨t.val - 1, h.2⟩ k * x10 (ix2 k f) else 0)
      = ∑ k, prevRow ((refArgs x0 x1 x2 x3 x4 x5 x6 x7 x8 x9 x10 x11 x12 x13).hid b) t k * x10 (ix2 k f) := by
    unfold prevRow
    by_cases h : 0 < t.val
    · rw [dif_pos ⟨h, by omega⟩]; simp only [h, if_true]
    · rw [dif_neg (by omega)]; simp [h]
  have e2 : (if h : 1 ≤ 2 + t.val ∧ 2 + t.val - 1 < 8192 then ∑ k : Fin 1024, (refArgs x0 x1 x2 x3 x4 x5 x6 x7 x8 x9 x10 x11 x12 x13).hid b ⟨2 + t.val - 1, h.2⟩ k * x10 (ix2 k f) else 0)
      = ∑ k, nextRow ((refArgs x0 x1 x2 x3 x4 x5 x6 x7 x8 x9 x10 x11 x12 x13).hid b) t k * x10 (ix2 k f) := by
    unfold nextRow
    by_cases h : t.val + 1 < 8192
    · rw [dif_pos ⟨by omega, by omega⟩]; simp only [h, dif_pos]
      simp only [show ∀ q, (⟨2 + t.val - 1, q⟩ : Fin 8192) = ⟨t.val + 1, h⟩ from fun q => Fin.ext (by show 2 + t.val - 1 = t.val + 1; omega)]
    · rw [dif_neg (by omega)]; simp [h]
  rw [← e1, ← e2]

theorem ref78 (r : Fin 16384) (d : Fin 1024) :
    val_main_v78 (F := Ideal) x0 x1 x2 x3 x4 x5 x6 x7 x8 x9 x10 x11 x12 x13 (ix2 r d) = (refArgs x0 x1 x2 x3 x4 x5 x6 x7 x8 x9 x10 x11 x12 x13).out ⟨r.val / 8192, by omega⟩ ⟨r.val % 8192, by omega⟩ d := by
  pointwise [val_main_v78, val_main_v77, val_main_v76, val_main_v75, val_main_v74, val_main_v73, val_main_v72, val_main_call1_v0, val_main_call1_v1, val_main_call1_cst, val_main_call1_v2, val_main_call1_v3, val_main_call1_cst_0, val_main_call1_v4, val_main_call1_v5]
  simp only [ref31 x0 x1 x2 x3 x4 x5 x6 x7 x8 x9 x10 x11 x12 x13, ref71 x0 x1 x2 x3 x4 x5 x6 x7 x8 x9 x10 x11 x12 x13]
  rfl

end Cert.Proof.Ffn
-- ==== Proof.FfnClaim.lean ====
module

public import proofs.«01_k».proof.Defs
public import proofs.«01_k».proof.Proof.OutFfnFrame
public import proofs.«01_k».proof.Proof.OutFfnIdealFrame
public import proofs.«01_k».proof.Proof.FfnValue
public import proofs.«01_k».proof.Proof.FfnRef
public import proofs.«01_k».proof.Proof.Gen.OutFfn
public import proofs.«01_k».proof.Proof.Gen.OutFfnIdeal
public import proofs.«01_k».proof.Proof.Gen.OutFfnRefIdeal
public import proofs.«01_k».proof.Proof.Gen.OutFfnRefIdeal.Run
public import proofs.«01_k».proof.Proof.Gen.OutFfnRefIdeal.Read
public import Idealize.ShloMosaic.Lib.Claim
public import Idealize.ShloMosaic.Lib.Quiescent

/-! The last call's claims: the frame of its reference, and equality over the exact numbers. -/

@[expose] public section

set_option maxRecDepth 16384

noncomputable section

namespace Cert.Proof.Ffn

open Idealize.ShloMosaic Idealize.ShloMosaic.TcCoe Idealize.SL.Sem

/-- The reference's inputs from its memory. -/
abbrev refOf (m' : (ℓ : Loc Cert.OutFfnRefIdeal.nD Cert.OutFfnRefIdeal.τ Cert.OutFfnRefIdeal.sig) → Buf (Elt Ideal) ℓ) (c : Dev Cert.OutFfnRefIdeal.nD) : Args :=
  refArgs (m' ((c.tc : Thread _ _).loc Cert.OutFfnRefIdeal.main_arg0)) (m' ((c.tc : Thread _ _).loc Cert.OutFfnRefIdeal.main_arg1)) (m' ((c.tc : Thread _ _).loc Cert.OutFfnRefIdeal.main_arg2))
    (m' ((c.tc : Thread _ _).loc Cert.OutFfnRefIdeal.main_arg3)) (m' ((c.tc : Thread _ _).loc Cert.OutFfnRefIdeal.main_arg4)) (m' ((c.tc : Thread _ _).loc Cert.OutFfnRefIdeal.main_arg5))
    (m' ((c.tc : Thread _ _).loc Cert.OutFfnRefIdeal.main_arg6)) (m' ((c.tc : Thread _ _).loc Cert.OutFfnRefIdeal.main_arg7)) (m' ((c.tc : Thread _ _).loc Cert.OutFfnRefIdeal.main_arg8))
    (m' ((c.tc : Thread _ _).loc Cert.OutFfnRefIdeal.main_arg9)) (m' ((c.tc : Thread _ _).loc Cert.OutFfnRefIdeal.main_arg10)) (m' ((c.tc : Thread _ _).loc Cert.OutFfnRefIdeal.main_arg11))
    (m' ((c.tc : Thread _ _).loc Cert.OutFfnRefIdeal.main_arg12)) (m' ((c.tc : Thread _ _).loc Cert.OutFfnRefIdeal.main_arg13))

theorem frame_ref : Cert.quiescent_OutFfnRefIdeal := fun m ρ _ =>
  (θ_run Cert.OutFfnRefIdeal.defs _ _).mono (fun r h => ⟨fun c => (h c).2, sem_eq_zero_of_no_sems (by decide) r.2⟩)
    (Cert.OutFfnRefIdeal.Value.run (F := Ideal) m ρ)

/-- The reference's result array is the call's result. -/
theorem ref_arr (m' : (ℓ : Loc Cert.OutFfnRefIdeal.nD Cert.OutFfnRefIdeal.τ Cert.OutFfnRefIdeal.sig) → Buf (Elt Ideal) ℓ) (c : Dev Cert.OutFfnRefIdeal.nD)
    (X : FVec Ideal Cert.OutFfnRefIdeal.S16384x1024 .f32)
    (hX : X = Cert.OutFfnRefIdeal.Read.val_main_v78 (F := Ideal) (m' ((c.tc : Thread _ _).loc Cert.OutFfnRefIdeal.main_arg0)) (m' ((c.tc : Thread _ _).loc Cert.OutFfnRefIdeal.main_arg1)) (m' ((c.tc : Thread _ _).loc Cert.OutFfnRefIdeal.main_arg2))
    (m' ((c.tc : Thread _ _).loc Cert.OutFfnRefIdeal.main_arg3)) (m' ((c.tc : Thread _ _).loc Cert.OutFfnRefIdeal.main_arg4)) (m' ((c.tc : Thread _ _).loc Cert.OutFfnRefIdeal.main_arg5))
    (m' ((c.tc : Thread _ _).loc Cert.OutFfnRefIdeal.main_arg6)) (m' ((c.tc : Thread _ _).loc Cert.OutFfnRefIdeal.main_arg7)) (m' ((c.tc : Thread _ _).loc Cert.OutFfnRefIdeal.main_arg8))
    (m' ((c.tc : Thread _ _).loc Cert.OutFfnRefIdeal.main_arg9)) (m' ((c.tc : Thread _ _).loc Cert.OutFfnRefIdeal.main_arg10)) (m' ((c.tc : Thread _ _).loc Cert.OutFfnRefIdeal.main_arg11))
    (m' ((c.tc : Thread _ _).loc Cert.OutFfnRefIdeal.main_arg12)) (m' ((c.tc : Thread _ _).loc Cert.OutFfnRefIdeal.main_arg13))) :
    X = outArr (refOf m' c) := by
  rw [hX]
  funext i
  rw [eq_ix2 i ⟨(i 0).val, (i 0).isLt⟩ ⟨(i 1).val, (i 1).isLt⟩ rfl rfl]
  exact ref78 _ _ _ _ _ _ _ _ _ _ _ _ _ _ _ _

theorem algebraic : Cert.algebraic_OutFfnIdeal_OutFfnRefIdeal := by
  intro m ρ m' ρ' _ hagree
  refine ⟨fun c => outArr (kArgs m c), Cert.Proof.Ffn.run m ρ, ?_⟩
  refine θ_run_mono (Cert.OutFfnRefIdeal.Value.run (F := Ideal) m' ρ') fun r h c => ⟨?_, (h c).2⟩
  obtain ⟨h0, h1, h2, h3, h4, h5, h6, h7, h8, h9, h10, h11, h12, h13⟩ := hagree c
  refine ((h c).1.trans (ref_arr m' c _ (Cert.OutFfnRefIdeal.Read.val_main_v78_eq _))).trans (congrArg outArr ?_)
  show refOf m' c = kArgs m c
  unfold refOf
  rw [h0, h1, h2, h3, h4, h5, h6, h7, h8, h9, h10, h11, h12, h13]
  rfl

end Cert.Proof.Ffn

end
-- ==== Proof.PrepSpec.lean ====
module

public import proofs.«01_k».proof.Proof.FfnSpec

/-! The first call's mathematics at one position: the normalised row, its projection, the token shift over three rows, and
    the recurrence's inputs that are made of it. -/

@[expose] public section

noncomputable section

namespace Cert.Proof.Prep

open Idealize.ShloMosaic
open Cert.Proof.Ffn (rmsRow prevRow nextRow)

/-- One column of the projection. -/
abbrev dotCol {n : Nat} (h w : Fin n → EReal) : EReal := ∑ k, h k * w k

/-- One column of the projection, shifted over the row before, the row and the row after. -/
def shiftAt (h0 h1 h2 w : Fin 1024 → EReal) (mu mn : EReal) : EReal :=
  dotCol h1 w * (1 - mu - mn) + dotCol h0 w * mu + dotCol h2 w * mn

/-- The sum over the head that column `c` belongs to. -/
def headSum (y : Fin 512 → EReal) (c : Fin 512) : EReal := ∑ s : Fin 64, y ⟨64 * (c.val / 64) + s.val, by omega⟩

/-- The key normalised within its head. -/
def kkRow (k kk : Fin 512 → EReal) (c : Fin 512) : EReal :=
  k c * kk c * Ideal.rsqrt (headSum (fun j => k j * kk j * (k j * kk j)) c + Ideal.ofBits .f32 0x2B8CBCCC#32)

/-- The key scaled by the in-context rate. -/
def kdAt (k a ka : EReal) : EReal := k * (1 + (a - 1) * ka)

/-- The current token's bonus. -/
def bonusRow (r k0 k1 rk v : Fin 512 → EReal) (c : Fin 512) : EReal :=
  headSum (fun j => r j * (k0 j + k1 j) * rk j) c * v c

/-- The call's arguments, by coordinates. -/
structure Args where
  x : Fin 2 → Fin 8192 → Fin 1024 → EReal
  gm : Fin 1024 → EReal
  w : Fin 1024 → Fin 2560 → EReal
  mup : Fin 1792 → EReal
  mun : Fin 1792 → EReal
  w0 : Fin 2 → Fin 512 → EReal
  w2 : Fin 2 → Fin 64 → Fin 512 → EReal
  a0 : Fin 2 → Fin 512 → EReal
  a2 : Fin 2 → Fin 64 → Fin 512 → EReal
  g2 : Fin 128 → Fin 512 → EReal
  kk : Fin 512 → EReal
  ka : Fin 512 → EReal
  rk : Fin 512 → EReal

variable (A : Args) (b : Fin 2) (t : Fin 8192)

/-- The normalised row. -/
def Args.hid : Fin 1024 → EReal := rmsRow (A.x b t) A.gm

/-- The projected row. -/
def Args.proj (j : Fin 2560) : EReal := dotCol (A.hid b t) (fun k => A.w k j)

/-- The shifted row. -/
def Args.sh (j : Fin 1792) : EReal :=
  shiftAt (prevRow (A.hid b) t) (A.hid b t) (nextRow (A.hid b) t) (fun k => A.w k ⟨j.val, by omega⟩) (A.mup j) (A.mun j)

def Args.q (c : Fin 512) : EReal := A.proj b t ⟨1792 + c.val, by omega⟩
def Args.kv (c : Fin 256) : EReal := A.proj b t ⟨2304 + c.val, by omega⟩
def Args.r (c : Fin 512) : EReal := A.sh b t ⟨c.val, by omega⟩
def Args.k (c : Fin 512) : EReal := A.sh b t ⟨512 + c.val, by omega⟩
def Args.v (c : Fin 512) : EReal := A.sh b t ⟨1024 + c.val, by omega⟩
def Args.xw (s : Fin 64) : EReal := A.sh b t ⟨1536 + s.val, by omega⟩
def Args.xa (s : Fin 64) : EReal := A.sh b t ⟨1600 + s.val, by omega⟩
def Args.xg (s : Fin 128) : EReal := A.sh b t ⟨1664 + s.val, by omega⟩
def Args.kkn (c : Fin 512) : EReal := kkRow (A.k b t) A.kk c
def Args.gate (c : Fin 512) : EReal := dotCol (fun s => Ideal.logistic (A.xg b t s)) (fun s => A.g2 s c)

/-- The decay's logarithm in direction `d`. -/
def Args.decay (d : Fin 2) (c : Fin 512) : EReal :=
  Ideal.ofBits .f32 0xBF1B4598#32 * Ideal.logistic (A.w0 d c + dotCol (fun s => Ideal.tanh (A.xw b t s)) (fun s => A.w2 d s c))

/-- The in-context rate in direction `d`. -/
def Args.rate (d : Fin 2) (c : Fin 512) : EReal :=
  Ideal.logistic (A.a0 d c + dotCol (A.xa b t) (fun s => A.a2 d s c))

def Args.kd (d : Fin 2) (c : Fin 512) : EReal := kdAt (A.k b t c) (A.rate b t d c) (A.ka c)
def Args.ab (d : Fin 2) (c : Fin 512) : EReal := A.rate b t d c * A.kkn b t c
def Args.bonus (c : Fin 512) : EReal := bonusRow (A.r b t) (A.kd b t 0) (A.kd b t 1) A.rk (A.v b t) c

/-- Three rows of 512 side by side. -/
def pack3 (f g h : Fin 512 → EReal) (c : Fin 1536) : EReal :=
  if h0 : c.val < 512 then f ⟨c.val, h0⟩ else if h1 : c.val < 1024 then g ⟨c.val - 512, by omega⟩ else h ⟨c.val - 1024, by omega⟩

/-- The logistic function in the kernel's spelling. -/
theorem logistic_kernel (g : EReal) : Ideal.div 1 (1 + Ideal.exp (0 - g)) = Ideal.logistic g := by
  rw [sub_eq_add_neg, zero_add]; rfl

/-- A sum of 128 against weights that are zero in the upper half. -/
theorem sum_pad_low (f : Fin 128 → EReal) (w : Fin 64 → EReal) :
    ∑ x : Fin 128, f x * (if h : x.val < 64 then w ⟨x.val, h⟩ else 0) = ∑ s : Fin 64, f ⟨s.val, by omega⟩ * w s := by
  refine (Fin.sum_univ_add (a := 64) (b := 64) _).trans ?_
  have h0 : ∑ i : Fin 64, f (Fin.natAdd 64 i) * (if h : (Fin.natAdd 64 i).val < 64 then w ⟨(Fin.natAdd 64 i).val, h⟩ else 0) = 0 :=
    Finset.sum_eq_zero fun i _ => by
      have h : ¬ (Fin.natAdd 64 i).val < 64 := by simp
      rw [dif_neg h, mul_zero]
  refine (congrArg _ h0).trans ((add_zero _).trans (Finset.sum_congr rfl fun s _ => ?_))
  have h : (Fin.castAdd 64 s).val < 64 := s.isLt
  rw [dif_pos h]; rfl

/-- A sum of 128 against weights that are zero in the lower half. -/
theorem sum_pad_high (f : Fin 128 → EReal) (w : Fin 64 → EReal) :
    ∑ x : Fin 128, f x * (if h : x.val < 64 then 0 else w ⟨x.val - 64, by omega⟩) = ∑ s : Fin 64, f ⟨64 + s.val, by omega⟩ * w s := by
  refine (Fin.sum_univ_add (a := 64) (b := 64) _).trans ?_
  rw [Finset.sum_eq_zero (fun i _ => ?_), zero_add]
  · refine Finset.sum_congr rfl fun s _ => ?_
    have h : ¬ (Fin.natAdd 64 s).val < 64 := by simp
    rw [dif_neg h]
    exact congrArg₂ (fun a c => f a * w c) (Fin.ext rfl) (Fin.ext (by simp))
  · have h : (Fin.castAdd 64 i).val < 64 := i.isLt
    rw [dif_pos h, mul_zero]

end Cert.Proof.Prep
-- ==== Proof.PrepPay.lean ====
module

public import proofs.«01_k».proof.Proof.Gen.InPrepIdeal.Skeleton
public import proofs.«01_k».proof.Proof.PrepSpec

/-! The first call's payloads at an index. -/

@[expose] public section

set_option maxRecDepth 16384

noncomputable section

namespace Cert.Proof.Prep

open Idealize.ShloMosaic
open Cert.Proof.Ffn (rmsRow prevRow nextRow)
open Cert.InPrepIdeal Cert.InPrepIdeal.Gen

/-- A row of a matrix. -/
abbrev rowOf {n k : Nat} (x : (⟨2, ![n, k]⟩ : Shape).Idx → EReal) (p : Fin n) (j : Fin k) : EReal := x (ix2 p j)
/-- A column of a matrix. -/
abbrev colOf {n k : Nat} (x : (⟨2, ![n, k]⟩ : Shape).Idx → EReal) (j : Fin k) (p : Fin n) : EReal := x (ix2 p j)

/-- Row `q` of the block with its two halos. -/
def catRow {n : Nat} (a : Fin 16 → Fin n → EReal) (b : Fin 512 → Fin n → EReal) (c : Fin 16 → Fin n → EReal) (q : Fin 544) (k : Fin n) : EReal :=
  if h : q.val < 16 then a ⟨q.val, h⟩ k else if h' : q.val - 16 < 512 then b ⟨q.val - 16, h'⟩ k else c ⟨q.val - 16 - 512, by omega⟩ k

theorem pay4_at (x : Vec Ideal S512x1024 .f32) (g : Vec Ideal S1x1024 .f32) (p : Fin 512) (d : Fin 1024) :
    k0_pay4 (k0_pay3 x) g (ix2 p d) = rmsRow (rowOf x p) (rowOf g 0) d := by
  unfold rmsRow rowOf
  pointwise [k0_pay4, k0_pay3]

theorem pay5_at (x : Vec Ideal S512x1024 .f32) (g : Vec Ideal S1x1024 .f32) (w : Vec Ideal S1024x512 .bf16) (p : Fin 512) (j : Fin 512) :
    k0_pay5 (k0_pay3 x) g w (ix2 p j) = dotCol (rmsRow (rowOf x p) (rowOf g 0)) (colOf w j) := by
  unfold dotCol colOf
  pointwise [k0_pay5]
  simp only [pay4_at]

theorem pay6_at (x : Vec Ideal S512x1024 .f32) (g : Vec Ideal S1x1024 .f32) (w : Vec Ideal S1024x256 .bf16) (p : Fin 512) (j : Fin 256) :
    k0_pay6 (k0_pay3 x) g w (ix2 p j) = dotCol (rmsRow (rowOf x p) (rowOf g 0)) (colOf w j) := by
  unfold dotCol colOf
  pointwise [k0_pay6]
  simp only [pay4_at]

theorem pay7_at (x : Vec Ideal S16x1024 .f32) (g : Vec Ideal S1x1024 .f32) (p : Fin 16) (d : Fin 1024) :
    k0_pay7 x g (ix2 p d) = rmsRow (rowOf x p) (rowOf g 0) d := by
  unfold rmsRow rowOf
  pointwise [k0_pay7]

theorem pay10_at (a b : BitVec 1) (h : FVec Ideal S512x1024 .bf16) (hp : FVec Ideal S16x1024 .bf16) (x : Vec Ideal S16x1024 .f32) (g : Vec Ideal S1x1024 .f32) (q : Fin 544) (d : Fin 1024) :
    k0_pay10 a b h hp (k0_pay8 x) (k0_pay9 x) g (ix2 q d)
      = catRow (fun p d => if a = 1#1 then 0 else hp (ix2 p d)) (rowOf h) (fun p d => if b = 1#1 then 0 else rmsRow (rowOf x p) (rowOf g 0) d) q d := by
  unfold catRow rmsRow rowOf
  pointwise [k0_pay10, k0_pay8, k0_pay9]
  rcases BitVec.eq_zero_or_eq_one a with rfl | rfl <;> rcases BitVec.eq_zero_or_eq_one b with rfl | rfl <;> rfl

/-- A shifted column, from the rows of the block with its halos. -/
abbrev shiftBlk (h : Fin 544 → Fin 1024 → EReal) (w : Fin 1024 → EReal) (mu mn : EReal) (p : Fin 512) : EReal :=
  shiftAt (h ⟨p.val + 15, by omega⟩) (h ⟨p.val + 16, by omega⟩) (h ⟨p.val + 17, by omega⟩) w mu mn

theorem rows_at (p : Fin 512) (q1 : (16 + p.val + 544 - 1) % 544 < 544) (q2 : 16 + p.val < 544) (q3 : (16 + p.val + 544 - 543) % 544 < 544) :
    (⟨(16 + p.val + 544 - 1) % 544, q1⟩ : Fin 544) = ⟨p.val + 15, by omega⟩ ∧ (⟨16 + p.val, q2⟩ : Fin 544) = ⟨p.val + 16, by omega⟩
      ∧ (⟨(16 + p.val + 544 - 543) % 544, q3⟩ : Fin 544) = ⟨p.val + 17, by omega⟩ :=
  ⟨Fin.ext (by show (16 + p.val + 544 - 1) % 544 = p.val + 15; omega), Fin.ext (by show 16 + p.val = p.val + 16; omega),
    Fin.ext (by show (16 + p.val + 544 - 543) % 544 = p.val + 17; omega)⟩

theorem pay11_at (a b : BitVec 1) (h : FVec Ideal S512x1024 .bf16) (hp : FVec Ideal S16x1024 .bf16) (x : FVec Ideal S16x1024 .f32) (x' : FVec Ideal S16x1 .f32) (g : Vec Ideal S1x1024 .f32)
    (w : Vec Ideal S1024x256 .bf16) (mu mn : Vec Ideal S1x256 .f32) (p : Fin 512) (j : Fin 256) :
    k0_pay11 a b h hp x x' g w mu mn (ix2 p j) = shiftBlk (rowOf (k0_pay10 a b h hp x x' g)) (colOf w j) (mu (ix2 0 j)) (mn (ix2 0 j)) p := by
  unfold shiftBlk shiftAt dotCol rowOf colOf
  pointwise [k0_pay11]
  obtain ⟨h1, h2, h3⟩ := rows_at p (Nat.mod_lt _ (by decide)) (by omega) (Nat.mod_lt _ (by decide))
  simp only [h1, h2, h3]

theorem pay16_at (h : FVec Ideal S544x1024 .bf16) (w : Vec Ideal S1024x512 .bf16) (mu mn : Vec Ideal S1x512 .f32) (p : Fin 512) (j : Fin 512) :
    k0_pay16 h w mu mn (ix2 p j) = shiftBlk (rowOf h) (colOf w j) (mu (ix2 0 j)) (mn (ix2 0 j)) p := by
  unfold shiftBlk shiftAt dotCol rowOf colOf
  pointwise [k0_pay16]
  obtain ⟨h1, h2, h3⟩ := rows_at p (Nat.mod_lt _ (by decide)) (by omega) (Nat.mod_lt _ (by decide))
  simp only [h1, h2, h3]

theorem pay35_at (h : FVec Ideal S544x1024 .bf16) (w : Vec Ideal S1024x512 .bf16) (mu mn : Vec Ideal S1x512 .f32) (p : Fin 512) (j : Fin 512) :
    k0_pay35 (k0_pay33 h w) (k0_pay34 h w) 1#32 mu mn (ix2 p j) = shiftBlk (rowOf h) (colOf w j) (mu (ix2 0 j)) (mn (ix2 0 j)) p := by
  unfold shiftBlk shiftAt dotCol rowOf colOf
  pointwise [k0_pay35, k0_pay33, k0_pay34]
  obtain ⟨h1, h2, h3⟩ := rows_at p (Nat.mod_lt _ (by decide)) (by omega) (Nat.mod_lt _ (by decide))
  simp only [h1, h2, h3]

theorem pay36_at (h : FVec Ideal S544x1024 .bf16) (w : Vec Ideal S1024x512 .bf16) (mu mn : Vec Ideal S1x512 .f32) (p : Fin 512) (j : Fin 512) :
    k0_pay36 h w mu mn (ix2 p j) = shiftBlk (rowOf h) (colOf w j) (mu (ix2 0 j)) (mn (ix2 0 j)) p := by
  unfold shiftBlk shiftAt dotCol rowOf colOf
  pointwise [k0_pay36]
  obtain ⟨h1, h2, h3⟩ := rows_at p (Nat.mod_lt _ (by decide)) (by omega) (Nat.mod_lt _ (by decide))
  simp only [h1, h2, h3]

end Cert.Proof.Prep
-- ==== Proof.PrepPay2.lean ====
module

public import proofs.«01_k».proof.Proof.PrepPay

/-! The payloads made of the shifted columns, at an index: the normalised key, the gate, the decay, the rate and the bonus. -/

@[expose] public section

set_option maxRecDepth 16384

noncomputable section

namespace Cert.Proof.Prep

open Idealize.ShloMosaic
open Cert.InPrepIdeal Cert.InPrepIdeal.Gen

/-- A sum over the lower 256 columns against the mask of `c`'s head. -/
theorem mask_low (f : Fin 512 → EReal) (c : Fin 256) :
    ∑ x : Fin 256, f ⟨x.val, by omega⟩ * (FloatOps.sitofp (F := Ideal) FTy.f32 (BitVec.setWidth 32 (IntOp.cmpi CmpIPredicate.eq
        (IntOp.shrsi ArithUnit.vector (BitVec.ofNat 32 x.val) 6#32) (IntOp.shrsi ArithUnit.vector (BitVec.ofNat 32 c.val) 6#32))) : EReal)
      = headSum f ⟨c.val, by omega⟩ := by
  simp only [mask_word]
  rw [sum_mask (fun x : Fin 256 => f ⟨x.val, by omega⟩) c]
  rfl

/-- The same over the upper 256 columns. -/
theorem mask_high (f : Fin 512 → EReal) (c : Fin 256) :
    ∑ x : Fin 256, f ⟨256 + x.val, by omega⟩ * (FloatOps.sitofp (F := Ideal) FTy.f32 (BitVec.setWidth 32 (IntOp.cmpi CmpIPredicate.eq
        (IntOp.shrsi ArithUnit.vector (BitVec.ofNat 32 x.val) 6#32) (IntOp.shrsi ArithUnit.vector (BitVec.ofNat 32 c.val) 6#32))) : EReal)
      = headSum f ⟨256 + c.val, by omega⟩ := by
  simp only [mask_word]
  rw [sum_mask (fun x : Fin 256 => f ⟨256 + x.val, by omega⟩) c]
  unfold headSum
  refine Finset.sum_congr rfl fun s _ => congrArg f (Fin.ext ?_)
  show 256 + (64 * (c.val / 64) + s.val) = 64 * ((256 + c.val) / 64) + s.val
  omega

/-- A statement on 512 columns from its halves. -/
theorem by_halves {P : Fin 512 → Prop} (h0 : ∀ c : Fin 256, P ⟨c.val, by omega⟩) (h1 : ∀ c : Fin 256, P ⟨256 + c.val, by omega⟩) (c : Fin 512) : P c := by
  rcases Nat.lt_or_ge c.val 256 with h | h
  · exact h0 ⟨c.val, h⟩
  · have e := h1 ⟨c.val - 256, by omega⟩
    rwa [show (⟨256 + (c.val - 256), by omega⟩ : Fin 512) = c from Fin.ext (by show 256 + (c.val - 256) = c.val; omega)] at e

theorem pay17_at (h : FVec Ideal S544x1024 .bf16) (w : Vec Ideal S1024x512 .bf16) (mu mn kk : Vec Ideal S1x512 .f32) (p : Fin 512) (j : Fin 512) :
    k0_pay17 h w mu mn kk (ix2 p j) = k0_pay16 h w mu mn (ix2 p j) * kk (ix2 0 j) := by
  pointwise [k0_pay17]

theorem pay22_at (h : FVec Ideal S544x1024 .bf16) (w : Vec Ideal S1024x512 .bf16) (mu mn kk : Vec Ideal S1x512 .f32) (p : Fin 512) (c : Fin 512) :
    k0_pay22 (k0_pay17 h w mu mn kk) k0_pay18 (k0_pay20 h w mu mn kk) (k0_pay21 h w mu mn kk) (constant S512x256 .f32 0x00000000#32) (ix2 p c)
      = kkRow (rowOf (k0_pay16 h w mu mn) p) (rowOf kk 0) c := by
  revert c
  refine by_halves (fun c => ?_) (fun c => ?_)
  · unfold kkRow
    rw [← mask_low]
    unfold rowOf
    pointwise [k0_pay22, k0_pay18, k0_pay20, k0_pay21, k0_pay19]
    have hc : c.val < 256 := c.isLt
    simp only [hc, dite_true, pay17_at]
  · unfold kkRow
    rw [← mask_high]
    unfold rowOf
    pointwise [k0_pay22, k0_pay18, k0_pay20, k0_pay21, k0_pay19]
    have hc : ¬ 256 + c.val < 256 := by omega
    simp only [hc, dite_false, pay17_at]

theorem pay1_at (k0 k1 r v : FVec Ideal S512x512 .f32) (rk : Vec Ideal S1x512 .f32) (p : Fin 512) (c : Fin 512) :
    k0_pay1 k0 k1 r v rk (ix2 p c) = bonusRow (rowOf r p) (rowOf k0 p) (rowOf k1 p) (rowOf rk 0) (rowOf v p) c := by
  revert c
  refine by_halves (fun c => ?_) (fun c => ?_)
  · unfold bonusRow
    rw [← mask_low]
    unfold rowOf
    pointwise [k0_pay1]
  · unfold bonusRow
    rw [← mask_high]
    unfold rowOf
    pointwise [k0_pay1]

theorem pay23_at (x : FVec Ideal S512x128 .f32) (w : Vec Ideal S128x512 .bf16) (p : Fin 512) (j : Fin 512) :
    k0_pay23 x w (ix2 p j) = dotCol (fun s => Ideal.logistic (x (ix2 p s))) (colOf w j) := by
  unfold dotCol colOf
  simp only [← logistic_kernel]
  pointwise [k0_pay23]

theorem pay24_at (x : FVec Ideal S512x128 .bf16) (b : Vec Ideal S1x512 .f32) (w : Vec Ideal S1x128x512 .bf16) (p : Fin 512) (j : Fin 512) :
    k0_pay24 x b w (ix2 p j) = Ideal.ofBits .f32 0xBF1B4598#32 * Ideal.logistic (b (ix2 0 j) + dotCol (rowOf x p) (fun s => w (ix3 0 s j))) := by
  unfold dotCol rowOf
  rw [← logistic_kernel]
  pointwise [k0_pay24]

theorem pay29_at (x : FVec Ideal S512x128 .bf16) (b : Vec Ideal S1x512 .f32) (w : Vec Ideal S1x128x512 .bf16) (p : Fin 512) (j : Fin 512) :
    k0_pay29 (k0_pay28 x b w) (Scalar.ofBits .f32 0xBF1B4598#32) (ix2 p j) = Ideal.ofBits .f32 0xBF1B4598#32 * Ideal.logistic (b (ix2 0 j) + dotCol (rowOf x p) (fun s => w (ix3 0 s j))) := by
  unfold dotCol rowOf
  rw [← logistic_kernel]
  pointwise [k0_pay29, k0_pay28]

theorem pay25_at (x : FVec Ideal S512x128 .bf16) (b : Vec Ideal S1x512 .f32) (w : Vec Ideal S1x128x512 .bf16) (p : Fin 512) (j : Fin 512) :
    k0_pay25 x b w (ix2 p j) = Ideal.logistic (b (ix2 0 j) + dotCol (rowOf x p) (fun s => w (ix3 0 s j))) := by
  unfold dotCol rowOf
  rw [← logistic_kernel]
  pointwise [k0_pay25]

theorem pay30_at (x : FVec Ideal S512x128 .bf16) (b : Vec Ideal S1x512 .f32) (w : Vec Ideal S1x128x512 .bf16) (p : Fin 512) (j : Fin 512) :
    k0_pay30 x b w (ix2 p j) = Ideal.logistic (b (ix2 0 j) + dotCol (rowOf x p) (fun s => w (ix3 0 s j))) := by
  unfold dotCol rowOf
  rw [← logistic_kernel]
  pointwise [k0_pay30]

theorem pay26_at (x : FVec Ideal S512x128 .bf16) (k : FVec Ideal S512x512 .f32) (b : Vec Ideal S1x512 .f32) (w : Vec Ideal S1x128x512 .bf16) (ka : Vec Ideal S1x512 .f32) (p : Fin 512) (j : Fin 512) :
    k0_pay26 x k b w ka (ix2 p j) = kdAt (k (ix2 p j)) (k0_pay25 x b w (ix2 p j)) (ka (ix2 0 j)) := by
  unfold kdAt
  pointwise [k0_pay26]

theorem pay31_at (x : FVec Ideal S512x128 .bf16) (k : FVec Ideal S512x512 .f32) (b : Vec Ideal S1x512 .f32) (w : Vec Ideal S1x128x512 .bf16) (ka : Vec Ideal S1x512 .f32) (p : Fin 512) (j : Fin 512) :
    k0_pay31 x k b w ka (ix2 p j) = kdAt (k (ix2 p j)) (k0_pay30 x b w (ix2 p j)) (ka (ix2 0 j)) := by
  unfold kdAt
  pointwise [k0_pay31]

theorem pay27_at (x : FVec Ideal S512x128 .bf16) (k : FVec Ideal S512x512 .f32) (b : Vec Ideal S1x512 .f32) (w : Vec Ideal S1x128x512 .bf16) (p : Fin 512) (j : Fin 512) :
    k0_pay27 x k b w (ix2 p j) = k0_pay25 x b w (ix2 p j) * k (ix2 p j) := by
  pointwise [k0_pay27]

theorem pay32_at (x : FVec Ideal S512x128 .bf16) (k : FVec Ideal S512x512 .f32) (b : Vec Ideal S1x512 .f32) (w : Vec Ideal S1x128x512 .bf16) (p : Fin 512) (j : Fin 512) :
    k0_pay32 x k b w (ix2 p j) = k0_pay30 x b w (ix2 p j) * k (ix2 p j) := by
  pointwise [k0_pay32]

theorem pay13_at (a b : BitVec 1) (h : FVec Ideal S512x1024 .bf16) (hp : FVec Ideal S16x1024 .bf16) (x : FVec Ideal S16x1024 .f32) (x' : FVec Ideal S16x1 .f32) (g : Vec Ideal S1x1024 .f32)
    (w : Vec Ideal S1024x256 .bf16) (mu mn : Vec Ideal S1x256 .f32) (p : Fin 512) (s : Fin 128) :
    k0_pay13 a b h hp x x' g w mu mn (ix2 p s) = k0_pay11 a b h hp x x' g w mu mn (ix2 p ⟨128 + s.val, by omega⟩) := by
  pointwise [k0_pay13]

theorem pay14_at (a b : BitVec 1) (h : FVec Ideal S512x1024 .bf16) (hp : FVec Ideal S16x1024 .bf16) (x : FVec Ideal S16x1024 .f32) (x' : FVec Ideal S16x1 .f32) (g : Vec Ideal S1x1024 .f32)
    (w : Vec Ideal S1024x256 .bf16) (mu mn : Vec Ideal S1x256 .f32) (p : Fin 512) (s : Fin 128) :
    k0_pay14 a b h hp x x' g w mu mn (ix2 p s) = Ideal.tanh (k0_pay11 a b h hp x x' g w mu mn (ix2 p ⟨s.val, by omega⟩)) := by
  pointwise [k0_pay14, k0_pay12]

theorem pay15_at (a b : BitVec 1) (h : FVec Ideal S512x1024 .bf16) (hp : FVec Ideal S16x1024 .bf16) (x : FVec Ideal S16x1024 .f32) (x' : FVec Ideal S16x1 .f32) (g : Vec Ideal S1x1024 .f32)
    (w : Vec Ideal S1024x256 .bf16) (mu mn : Vec Ideal S1x256 .f32) (p : Fin 512) (s : Fin 128) :
    k0_pay15 a b h hp x x' g w mu mn (ix2 p s) = k0_pay11 a b h hp x x' g w mu mn (ix2 p ⟨s.val, by omega⟩) := by
  pointwise [k0_pay15, k0_pay12]

end Cert.Proof.Prep
-- ==== Proof.PrepIn.lean ====
module

public import proofs.«01_k».proof.Proof.Gen.InPrepIdeal.Frame.Runs
public import proofs.«01_k».proof.Proof.PrepPay2
public import proofs.«01_k».proof.Proof.LoadAt
public import Idealize.ShloMosaic.Lib.StableHlo.RunRead

/-! What the first call's windows hold at each grid point, read off the call's arguments. -/

@[expose] public section

set_option maxRecDepth 16384

noncomputable section

namespace Cert.Proof.Prep

open Idealize.ShloMosaic Idealize.ShloMosaic.TcCoe
open Cert.InPrepIdeal Cert.InPrepIdeal.Gen
open Cert.Proof.Ffn (rmsRow prevRow nextRow)

variable (m : (ℓ : Loc nD τ sig) → Buf (Elt Ideal) ℓ) (c : Dev nD)

/-- The launch's arguments on one device, by coordinates. -/
def kArgs : Args where
  x b t k := m ((c : Thread nD τ).loc main_arg0) (ix3 b t k)
  gm k := m ((c : Thread nD τ).loc main_arg1) (ix1 k)
  w i j := m ((c : Thread nD τ).loc main_arg2) (ix2 i j)
  mup k := m ((c : Thread nD τ).loc main_arg3) (ix1 k)
  mun k := m ((c : Thread nD τ).loc main_arg4) (ix1 k)
  w0 i j := m ((c : Thread nD τ).loc main_arg5) (ix2 i j)
  w2 d i j := m ((c : Thread nD τ).loc main_arg6) (ix3 d i j)
  a0 i j := m ((c : Thread nD τ).loc main_arg7) (ix2 i j)
  a2 d i j := m ((c : Thread nD τ).loc main_arg8) (ix3 d i j)
  g2 i j := m ((c : Thread nD τ).loc main_arg9) (ix2 i j)
  kk k := m ((c : Thread nD τ).loc main_arg10) (ix1 k)
  ka k := m ((c : Thread nD τ).loc main_arg11) (ix1 k)
  rk j := m ((c : Thread nD τ).loc main_arg12) (ix2 ⟨j.val / 64, by omega⟩ ⟨j.val % 64, by omega⟩)

theorem lt32 (t : Fin cfg0.N) : t.val < 32 := lt_of_lt_of_eq t.isLt N_0

theorem V_v0 (r : Fin 16384) (d : Fin 1024) : V m c main_v0 (ix2 r d) = (kArgs m c).x ⟨r.val / 8192, by omega⟩ ⟨r.val % 8192, by omega⟩ d := by
  unfold V hostOps0
  after_results_simp
  pointwise [kArgs]

theorem idx0 : ∀ t : Fin cfg0.N, win0_0.index t = ![t.val, 0] := (by decide +kernel : ∀ t : Fin grid0.N, _)
theorem in0 (t : Fin cfg0.N) (p : Fin 512) (d : Fin 1024) (r : Nat) (hr : r = (t.val) * 512 + p.val) (hr' : r < 16384) :
    iblk m c 0 t (ix2 p d) = (kArgs m c).x ⟨r / 8192, by omega⟩ ⟨r % 8192, by omega⟩ d := by
  rw [← V_v0 m c ⟨r, hr'⟩ d]
  blk_ext! [iblk, idx0 t]

theorem idx1 : ∀ t : Fin cfg0.N, win0_1.index t = ![32 * t.val - 1, 0] := (by decide +kernel : ∀ t : Fin grid0.N, _)
theorem in1 (t : Fin cfg0.N) (p : Fin 16) (d : Fin 1024) (r : Nat) (hr : r = (32 * t.val - 1) * 16 + p.val) (hr' : r < 16384) :
    iblk m c 1 t (ix2 p d) = (kArgs m c).x ⟨r / 8192, by omega⟩ ⟨r % 8192, by omega⟩ d := by
  rw [← V_v0 m c ⟨r, hr'⟩ d]
  blk_ext! [iblk, idx1 t]

theorem idx2 : ∀ t : Fin cfg0.N, win0_2.index t = ![min (32 * (t.val + 1)) 1023, 0] := (by decide +kernel : ∀ t : Fin grid0.N, _)
theorem in2 (t : Fin cfg0.N) (p : Fin 16) (d : Fin 1024) (r : Nat) (hr : r = (min (32 * (t.val + 1)) 1023) * 16 + p.val) (hr' : r < 16384) :
    iblk m c 2 t (ix2 p d) = (kArgs m c).x ⟨r / 8192, by omega⟩ ⟨r % 8192, by omega⟩ d := by
  rw [← V_v0 m c ⟨r, hr'⟩ d]
  blk_ext! [iblk, idx2 t]

theorem idx3 : ∀ t : Fin cfg0.N, win0_3.index t = ![0, 0] := (by decide +kernel : ∀ t : Fin grid0.N, _)
theorem V_v7 (d : Fin 1024) : V m c main_v7 (ix2 0 d) = (kArgs m c).gm d := by
  unfold V hostOps0
  after_results_simp
  pointwise [kArgs]
theorem in3 (t : Fin cfg0.N) (d : Fin 1024) : iblk m c 3 t (ix2 0 d) = (kArgs m c).gm d := by
  rw [← V_v7 m c d]
  blk_ext! [iblk, idx3 t]

theorem idx4 : ∀ t : Fin cfg0.N, win0_4.index t = ![0, 0] := (by decide +kernel : ∀ t : Fin grid0.N, _)
theorem V_arg2 (k : Fin 1024) (d : Fin 2560) : V m c main_arg2 (ix2 k d) = (kArgs m c).w k d := by
  rw [V_main_arg2 m c]; rfl
theorem in4 (t : Fin cfg0.N) (k : Fin 1024) (d : Fin 2560) : iblk m c 4 t (ix2 k d) = (kArgs m c).w k d := by
  rw [← V_arg2 m c k d]
  blk_ext! [iblk, idx4 t]

theorem idx5 : ∀ t : Fin cfg0.N, win0_5.index t = ![0, 0] := (by decide +kernel : ∀ t : Fin grid0.N, _)
theorem V_v8 (d : Fin 1792) : V m c main_v8 (ix2 0 d) = (kArgs m c).mup d := by
  unfold V hostOps0
  after_results_simp
  pointwise [kArgs]
theorem in5 (t : Fin cfg0.N) (d : Fin 1792) : iblk m c 5 t (ix2 0 d) = (kArgs m c).mup d := by
  rw [← V_v8 m c d]
  blk_ext! [iblk, idx5 t]

theorem idx6 : ∀ t : Fin cfg0.N, win0_6.index t = ![0, 0] := (by decide +kernel : ∀ t : Fin grid0.N, _)
theorem V_v9 (d : Fin 1792) : V m c main_v9 (ix2 0 d) = (kArgs m c).mun d := by
  unfold V hostOps0
  after_results_simp
  pointwise [kArgs]
theorem in6 (t : Fin cfg0.N) (d : Fin 1792) : iblk m c 6 t (ix2 0 d) = (kArgs m c).mun d := by
  rw [← V_v9 m c d]
  blk_ext! [iblk, idx6 t]

theorem idx7 : ∀ t : Fin cfg0.N, win0_7.index t = ![0, 0] := (by decide +kernel : ∀ t : Fin grid0.N, _)
theorem V_arg5 (k : Fin 2) (d : Fin 512) : V m c main_arg5 (ix2 k d) = (kArgs m c).w0 k d := by
  rw [V_main_arg5 m c]; rfl
theorem in7 (t : Fin cfg0.N) (k : Fin 2) (d : Fin 512) : iblk m c 7 t (ix2 k d) = (kArgs m c).w0 k d := by
  rw [← V_arg5 m c k d]
  blk_ext! [iblk, idx7 t]

theorem idx9 : ∀ t : Fin cfg0.N, win0_9.index t = ![0, 0] := (by decide +kernel : ∀ t : Fin grid0.N, _)
theorem V_arg7 (k : Fin 2) (d : Fin 512) : V m c main_arg7 (ix2 k d) = (kArgs m c).a0 k d := by
  rw [V_main_arg7 m c]; rfl
theorem in9 (t : Fin cfg0.N) (k : Fin 2) (d : Fin 512) : iblk m c 9 t (ix2 k d) = (kArgs m c).a0 k d := by
  rw [← V_arg7 m c k d]
  blk_ext! [iblk, idx9 t]

theorem idx12 : ∀ t : Fin cfg0.N, win0_12.index t = ![0, 0] := (by decide +kernel : ∀ t : Fin grid0.N, _)
theorem V_v11 (d : Fin 512) : V m c main_v11 (ix2 0 d) = (kArgs m c).kk d := by
  unfold V hostOps0
  after_results_simp
  pointwise [kArgs]
theorem in12 (t : Fin cfg0.N) (d : Fin 512) : iblk m c 12 t (ix2 0 d) = (kArgs m c).kk d := by
  rw [← V_v11 m c d]
  blk_ext! [iblk, idx12 t]

theorem idx13 : ∀ t : Fin cfg0.N, win0_13.index t = ![0, 0] := (by decide +kernel : ∀ t : Fin grid0.N, _)
theorem V_v12 (d : Fin 512) : V m c main_v12 (ix2 0 d) = (kArgs m c).ka d := by
  unfold V hostOps0
  after_results_simp
  pointwise [kArgs]
theorem in13 (t : Fin cfg0.N) (d : Fin 512) : iblk m c 13 t (ix2 0 d) = (kArgs m c).ka d := by
  rw [← V_v12 m c d]
  blk_ext! [iblk, idx13 t]

theorem idx14 : ∀ t : Fin cfg0.N, win0_14.index t = ![0, 0] := (by decide +kernel : ∀ t : Fin grid0.N, _)
theorem V_v13 (d : Fin 512) : V m c main_v13 (ix2 0 d) = (kArgs m c).rk d := by
  unfold V hostOps0
  after_results_simp
  pointwise [kArgs]
theorem in14 (t : Fin cfg0.N) (d : Fin 512) : iblk m c 14 t (ix2 0 d) = (kArgs m c).rk d := by
  rw [← V_v13 m c d]
  blk_ext! [iblk, idx14 t]

theorem idx11 : ∀ t : Fin cfg0.N, win0_11.index t = ![0, 0] := (by decide +kernel : ∀ t : Fin grid0.N, _)
theorem V_v10 (k : Fin 128) (d : Fin 512) : V m c main_v10 (ix2 k d) = (kArgs m c).g2 k d := by
  unfold V hostOps0
  after_results_simp
  pointwise [kArgs]
theorem in11 (t : Fin cfg0.N) (k : Fin 128) (d : Fin 512) : iblk m c 11 t (ix2 k d) = (kArgs m c).g2 k d := by
  rw [← V_v10 m c k d]
  blk_ext! [iblk, idx11 t]

theorem idx8 : ∀ t : Fin cfg0.N, win0_8.index t = ![0, 0, 0] := (by decide +kernel : ∀ t : Fin grid0.N, _)
theorem V_v4 (e : Fin 2) (s : Fin 128) (d : Fin 512) : V m c main_v4 (ix3 e s d) = if h : s.val < 64 then (kArgs m c).w2 e ⟨s.val, h⟩ d else 0 := by
  unfold V hostOps0
  after_results_simp
  pointwise [kArgs]
  after_results_simp
  pointwise [kArgs]
theorem in8 (t : Fin cfg0.N) (e : Fin 2) (s : Fin 128) (d : Fin 512) : iblk m c 8 t (ix3 e s d) = if h : s.val < 64 then (kArgs m c).w2 e ⟨s.val, h⟩ d else 0 := by
  rw [← V_v4 m c e s d]
  blk_ext! [iblk, idx8 t]

theorem idx10 : ∀ t : Fin cfg0.N, win0_10.index t = ![0, 0, 0] := (by decide +kernel : ∀ t : Fin grid0.N, _)
theorem V_v6 (e : Fin 2) (s : Fin 128) (d : Fin 512) : V m c main_v6 (ix3 e s d) = if h : s.val < 64 then 0 else (kArgs m c).a2 e ⟨s.val - 64, by omega⟩ d := by
  unfold V hostOps0
  after_results_simp
  pointwise [kArgs]
  after_results_simp
  pointwise [kArgs]
theorem in10 (t : Fin cfg0.N) (e : Fin 2) (s : Fin 128) (d : Fin 512) : iblk m c 10 t (ix3 e s d) = if h : s.val < 64 then 0 else (kArgs m c).a2 e ⟨s.val - 64, by omega⟩ d := by
  rw [← V_v6 m c e s d]
  blk_ext! [iblk, idx10 t]

/-- The normalised rows of a block with its halos, zero past the sequence's ends. -/
abbrev hidBlk (t : Fin cfg0.N) : FVec Ideal S544x1024 .bf16 :=
  k0_pay10 (BitVec.ofBool (decide (t.val % 16 = 0))) (BitVec.ofBool (decide (t.val % 16 = 15))) (k0_pay4 (k0_pay3 (iblk m c 0 t)) (iblk m c 3 t))
    (k0_pay7 (iblk m c 1 t) (iblk m c 3 t)) (k0_pay8 (iblk m c 2 t)) (k0_pay9 (iblk m c 2 t)) (iblk m c 3 t)

theorem ofBool_one (P : Prop) [Decidable P] : (BitVec.ofBool (decide P) = 1#1) = P := by
  by_cases h : P <;> simp [h]

theorem hid_at {n : Nat} (t : Fin cfg0.N) (p : Fin n) (r : Nat) (hr' : r < 16384) (x : Vec Ideal (⟨2, ![n, 1024]⟩ : Shape) .f32)
    (hx : ∀ d : Fin 1024, x (ix2 p d) = (kArgs m c).x ⟨r / 8192, by omega⟩ ⟨r % 8192, by omega⟩ d)
    (B : Fin 2) (T : Fin 8192) (hB : B.val = r / 8192) (hT : T.val = r % 8192) (d : Fin 1024) :
    rmsRow (rowOf (k := 1024) x p) (rowOf (k := 1024) (iblk m c 3 t) (0 : Fin 1)) d = (kArgs m c).hid B T d := by
  have eB : B = ⟨r / 8192, by omega⟩ := Fin.ext hB
  have eT : T = ⟨r % 8192, by omega⟩ := Fin.ext hT
  rw [eB, eT]
  exact congrArg₂ (fun f g => rmsRow f g d) (funext hx) (funext (in3 m c t))

/-- The rows that the shift reads: the row before, the row and the row after, zero past the sequence's ends. -/
theorem hid_rows (t : Fin cfg0.N) (p : Fin 512) (B : Fin 2) (T : Fin 8192) (hB : B.val = t.val / 16) (hT : T.val = t.val % 16 * 512 + p.val) :
    rowOf (hidBlk m c t) ⟨p.val + 15, by omega⟩ = prevRow ((kArgs m c).hid B) T
    ∧ rowOf (hidBlk m c t) ⟨p.val + 16, by omega⟩ = (kArgs m c).hid B T
    ∧ rowOf (hidBlk m c t) ⟨p.val + 17, by omega⟩ = nextRow ((kArgs m c).hid B) T := by
  have hp := p.isLt
  have ht := lt32 t
  refine ⟨funext fun k => ?_, funext fun k => ?_, funext fun k => ?_⟩
  · unfold rowOf prevRow
    refine (pay10_at _ _ _ _ _ _ _ k).trans ?_
    simp only [ofBool_one]
    unfold catRow
    by_cases hp0 : p.val < 1
    · rw [dif_pos (by simp only; omega)]
      beta_reduce
      by_cases h : 0 < T.val
      · rw [if_neg (by omega), if_pos h, pay7_at]
        exact hid_at m c t _ (t.val * 512 + p.val - 1) (by omega) _ (fun d => in1 m c t _ d _ (by simp only; omega) (by omega)) _ _ (by omega) (by simp only; omega) k
      · rw [if_pos (by omega), if_neg h]
    · rw [dif_neg (by simp only; omega), dif_pos (by simp only; omega), if_pos (by omega)]
      unfold rowOf
      rw [pay4_at]
      exact hid_at m c t _ (t.val * 512 + p.val - 1) (by omega) _ (fun d => in0 m c t _ d _ (by simp only; omega) (by omega)) _ _ (by omega) (by simp only; omega) k
  · unfold rowOf
    refine (pay10_at _ _ _ _ _ _ _ k).trans ?_
    unfold catRow
    rw [dif_neg (by simp only; omega), dif_pos (by simp only; omega)]
    unfold rowOf
    rw [pay4_at]
    exact hid_at m c t _ (t.val * 512 + p.val) (by omega) _ (fun d => in0 m c t _ d _ (by simp only; omega) (by omega)) _ _ (by omega) (by omega) k
  · unfold rowOf nextRow
    refine (pay10_at _ _ _ _ _ _ _ k).trans ?_
    simp only [ofBool_one]
    unfold catRow
    by_cases hp1 : p.val < 511
    · rw [dif_neg (by simp only; omega), dif_pos (by simp only; omega), dif_pos (by omega)]
      unfold rowOf
      rw [pay4_at]
      exact hid_at m c t _ (t.val * 512 + p.val + 1) (by omega) _ (fun d => in0 m c t _ d _ (by simp only; omega) (by omega)) _ _ (by omega) (by simp only; omega) k
    · rw [dif_neg (by simp only; omega), dif_neg (by simp only; omega)]
      beta_reduce
      by_cases h : T.val + 1 < 8192
      · rw [if_neg (by omega), dif_pos h]
        exact hid_at m c t _ (t.val * 512 + p.val + 1) (by omega) _ (fun d => in2 m c t _ d _ (by simp only; omega) (by omega)) _ _ (by omega) (by simp only; omega) k
      · rw [if_pos (by omega), dif_neg h]

end Cert.Proof.Prep
-- ==== Proof.PrepOut.lean ====
module

public import proofs.«01_k».proof.Proof.PrepIn

/-! What the first call's payloads come to at one position, over loads of the weights that are given by their entries. -/

@[expose] public section

set_option maxRecDepth 16384

noncomputable section

namespace Cert.Proof.Prep

open Idealize.ShloMosaic Idealize.ShloMosaic.TcCoe
open Cert.InPrepIdeal Cert.InPrepIdeal.Gen
open Cert.Proof.Ffn (rmsRow prevRow nextRow ld_at)

variable (m : (ℓ : Loc nD τ sig) → Buf (Elt Ideal) ℓ) (c : Dev nD)

/-- The columns of the projection's weights from column `o` on. -/
def Cols {n : Nat} (w : Vec Ideal (⟨2, ![1024, n]⟩ : Shape) .bf16) (o : Nat) : Prop :=
  ∀ (k : Fin 1024) (j : Fin n) (J : Fin 2560), J.val = o + j.val → w (ix2 k j) = (kArgs m c).w k J

/-- The shift's two coefficient rows from column `o` on. -/
def Mus {n : Nat} (mu mn : Vec Ideal (⟨2, ![1, n]⟩ : Shape) .f32) (o : Nat) : Prop :=
  ∀ (j : Fin n) (J : Fin 1792), J.val = o + j.val → mu (ix2 0 j) = (kArgs m c).mup J ∧ mn (ix2 0 j) = (kArgs m c).mun J

theorem mus_at (t : Fin cfg0.N) (n o : Nat) (i : ∀ q, (![0, o] : Fin 2 → Nat) q + (![1, n] : Fin 2 → Nat) q ≤ S1x1792.size q) :
    Mus m c (n := n) (View.ld (iblk m c 5 t) (Rect.unit ![0, o] ![1, n] i)) (View.ld (iblk m c 6 t) (Rect.unit ![0, o] ![1, n] i)) o := by
  intro j J hJ
  have ho : o + j.val < 1792 := hJ ▸ J.isLt
  have eJ : J = ⟨o + j.val, ho⟩ := Fin.ext hJ
  rw [eJ]
  exact ⟨(ld_at (iblk m c 5 t) i 0 j (by decide) ho).trans (in5 m c t _), (ld_at (iblk m c 6 t) i 0 j (by decide) ho).trans (in6 m c t _)⟩

/-- Contents of the scratch that hold the projection's weights. -/
def Holds (f : (View.whole (sig := sig) cc0_scratch0).ty.Contents (Elt Ideal)) : Prop :=
  ∀ (k : Fin 1024) (j : Fin 2560), View.read (Elt Ideal) (View.whole cc0_scratch0) f (ix2 k j) = (kArgs m c).w k j

theorem cols_load (f : (View.whole (sig := sig) cc0_scratch0).ty.Contents (Elt Ideal)) (hf : Holds m c f) (n o : Nat)
    (i : ∀ q, (![0, o] : Fin 2 → Nat) q + (![1024, n] : Fin 2 → Nat) q ≤ S1024x2560.size q) :
    Cols m c (n := n) (View.readAt (Elt Ideal) (View.whole cc0_scratch0) (Rect.unit (s := S1024x2560) ![0, o] ![1024, n] i).toLoadRect f) o := by
  intro k j J hJ
  refine Eq.trans ?_ (hf k J)
  refine congrArg (View.read (Elt Ideal) (View.whole cc0_scratch0) f) (Cert.Proof.Ffn.eq_ix2 _ k J ?_ ?_)
  · show k.val = 0 + 1 * k.val; omega
  · show J.val = o + 1 * j.val; omega

theorem cols_slice (f : (View.whole (sig := sig) cc0_scratch0).ty.Contents (Elt Ideal)) (hf : Holds m c f) (n o : Nat)
    (i0 : ∀ q, (![0, 0] : Fin 2 → Nat) q + (![1024, 1792] : Fin 2 → Nat) q ≤ S1024x2560.size q)
    (i : ∀ q, (![0, o] : Fin 2 → Nat) q + (![1024, n] : Fin 2 → Nat) q ≤ S1024x1792.size q)
    (h : ∀ q, (Rect.unit (s := S1024x2560) ![0, 0] ![1024, 1792] i0).stride q = 1) :
    Cols m c (n := n) (View.readAt (Elt Ideal) (View.whole cc0_scratch0) ((Rect.unit (s := S1024x2560) ![0, 0] ![1024, 1792] i0).withinL
      (Rect.unit (s := S1024x1792) ![0, o] ![1024, n] i).toLoadRect h) f) o := by
  intro k j J hJ
  refine Eq.trans ?_ (hf k J)
  refine congrArg (View.read (Elt Ideal) (View.whole cc0_scratch0) f) (Cert.Proof.Ffn.eq_ix2 _ k J ?_ ?_)
  · show k.val = 0 + 0 + 1 * k.val; omega
  · show J.val = 0 + o + 1 * j.val; omega

variable (t : Fin cfg0.N) (p : Fin 512) (B : Fin 2) (T : Fin 8192) (hB : B.val = t.val / 16) (hT : T.val = t.val % 16 * 512 + p.val)
include hB hT

theorem proj_of {n : Nat} (w : Vec Ideal (⟨2, ![1024, n]⟩ : Shape) .bf16) (o : Nat) (hw : Cols m c w o) (j : Fin n) (J : Fin 2560) (hJ : J.val = o + j.val) :
    dotCol (rmsRow (rowOf (iblk m c 0 t) p) (rowOf (iblk m c 3 t) 0)) (colOf w j) = (kArgs m c).proj B T J := by
  have ht := lt32 t
  refine congrArg₂ dotCol (funext fun d => ?_) (funext fun k => hw k j J hJ)
  exact hid_at m c t p (t.val * 512 + p.val) (by omega) _ (fun d => in0 m c t p d _ rfl (by omega)) B T (by omega) (by omega) d

theorem q_of (w : Vec Ideal S1024x512 .bf16) (hw : Cols m c w 1792) (j : Fin 512) :
    k0_pay5 (k0_pay3 (iblk m c 0 t)) (iblk m c 3 t) w (ix2 p j) = (kArgs m c).q B T j :=
  (pay5_at _ _ _ p j).trans (proj_of m c t p B T hB hT w 1792 hw j _ rfl)

theorem kv_of (w : Vec Ideal S1024x256 .bf16) (hw : Cols m c w 2304) (j : Fin 256) :
    k0_pay6 (k0_pay3 (iblk m c 0 t)) (iblk m c 3 t) w (ix2 p j) = (kArgs m c).kv B T j :=
  (pay6_at _ _ _ p j).trans (proj_of m c t p B T hB hT w 2304 hw j _ rfl)

theorem sh_of {n : Nat} (w : Vec Ideal (⟨2, ![1024, n]⟩ : Shape) .bf16) (mu mn : Vec Ideal (⟨2, ![1, n]⟩ : Shape) .f32) (o : Nat) (hw : Cols m c w o) (hm : Mus m c mu mn o)
    (j : Fin n) (J : Fin 1792) (hJ : J.val = o + j.val) :
    shiftBlk (rowOf (hidBlk m c t)) (colOf w j) (mu (ix2 0 j)) (mn (ix2 0 j)) p = (kArgs m c).sh B T J := by
  obtain ⟨r0, r1, r2⟩ := hid_rows m c t p B T hB hT
  have e : colOf w j = fun k => (kArgs m c).w k ⟨J.val, by omega⟩ := funext fun k => hw k j _ hJ
  unfold shiftBlk
  rw [r0, r1, r2, e, (hm j J hJ).1, (hm j J hJ).2]
  rfl

theorem r_of (w : Vec Ideal S1024x512 .bf16) (mu mn : Vec Ideal S1x512 .f32) (hw : Cols m c w 0) (hm : Mus m c mu mn 0) (j : Fin 512) :
    k0_pay35 (k0_pay33 (hidBlk m c t) w) (k0_pay34 (hidBlk m c t) w) 1#32 mu mn (ix2 p j) = (kArgs m c).r B T j :=
  (pay35_at _ _ _ _ p j).trans (sh_of m c t p B T hB hT w mu mn 0 hw hm j _ (Nat.zero_add _).symm)

theorem v_of (w : Vec Ideal S1024x512 .bf16) (mu mn : Vec Ideal S1x512 .f32) (hw : Cols m c w 1024) (hm : Mus m c mu mn 1024) (j : Fin 512) :
    k0_pay36 (hidBlk m c t) w mu mn (ix2 p j) = (kArgs m c).v B T j :=
  (pay36_at _ _ _ _ p j).trans (sh_of m c t p B T hB hT w mu mn 1024 hw hm j _ rfl)

theorem k_of (w : Vec Ideal S1024x512 .bf16) (mu mn : Vec Ideal S1x512 .f32) (hw : Cols m c w 512) (hm : Mus m c mu mn 512) (j : Fin 512) :
    k0_pay16 (hidBlk m c t) w mu mn (ix2 p j) = (kArgs m c).k B T j :=
  (pay16_at _ _ _ _ p j).trans (sh_of m c t p B T hB hT w mu mn 512 hw hm j _ rfl)

theorem kkn_of (w : Vec Ideal S1024x512 .bf16) (mu mn : Vec Ideal S1x512 .f32) (hw : Cols m c w 512) (hm : Mus m c mu mn 512) (j : Fin 512) :
    k0_pay22 (k0_pay17 (hidBlk m c t) w mu mn (iblk m c 12 t)) k0_pay18 (k0_pay20 (hidBlk m c t) w mu mn (iblk m c 12 t)) (k0_pay21 (hidBlk m c t) w mu mn (iblk m c 12 t))
      (constant S512x256 .f32 0x00000000#32) (ix2 p j) = (kArgs m c).kkn B T j :=
  (pay22_at _ _ _ _ _ p j).trans (congrArg₂ (fun f g => kkRow f g j) (funext fun i => k_of m c t p B T hB hT w mu mn hw hm i) (funext fun i => in12 m c t i))

/-- The 256 low-rank columns of the block's positions. -/
abbrev lowBlk (w : Vec Ideal S1024x256 .bf16) (mu mn : Vec Ideal S1x256 .f32) : FVec Ideal S512x256 .f32 :=
  k0_pay11 (BitVec.ofBool (decide (t.val % 16 = 0))) (BitVec.ofBool (decide (t.val % 16 = 15))) (k0_pay4 (k0_pay3 (iblk m c 0 t)) (iblk m c 3 t))
    (k0_pay7 (iblk m c 1 t) (iblk m c 3 t)) (k0_pay8 (iblk m c 2 t)) (k0_pay9 (iblk m c 2 t)) (iblk m c 3 t) w mu mn

theorem low_of (w : Vec Ideal S1024x256 .bf16) (mu mn : Vec Ideal S1x256 .f32) (hw : Cols m c w 1536) (hm : Mus m c mu mn 1536) (j : Fin 256) (J : Fin 1792) (hJ : J.val = 1536 + j.val) :
    lowBlk m c t w mu mn (ix2 p j) = (kArgs m c).sh B T J :=
  (pay11_at _ _ _ _ _ _ _ _ _ _ p j).trans (sh_of m c t p B T hB hT w mu mn 1536 hw hm j J hJ)

end Cert.Proof.Prep
-- ==== Proof.PrepOut2.lean ====
module

public import proofs.«01_k».proof.Proof.PrepOut

/-! The gate, the decay, the rate, the scaled key and the bonus at one position, from the payloads they are made of. -/

@[expose] public section

set_option maxRecDepth 16384

noncomputable section

namespace Cert.Proof.Prep

open Idealize.ShloMosaic Idealize.ShloMosaic.TcCoe
open Cert.InPrepIdeal Cert.InPrepIdeal.Gen
open Cert.Proof.Ffn (rmsRow prevRow nextRow ld_at)

variable (m : (ℓ : Loc nD τ sig) → Buf (Elt Ideal) ℓ) (c : Dev nD) (t : Fin cfg0.N) (p : Fin 512) (B : Fin 2) (T : Fin 8192)

theorem w0_at (e : Fin 2) (i : ∀ q, (![e.val, 0] : Fin 2 → Nat) q + (![1, 512] : Fin 2 → Nat) q ≤ S2x512.size q) (j : Fin 512) :
    View.ld (iblk m c 7 t) (Rect.unit (s := S2x512) ![e.val, 0] ![1, 512] i) (ix2 0 j) = (kArgs m c).w0 e j :=
  (ld_at (iblk m c 7 t) i 0 j e.isLt (by omega)).trans ((in7 m c t _ _).trans (congrArg ((kArgs m c).w0 e) (Fin.ext (Nat.zero_add _))))

theorem a0_at (e : Fin 2) (i : ∀ q, (![e.val, 0] : Fin 2 → Nat) q + (![1, 512] : Fin 2 → Nat) q ≤ S2x512.size q) (j : Fin 512) :
    View.ld (iblk m c 9 t) (Rect.unit (s := S2x512) ![e.val, 0] ![1, 512] i) (ix2 0 j) = (kArgs m c).a0 e j :=
  (ld_at (iblk m c 9 t) i 0 j e.isLt (by omega)).trans ((in9 m c t _ _).trans (congrArg ((kArgs m c).a0 e) (Fin.ext (Nat.zero_add _))))

/-- A load of one matrix of a pair, at an entry. -/
theorem ld3_at (X : Vec Ideal S2x128x512 .bf16) (e : Fin 2) (i : ∀ q, (![e.val, 0, 0] : Fin 3 → Nat) q + (![1, 128, 512] : Fin 3 → Nat) q ≤ S2x128x512.size q) (s : Fin 128) (j : Fin 512) :
    View.ld X (Rect.unit (s := S2x128x512) ![e.val, 0, 0] ![1, 128, 512] i) (ix3 0 s j) = X (ix3 e s j) := by
  refine View.ld_unit_apply_of X _ _ i _ _ fun q => ?_
  match q with
  | ⟨0, _⟩ => rfl
  | ⟨1, _⟩ => exact (Nat.zero_add _).symm
  | ⟨2, _⟩ => exact (Nat.zero_add _).symm

theorem w2_at (e : Fin 2) (i : ∀ q, (![e.val, 0, 0] : Fin 3 → Nat) q + (![1, 128, 512] : Fin 3 → Nat) q ≤ S2x128x512.size q) (s : Fin 128) (j : Fin 512) :
    View.ld (iblk m c 8 t) (Rect.unit (s := S2x128x512) ![e.val, 0, 0] ![1, 128, 512] i) (ix3 0 s j) = if h : s.val < 64 then (kArgs m c).w2 e ⟨s.val, h⟩ j else 0 :=
  (ld3_at (iblk m c 8 t) e i s j).trans (in8 m c t e s j)

theorem a2_at (e : Fin 2) (i : ∀ q, (![e.val, 0, 0] : Fin 3 → Nat) q + (![1, 128, 512] : Fin 3 → Nat) q ≤ S2x128x512.size q) (s : Fin 128) (j : Fin 512) :
    View.ld (iblk m c 10 t) (Rect.unit (s := S2x128x512) ![e.val, 0, 0] ![1, 128, 512] i) (ix3 0 s j) = if h : s.val < 64 then 0 else (kArgs m c).a2 e ⟨s.val - 64, by omega⟩ j :=
  (ld3_at (iblk m c 10 t) e i s j).trans (in10 m c t e s j)

/-- The decay's formula, its low-rank sum padded to 128. -/
theorem decay_sum (X : Fin 128 → EReal) (b : EReal) (w : Fin 128 → EReal) (e : Fin 2) (j : Fin 512)
    (hX : ∀ s : Fin 128, X s = Ideal.tanh ((kArgs m c).sh B T ⟨1536 + s.val, by omega⟩)) (hb : b = (kArgs m c).w0 e j)
    (hw : ∀ s : Fin 128, w s = if h : s.val < 64 then (kArgs m c).w2 e ⟨s.val, h⟩ j else 0) :
    Ideal.ofBits .f32 0xBF1B4598#32 * Ideal.logistic (b + dotCol X w) = (kArgs m c).decay B T e j := by
  unfold Args.decay Args.xw dotCol
  simp only [hX, hw, hb]
  rw [sum_pad_low (fun s : Fin 128 => Ideal.tanh ((kArgs m c).sh B T ⟨1536 + s.val, by omega⟩)) (fun s => (kArgs m c).w2 e s j)]

/-- The rate's formula, its low-rank sum padded to 128. -/
theorem rate_sum (X : Fin 128 → EReal) (b : EReal) (w : Fin 128 → EReal) (e : Fin 2) (j : Fin 512)
    (hX : ∀ s : Fin 128, X s = (kArgs m c).sh B T ⟨1536 + s.val, by omega⟩) (hb : b = (kArgs m c).a0 e j)
    (hw : ∀ s : Fin 128, w s = if h : s.val < 64 then 0 else (kArgs m c).a2 e ⟨s.val - 64, by omega⟩ j) :
    Ideal.logistic (b + dotCol X w) = (kArgs m c).rate B T e j := by
  unfold Args.rate Args.xa dotCol
  simp only [hX, hw, hb]
  rw [sum_pad_high (fun s : Fin 128 => (kArgs m c).sh B T ⟨1536 + s.val, by omega⟩) (fun s => (kArgs m c).a2 e s j)]
  refine congrArg (fun u => Ideal.logistic (_ + u)) (Finset.sum_congr rfl fun s _ => ?_)
  exact congrArg (fun J => (kArgs m c).sh B T J * _) (Fin.ext (by show 1536 + (64 + s.val) = 1600 + s.val; omega))

theorem gate_of (X : FVec Ideal S512x128 .f32) (hX : ∀ s : Fin 128, X (ix2 p s) = (kArgs m c).xg B T s) (j : Fin 512) :
    k0_pay23 X (iblk m c 11 t) (ix2 p j) = (kArgs m c).gate B T j :=
  (pay23_at _ _ p j).trans (congrArg₂ dotCol (funext fun s => congrArg Ideal.logistic (hX s)) (funext fun s => in11 m c t s j))

variable (X : FVec Ideal S512x128 .bf16) (K N : FVec Ideal S512x512 .f32) (b : Vec Ideal S1x512 .f32) (w : Vec Ideal S1x128x512 .bf16) (j : Fin 512) (e : Fin 2)

section rate
variable (hX : ∀ s : Fin 128, X (ix2 p s) = (kArgs m c).sh B T ⟨1536 + s.val, by omega⟩) (hb : ∀ j, b (ix2 0 j) = (kArgs m c).a0 e j)
    (hw : ∀ (s : Fin 128) j, w (ix3 0 s j) = if h : s.val < 64 then 0 else (kArgs m c).a2 e ⟨s.val - 64, by omega⟩ j)
    (hK : ∀ j, K (ix2 p j) = (kArgs m c).k B T j) (hN : ∀ j, N (ix2 p j) = (kArgs m c).kkn B T j)
include hX hb hw

theorem rate0_of : k0_pay25 X b w (ix2 p j) = (kArgs m c).rate B T e j :=
  (pay25_at _ _ _ p j).trans (rate_sum m c B T _ _ _ e j hX (hb j) fun s => hw s j)

theorem rate1_of : k0_pay30 X b w (ix2 p j) = (kArgs m c).rate B T e j :=
  (pay30_at _ _ _ p j).trans (rate_sum m c B T _ _ _ e j hX (hb j) fun s => hw s j)

include hK in
theorem kd0_of : k0_pay26 X K b w (iblk m c 13 t) (ix2 p j) = (kArgs m c).kd B T e j := by
  rw [pay26_at, hK, rate0_of m c p B T X b w j e hX hb hw]
  exact congrArg (kdAt _ _) (in13 m c t j)

include hK in
theorem kd1_of : k0_pay31 X K b w (iblk m c 13 t) (ix2 p j) = (kArgs m c).kd B T e j := by
  rw [pay31_at, hK, rate1_of m c p B T X b w j e hX hb hw]
  exact congrArg (kdAt _ _) (in13 m c t j)

include hN in
theorem ab0_of : k0_pay27 X N b w (ix2 p j) = (kArgs m c).ab B T e j := by
  rw [pay27_at, hN, rate0_of m c p B T X b w j e hX hb hw]
  rfl

include hN in
theorem ab1_of : k0_pay32 X N b w (ix2 p j) = (kArgs m c).ab B T e j := by
  rw [pay32_at, hN, rate1_of m c p B T X b w j e hX hb hw]
  rfl

end rate

section decay
variable (hX : ∀ s : Fin 128, X (ix2 p s) = Ideal.tanh ((kArgs m c).sh B T ⟨1536 + s.val, by omega⟩)) (hb : ∀ j, b (ix2 0 j) = (kArgs m c).w0 e j)
    (hw : ∀ (s : Fin 128) j, w (ix3 0 s j) = if h : s.val < 64 then (kArgs m c).w2 e ⟨s.val, h⟩ j else 0)
include hX hb hw

theorem decay0_of : k0_pay24 X b w (ix2 p j) = (kArgs m c).decay B T e j :=
  (pay24_at _ _ _ p j).trans (decay_sum m c B T _ _ _ e j hX (hb j) fun s => hw s j)

theorem decay1_of : k0_pay29 (k0_pay28 X b w) (Scalar.ofBits .f32 0xBF1B4598#32) (ix2 p j) = (kArgs m c).decay B T e j :=
  (pay29_at _ _ _ p j).trans (decay_sum m c B T _ _ _ e j hX (hb j) fun s => hw s j)

end decay

theorem bonus_of (k0 k1 r v : FVec Ideal S512x512 .f32) (h0 : ∀ j, k0 (ix2 p j) = (kArgs m c).kd B T 0 j) (h1 : ∀ j, k1 (ix2 p j) = (kArgs m c).kd B T 1 j)
    (hr : ∀ j, r (ix2 p j) = (kArgs m c).r B T j) (hv : ∀ j, v (ix2 p j) = (kArgs m c).v B T j) :
    k0_pay1 k0 k1 r v (iblk m c 14 t) (ix2 p j) = (kArgs m c).bonus B T j := by
  rw [pay1_at]
  have e0 : rowOf k0 p = (kArgs m c).kd B T 0 := funext h0
  have e1 : rowOf k1 p = (kArgs m c).kd B T 1 := funext h1
  have er : rowOf r p = (kArgs m c).r B T := funext hr
  have ev : rowOf v p = (kArgs m c).v B T := funext hv
  have ek : rowOf (n := 1) (k := 512) (iblk m c 14 t) 0 = (kArgs m c).rk := funext fun i => in14 m c t i
  rw [e0, e1, er, ev, ek]
  rfl

/-- The three stores cover a packed block. -/
theorem pack_cover (P0 P1 P2 : Vec Ideal S512x512 .f32) (d : Fin 1536) :
    ∃ pc ∈ ([⟨Rect.unit ![0, 1024] ![512, 512] inb_S512x1536_S512x512_0_1024, P2⟩, ⟨Rect.unit ![0, 512] ![512, 512] inb_S512x1536_S512x512_0_512, P1⟩,
      ⟨Rect.unit ![0, 0] ![512, 512] inb_S512x1536_S512x512_0_0, P0⟩] : List (View.Piece (Elt Ideal) S512x1536 .f32)), (ix2 p d : S512x1536.Idx) ∈ pc.1.set := by
  have hp := p.isLt
  have hd := d.isLt
  have key : ∀ (o : Nat) (inb : ∀ q, (![0, o] : Fin 2 → Nat) q + (![512, 512] : Fin 2 → Nat) q ≤ S512x1536.size q), o ≤ d.val → d.val < o + 512 →
      (ix2 p d : S512x1536.Idx) ∈ (Rect.unit (s := S512x1536) ![0, o] ![512, 512] inb).set := by
    intro o inb h1 h2
    rw [Rect.mem_set_unit]
    intro q
    match q with
    | ⟨0, _⟩ => exact ⟨Nat.zero_le _, by show p.val < 0 + 512; omega⟩
    | ⟨1, _⟩ => exact ⟨h1, h2⟩
  by_cases a : 1024 ≤ d.val
  · exact ⟨_, List.mem_cons_self, key _ (by decide) a (by omega)⟩
  by_cases b : 512 ≤ d.val
  · exact ⟨_, List.mem_cons_of_mem _ List.mem_cons_self, key _ (by decide) b (by omega)⟩
  · exact ⟨_, List.mem_cons_of_mem _ (List.mem_cons_of_mem _ List.mem_cons_self), key _ (by decide) (Nat.zero_le _) (by omega)⟩

/-- A packed block after its three stores, at an entry. -/
theorem pack_at (P0 P1 P2 : Vec Ideal S512x512 .f32) (f g h : Fin 512 → EReal)
    (e0 : ∀ l : Fin 512, P0 (ix2 p l) = f l) (e1 : ∀ l : Fin 512, P1 (ix2 p l) = g l) (e2 : ∀ l : Fin 512, P2 (ix2 p l) = h l) (d : Fin 1536) :
    View.canon (Val := Elt Ideal) (s := S512x1536) (e := .f32) [⟨Rect.unit ![0, 1024] ![512, 512] inb_S512x1536_S512x512_0_1024, P2⟩, ⟨Rect.unit ![0, 512] ![512, 512] inb_S512x1536_S512x512_0_512, P1⟩,
      ⟨Rect.unit ![0, 0] ![512, 512] inb_S512x1536_S512x512_0_0, P0⟩] (ix2 p d) = pack3 f g h d := by
  have hd : d.val < 1536 := d.isLt
  have g0 := e0
  have g1 := e1
  have g2 := e2
  have key : ∀ (l : Fin 512) (o : Nat), d.val = o + l.val → (o = 0 → pack3 f g h d = f l) ∧ (o = 512 → pack3 f g h d = g l) ∧ (o = 1024 → pack3 f g h d = h l) := by
    intro l o hl
    refine ⟨fun ho => ?_, fun ho => ?_, fun ho => ?_⟩
    · unfold pack3
      rw [dif_pos (by omega)]
      exact congrArg f (Fin.ext (by simp only; omega))
    · unfold pack3
      rw [dif_neg (by omega), dif_pos (by omega)]
      exact congrArg g (Fin.ext (by simp only; omega))
    · unfold pack3
      rw [dif_neg (by omega), dif_neg (by omega)]
      exact congrArg h (Fin.ext (by simp only; omega))
  canon_tiles x h using (pack_cover p P0 P1 P2 d)
  · exact (congrArg P2 (Cert.Proof.Ffn.eq_ix2 x p ⟨_, x1_lt⟩ h0 rfl)).trans ((g2 _).trans ((key _ 1024 h1).2.2 rfl).symm)
  · exact (congrArg P1 (Cert.Proof.Ffn.eq_ix2 x p ⟨_, x1_lt⟩ h0 rfl)).trans ((g1 _).trans ((key _ 512 h1).2.1 rfl).symm)
  · exact (congrArg P0 (Cert.Proof.Ffn.eq_ix2 x p ⟨_, x1_lt⟩ h0 rfl)).trans ((g0 _).trans ((key _ 0 (h1.trans (Nat.zero_add _).symm)).1 rfl).symm)

end Cert.Proof.Prep
-- ==== Proof.PrepOut3.lean ====
module

public import proofs.«01_k».proof.Proof.PrepOut2

/-! The body's values at one position, over a scratch that holds the projection's weights. -/

@[expose] public section

set_option maxRecDepth 16384

noncomputable section

namespace Cert.Proof.Prep

open Idealize.ShloMosaic Idealize.ShloMosaic.TcCoe
open Cert.InPrepIdeal Cert.InPrepIdeal.Gen

variable (m : (ℓ : Loc nD τ sig) → Buf (Elt Ideal) ℓ) (c : Dev nD) (t : Fin cfg0.N) (f : (View.whole (sig := sig) cc0_scratch0).ty.Contents (Elt Ideal))

/-- The load of `n` of the projection's columns from column `o` on, through the slice of the 1792 shifted columns. -/
abbrev wAt (n o : Nat) (i : ∀ q, (![0, o] : Fin 2 → Nat) q + (![1024, n] : Fin 2 → Nat) q ≤ S1024x1792.size q) : Vec Ideal (⟨2, ![1024, n]⟩ : Shape) .bf16 :=
  View.readAt (Elt Ideal) (View.whole cc0_scratch0) ((Rect.unit (s := S1024x2560) ![0, 0] ![1024, 1792] (by decide)).withinL
    (Rect.unit (s := S1024x1792) ![0, o] ![1024, n] i).toLoadRect (by decide)) f

abbrev mpAt (n o : Nat) (i : ∀ q, (![0, o] : Fin 2 → Nat) q + (![1, n] : Fin 2 → Nat) q ≤ S1x1792.size q) : Vec Ideal (⟨2, ![1, n]⟩ : Shape) .f32 :=
  View.ld (iblk m c 5 t) (Rect.unit ![0, o] ![1, n] i)

abbrev mnAt (n o : Nat) (i : ∀ q, (![0, o] : Fin 2 → Nat) q + (![1, n] : Fin 2 → Nat) q ≤ S1x1792.size q) : Vec Ideal (⟨2, ![1, n]⟩ : Shape) .f32 :=
  View.ld (iblk m c 6 t) (Rect.unit ![0, o] ![1, n] i)

/-- A payload of the low-rank columns, applied to what the body gives it. -/
abbrev onLow {α : Type} (pay : BitVec 1 → BitVec 1 → FVec Ideal S512x1024 .bf16 → FVec Ideal S16x1024 .bf16 → FVec Ideal S16x1024 .f32 → FVec Ideal S16x1 .f32 → Vec Ideal S1x1024 .f32 →
    Vec Ideal S1024x256 .bf16 → Vec Ideal S1x256 .f32 → Vec Ideal S1x256 .f32 → α) : α :=
  pay (BitVec.ofBool (decide (t.val % 16 = 0))) (BitVec.ofBool (decide (t.val % 16 = 15))) (k0_pay4 (k0_pay3 (iblk m c 0 t)) (iblk m c 3 t))
    (k0_pay7 (iblk m c 1 t) (iblk m c 3 t)) (k0_pay8 (iblk m c 2 t)) (k0_pay9 (iblk m c 2 t)) (iblk m c 3 t)
    (wAt f 256 1536 (by decide)) (mpAt m c t 256 1536 (by decide)) (mnAt m c t 256 1536 (by decide))

abbrev rBlk : FVec Ideal S512x512 .f32 :=
  k0_pay35 (k0_pay33 (hidBlk m c t) (wAt f 512 0 (by decide))) (k0_pay34 (hidBlk m c t) (wAt f 512 0 (by decide))) 1#32 (mpAt m c t 512 0 (by decide)) (mnAt m c t 512 0 (by decide))

abbrev vBlk : FVec Ideal S512x512 .f32 :=
  k0_pay36 (hidBlk m c t) (wAt f 512 1024 (by decide)) (mpAt m c t 512 1024 (by decide)) (mnAt m c t 512 1024 (by decide))

/-- A payload of the key's columns, applied to what the body gives it. -/
abbrev onKey {α : Type} (pay : FVec Ideal S544x1024 .bf16 → Vec Ideal S1024x512 .bf16 → Vec Ideal S1x512 .f32 → Vec Ideal S1x512 .f32 → α) : α :=
  pay (hidBlk m c t) (wAt f 512 512 (by decide)) (mpAt m c t 512 512 (by decide)) (mnAt m c t 512 512 (by decide))

abbrev kknBlk : FVec Ideal S512x512 .f32 :=
  k0_pay22 (onKey m c t f fun h w mu mn => k0_pay17 h w mu mn (iblk m c 12 t)) k0_pay18 (onKey m c t f fun h w mu mn => k0_pay20 h w mu mn (iblk m c 12 t))
    (onKey m c t f fun h w mu mn => k0_pay21 h w mu mn (iblk m c 12 t)) (constant S512x256 .f32 0x00000000#32)

abbrev biasAt (x : Vec Ideal S2x512 .f32) (e : Fin 2) (i : ∀ q, (![e.val, 0] : Fin 2 → Nat) q + (![1, 512] : Fin 2 → Nat) q ≤ S2x512.size q) : Vec Ideal S1x512 .f32 :=
  View.ld x (Rect.unit (s := S2x512) ![e.val, 0] ![1, 512] i)

abbrev matAt (x : Vec Ideal S2x128x512 .bf16) (e : Fin 2) (i : ∀ q, (![e.val, 0, 0] : Fin 3 → Nat) q + (![1, 128, 512] : Fin 3 → Nat) q ≤ S2x128x512.size q) : Vec Ideal S1x128x512 .bf16 :=
  View.ld x (Rect.unit (s := S2x128x512) ![e.val, 0, 0] ![1, 128, 512] i)

variable (H : Holds m c f) (p : Fin 512) (B : Fin 2) (T : Fin 8192) (hB : B.val = t.val / 16) (hT : T.val = t.val % 16 * 512 + p.val)
include H hB hT

theorem r_at (j : Fin 512) : rBlk m c t f (ix2 p j) = (kArgs m c).r B T j :=
  r_of m c t p B T hB hT _ _ _ (cols_slice m c f H 512 0 _ _ _) (mus_at m c t 512 0 _) j

theorem v_at (j : Fin 512) : vBlk m c t f (ix2 p j) = (kArgs m c).v B T j :=
  v_of m c t p B T hB hT _ _ _ (cols_slice m c f H 512 1024 _ _ _) (mus_at m c t 512 1024 _) j

theorem k_at (j : Fin 512) : onKey m c t f k0_pay16 (ix2 p j) = (kArgs m c).k B T j :=
  k_of m c t p B T hB hT _ _ _ (cols_slice m c f H 512 512 _ _ _) (mus_at m c t 512 512 _) j

theorem kkn_at (j : Fin 512) : kknBlk m c t f (ix2 p j) = (kArgs m c).kkn B T j :=
  kkn_of m c t p B T hB hT _ _ _ (cols_slice m c f H 512 512 _ _ _) (mus_at m c t 512 512 _) j

theorem low_at (j : Fin 256) (J : Fin 1792) (hJ : J.val = 1536 + j.val) : onLow m c t f k0_pay11 (ix2 p j) = (kArgs m c).sh B T J :=
  low_of m c t p B T hB hT _ _ _ (cols_slice m c f H 256 1536 _ _ _) (mus_at m c t 256 1536 _) j J hJ

theorem lora_at (s : Fin 128) : onLow m c t f k0_pay15 (ix2 p s) = (kArgs m c).sh B T ⟨1536 + s.val, by omega⟩ :=
  (pay15_at _ _ _ _ _ _ _ _ _ _ p s).trans (low_at m c t f H p B T hB hT _ _ rfl)

theorem tanh_at (s : Fin 128) : onLow m c t f k0_pay14 (ix2 p s) = Ideal.tanh ((kArgs m c).sh B T ⟨1536 + s.val, by omega⟩) :=
  (pay14_at _ _ _ _ _ _ _ _ _ _ p s).trans (congrArg Ideal.tanh (low_at m c t f H p B T hB hT _ _ rfl))

theorem gate_at (j : Fin 512) : k0_pay23 (onLow m c t f k0_pay13) (iblk m c 11 t) (ix2 p j) = (kArgs m c).gate B T j :=
  gate_of m c t p B T _ (fun s => (pay13_at _ _ _ _ _ _ _ _ _ _ p s).trans (low_at m c t f H p B T hB hT _ _ (by show 1664 + s.val = 1536 + (128 + s.val); omega))) j

theorem decay0_at (j : Fin 512) : k0_pay24 (onLow m c t f k0_pay14) (biasAt (iblk m c 7 t) 0 (by decide)) (matAt (iblk m c 8 t) 0 (by decide)) (ix2 p j) = (kArgs m c).decay B T 0 j :=
  decay0_of m c p B T _ _ _ j 0 (tanh_at m c t f H p B T hB hT) (w0_at m c t 0 _) (w2_at m c t 0 _)

theorem decay1_at (j : Fin 512) : k0_pay29 (k0_pay28 (onLow m c t f k0_pay14) (biasAt (iblk m c 7 t) 1 (by decide)) (matAt (iblk m c 8 t) 1 (by decide))) (Scalar.ofBits .f32 0xBF1B4598#32) (ix2 p j)
    = (kArgs m c).decay B T 1 j :=
  decay1_of m c p B T _ _ _ j 1 (tanh_at m c t f H p B T hB hT) (w0_at m c t 1 _) (w2_at m c t 1 _)

theorem kd0_at (j : Fin 512) : k0_pay26 (onLow m c t f k0_pay15) (onKey m c t f k0_pay16) (biasAt (iblk m c 9 t) 0 (by decide)) (matAt (iblk m c 10 t) 0 (by decide)) (iblk m c 13 t) (ix2 p j)
    = (kArgs m c).kd B T 0 j :=
  kd0_of m c t p B T _ _ _ _ j 0 (lora_at m c t f H p B T hB hT) (a0_at m c t 0 _) (a2_at m c t 0 _) (k_at m c t f H p B T hB hT)

theorem kd1_at (j : Fin 512) : k0_pay31 (onLow m c t f k0_pay15) (onKey m c t f k0_pay16) (biasAt (iblk m c 9 t) 1 (by decide)) (matAt (iblk m c 10 t) 1 (by decide)) (iblk m c 13 t) (ix2 p j)
    = (kArgs m c).kd B T 1 j :=
  kd1_of m c t p B T _ _ _ _ j 1 (lora_at m c t f H p B T hB hT) (a0_at m c t 1 _) (a2_at m c t 1 _) (k_at m c t f H p B T hB hT)

theorem ab0_at (j : Fin 512) : k0_pay27 (onLow m c t f k0_pay15) (kknBlk m c t f) (biasAt (iblk m c 9 t) 0 (by decide)) (matAt (iblk m c 10 t) 0 (by decide)) (ix2 p j) = (kArgs m c).ab B T 0 j :=
  ab0_of m c p B T _ _ _ _ j 0 (lora_at m c t f H p B T hB hT) (a0_at m c t 0 _) (a2_at m c t 0 _) (kkn_at m c t f H p B T hB hT)

theorem ab1_at (j : Fin 512) : k0_pay32 (onLow m c t f k0_pay15) (kknBlk m c t f) (biasAt (iblk m c 9 t) 1 (by decide)) (matAt (iblk m c 10 t) 1 (by decide)) (ix2 p j) = (kArgs m c).ab B T 1 j :=
  ab1_of m c p B T _ _ _ _ j 1 (lora_at m c t f H p B T hB hT) (a0_at m c t 1 _) (a2_at m c t 1 _) (kkn_at m c t f H p B T hB hT)

end Cert.Proof.Prep

end
-- ==== Proof.PrepBlock.lean ====
module

public import proofs.«01_k».proof.Proof.Gen.InPrepIdeal.Frame
public import proofs.«01_k».proof.Proof.PrepOut3
public import Idealize.ShloMosaic.Lib.Pipeline.ReadBack

/-! What the first call's body leaves in its seven output blocks at one grid point. -/

@[expose] public section

set_option maxRecDepth 16384

noncomputable section

namespace Cert.Proof.Prep

open Idealize.ShloMosaic Idealize.ShloMosaic.TcCoe
open Cert.InPrepIdeal Cert.InPrepIdeal.Gen
open Cert.Proof.Ffn (rmsRow prevRow nextRow)

theorem first_flag : ∀ t : Fin cfg0.N, Scalar.cmpi CmpIPredicate.eq
                    (Scalar.select
                      (Scalar.andi
                        (Scalar.xori
                          (Scalar.cmpi CmpIPredicate.slt (Scalar.remsi (BitVec.ofNat 32 (grid0.coords t 0).val) 16#32)
                            0#32)
                          0#1)
                        (Scalar.cmpi CmpIPredicate.ne (Scalar.remsi (BitVec.ofNat 32 (grid0.coords t 0).val) 16#32) 0#32))
                      (Scalar.addi (Scalar.remsi (BitVec.ofNat 32 (grid0.coords t 0).val) 16#32) 16#32)
                      (Scalar.remsi (BitVec.ofNat 32 (grid0.coords t 0).val) 16#32))
                    0#32 = BitVec.ofBool (decide (t.val % 16 = 0)) := (by decide +kernel : ∀ t : Fin grid0.N, _)

theorem last_flag : ∀ t : Fin cfg0.N, Scalar.cmpi CmpIPredicate.eq
                    (Scalar.select
                      (Scalar.andi
                        (Scalar.xori
                          (Scalar.cmpi CmpIPredicate.slt (Scalar.remsi (BitVec.ofNat 32 (grid0.coords t 0).val) 16#32)
                            0#32)
                          0#1)
                        (Scalar.cmpi CmpIPredicate.ne (Scalar.remsi (BitVec.ofNat 32 (grid0.coords t 0).val) 16#32) 0#32))
                      (Scalar.addi (Scalar.remsi (BitVec.ofNat 32 (grid0.coords t 0).val) 16#32) 16#32)
                      (Scalar.remsi (BitVec.ofNat 32 (grid0.coords t 0).val) 16#32))
                    15#32 = BitVec.ofBool (decide (t.val % 16 = 15)) := (by decide +kernel : ∀ t : Fin grid0.N, _)

variable (m : (ℓ : Loc nD τ sig) → Buf (Elt Ideal) ℓ) (c : Dev nD)

theorem pay2_at (x : Vec Ideal S1024x2560 .f32) (k : Fin 1024) (j : Fin 2560) : k0_pay2 x (ix2 k j) = x (ix2 k j) := by
  pointwise [k0_pay2]

/-- The scratch holds the projection's weights at every point: stored at the first, carried after. -/
theorem scratch_at : ∀ (n : Nat) (hn : n < cfg0.N) (k : Fin 1024) (j : Fin 2560), (outsAt0 m c n hn).2.2.2.2.2.2.2 (ix2 k j) = (kArgs m c).w k j
  | n, hn, k, j => by
    by_cases h0 : n % 32 = 0
    · rw [outsAt0_A m c ⟨n, hn⟩ h0]
      dsimp only
      frame_out
      exact (pay2_at _ k j).trans (in4 m c ⟨n, hn⟩ k j)
    · rw [outsAt0_B m c ⟨n, hn⟩ h0]
      dsimp only
      unfold sout0_B_0
      exact scratch_at (n - 1) (by omega) k j
termination_by n => n
decreasing_by exact Nat.sub_lt (Nat.pos_of_ne_zero fun e => h0 (by rw [e])) Nat.one_pos

variable (t : Fin cfg0.N)

/-- What a load reads after the first point's store of the weights. -/
theorem holds_stored (i : ∀ q, (![0, 0] : Fin 2 → Nat) q + (![1024, 2560] : Fin 2 → Nat) q ≤ S1024x2560.size q) :
    Holds m c ((View.whole (sig := sig) cc0_scratch0).writes (Elt Ideal) (View.whole (sig := sig) cc0_scratch0).junk
      [⟨Rect.unit (s := S1024x2560) ![0, 0] ![1024, 2560] i, k0_pay2 (iblk m c 4 t)⟩]) := by
  intro k j
  refine (View.read_writes_apply_eq_canon _ _ _ _ ⟨_, List.mem_cons_self, ?_⟩).trans ?_
  · rw [Rect.mem_set_unit]
    intro q
    match q with
    | ⟨0, _⟩ => exact ⟨Nat.zero_le _, by show k.val < 0 + 1024; omega⟩
    | ⟨1, _⟩ => exact ⟨Nat.zero_le _, by show j.val < 0 + 2560; omega⟩
  · refine (congrFun (View.canon_cons_unit_zero (S := S1024x2560) (funext fun a => by match a with | ⟨0, _⟩ => rfl | ⟨1, _⟩ => rfl) i _ _) _).trans ?_
    exact (pay2_at _ k j).trans (in4 m c t k j)

/-- What a load reads of the weights carried from the point before. -/
theorem holds_carried (n : Nat) (hn : n < cfg0.N) (h : (Memref.whole (sig := sig) cc0_scratch0).IsWhole) :
    Holds m c (h.unread (outsAt0 m c n hn).2.2.2.2.2.2.2) := by
  intro k j
  rw [read_unread_whole]
  exact scratch_at m c n hn k j

/-- The weights as a first point of the run reads them. -/
theorem stored : Holds m c ((View.whole (sig := sig) cc0_scratch0).writes (Elt Ideal) (View.whole (sig := sig) cc0_scratch0).junk
    [⟨Rect.unit (s := S1024x2560) ![0, 0] ![1024, 2560] inb_S1024x2560_S1024x2560_0_0, k0_pay2 (iblk m c 4 t)⟩]) := holds_stored m c t _

/-- The weights as a later point reads them. -/
theorem carried : Holds m c ((Memref.isWhole_whole (sig := sig) cc0_scratch0).unread (outsAt0 m c (t.val - 1) (lt_of_le_of_lt (Nat.sub_le _ _) t.isLt)).2.2.2.2.2.2.2) := holds_carried m c _ _ _

variable (p : Fin 512) (B : Fin 2) (T : Fin 8192) (hB : B.val = t.val / 16) (hT : T.val = t.val % 16 * 512 + p.val)
include hB hT

theorem block15 (d : Fin 512) : (outsAt0 m c t.val t.isLt).1 (ix2 p d) = (kArgs m c).q B T d := by
  by_cases h0 : t.val % 32 = 0
  · rw [outsAt0_A m c t h0]
    dsimp only
    frame_out
    exact q_of m c t p B T hB hT _ (cols_load m c _ (stored m c t) 512 1792 _) d
  · rw [outsAt0_B m c t h0]
    dsimp only
    frame_out
    exact q_of m c t p B T hB hT _ (cols_load m c _ (carried m c t) 512 1792 _) d

theorem block16 (d : Fin 256) : (outsAt0 m c t.val t.isLt).2.1 (ix2 p d) = (kArgs m c).kv B T d := by
  by_cases h0 : t.val % 32 = 0
  · rw [outsAt0_A m c t h0]
    dsimp only
    frame_out
    exact kv_of m c t p B T hB hT _ (cols_load m c _ (stored m c t) 256 2304 _) d
  · rw [outsAt0_B m c t h0]
    dsimp only
    frame_out
    exact kv_of m c t p B T hB hT _ (cols_load m c _ (carried m c t) 256 2304 _) d

theorem block17 (d : Fin 1536) : (outsAt0 m c t.val t.isLt).2.2.1 (ix2 p d) = pack3 ((kArgs m c).r B T) ((kArgs m c).v B T) ((kArgs m c).kkn B T) d := by
  by_cases h0 : t.val % 32 = 0
  · rw [outsAt0_A m c t h0]
    dsimp only
    frame_out
    rw [first_flag t, last_flag t]
    exact pack_at p _ _ _ _ _ _ (r_at m c t _ (stored m c t) p B T hB hT) (v_at m c t _ (stored m c t) p B T hB hT) (kkn_at m c t _ (stored m c t) p B T hB hT) d
  · rw [outsAt0_B m c t h0]
    dsimp only
    frame_out
    rw [first_flag t, last_flag t]
    exact pack_at p _ _ _ _ _ _ (r_at m c t _ (carried m c t) p B T hB hT) (v_at m c t _ (carried m c t) p B T hB hT) (kkn_at m c t _ (carried m c t) p B T hB hT) d

theorem block18 (d : Fin 1536) : (outsAt0 m c t.val t.isLt).2.2.2.1 (ix2 p d) = pack3 ((kArgs m c).decay B T 0) ((kArgs m c).kd B T 0) ((kArgs m c).ab B T 0) d := by
  by_cases h0 : t.val % 32 = 0
  · rw [outsAt0_A m c t h0]
    dsimp only
    frame_out
    rw [first_flag t, last_flag t]
    exact pack_at p _ _ _ _ _ _ (decay0_at m c t _ (stored m c t) p B T hB hT) (kd0_at m c t _ (stored m c t) p B T hB hT) (ab0_at m c t _ (stored m c t) p B T hB hT) d
  · rw [outsAt0_B m c t h0]
    dsimp only
    frame_out
    rw [first_flag t, last_flag t]
    exact pack_at p _ _ _ _ _ _ (decay0_at m c t _ (carried m c t) p B T hB hT) (kd0_at m c t _ (carried m c t) p B T hB hT) (ab0_at m c t _ (carried m c t) p B T hB hT) d

theorem block19 (d : Fin 1536) : (outsAt0 m c t.val t.isLt).2.2.2.2.1 (ix2 p d) = pack3 ((kArgs m c).decay B T 1) ((kArgs m c).kd B T 1) ((kArgs m c).ab B T 1) d := by
  by_cases h0 : t.val % 32 = 0
  · rw [outsAt0_A m c t h0]
    dsimp only
    frame_out
    rw [first_flag t, last_flag t]
    exact pack_at p _ _ _ _ _ _ (decay1_at m c t _ (stored m c t) p B T hB hT) (kd1_at m c t _ (stored m c t) p B T hB hT) (ab1_at m c t _ (stored m c t) p B T hB hT) d
  · rw [outsAt0_B m c t h0]
    dsimp only
    frame_out
    rw [first_flag t, last_flag t]
    exact pack_at p _ _ _ _ _ _ (decay1_at m c t _ (carried m c t) p B T hB hT) (kd1_at m c t _ (carried m c t) p B T hB hT) (ab1_at m c t _ (carried m c t) p B T hB hT) d

theorem block20 (d : Fin 512) : (outsAt0 m c t.val t.isLt).2.2.2.2.2.1 (ix2 p d) = (kArgs m c).gate B T d := by
  by_cases h0 : t.val % 32 = 0
  · rw [outsAt0_A m c t h0]
    dsimp only
    frame_out
    rw [first_flag t, last_flag t]
    exact gate_at m c t _ (stored m c t) p B T hB hT d
  · rw [outsAt0_B m c t h0]
    dsimp only
    frame_out
    rw [first_flag t, last_flag t]
    exact gate_at m c t _ (carried m c t) p B T hB hT d

theorem block21 (d : Fin 512) : (outsAt0 m c t.val t.isLt).2.2.2.2.2.2.1 (ix2 p d) = (kArgs m c).bonus B T d := by
  by_cases h0 : t.val % 32 = 0
  · rw [outsAt0_A m c t h0]
    dsimp only
    frame_out
    rw [first_flag t, last_flag t]
    exact bonus_of m c t p B T d _ _ _ _ (kd0_at m c t _ (stored m c t) p B T hB hT) (kd1_at m c t _ (stored m c t) p B T hB hT) (r_at m c t _ (stored m c t) p B T hB hT) (v_at m c t _ (stored m c t) p B T hB hT)
  · rw [outsAt0_B m c t h0]
    dsimp only
    frame_out
    rw [first_flag t, last_flag t]
    exact bonus_of m c t p B T d _ _ _ _ (kd0_at m c t _ (carried m c t) p B T hB hT) (kd1_at m c t _ (carried m c t) p B T hB hT) (r_at m c t _ (carried m c t) p B T hB hT) (v_at m c t _ (carried m c t) p B T hB hT)

end Cert.Proof.Prep

end
-- ==== Proof.PrepValue.lean ====
module

public import proofs.«01_k».proof.Proof.PrepBlock
public import Idealize.ShloMosaic.Lib.Pipeline.ValueKit

/-! The first call's seven result arrays after the run. -/

@[expose] public section

set_option maxRecDepth 16384

noncomputable section

namespace Cert.Proof.Prep

open Idealize.ShloMosaic Idealize.ShloMosaic.TcCoe Idealize.SL.Sem
open Cert.InPrepIdeal Cert.InPrepIdeal.Gen
open Cert.Proof.Ffn (eq_ix2)

/-- The array whose row `r` is `f` at position `r % 8192` of sequence `r / 8192`. -/
def rows {n : Nat} (f : Fin 2 → Fin 8192 → Fin n → EReal) : FVec Ideal (⟨2, ![16384, n]⟩ : Shape) .f32 := fun i =>
  f ⟨(i 0).val / 8192, by have h : (i 0).val < 16384 := (i 0).isLt; omega⟩ ⟨(i 0).val % 8192, by omega⟩ ⟨(i 1).val, (i 1).isLt⟩

/-- The three arrays packed for one direction of the recurrence. -/
def Args.dir (A : Args) (d : Fin 2) (B : Fin 2) (T : Fin 8192) : Fin 1536 → EReal := pack3 (A.decay B T d) (A.kd B T d) (A.ab B T d)

/-- The three arrays packed for both directions. -/
def Args.both (A : Args) (B : Fin 2) (T : Fin 8192) : Fin 1536 → EReal := pack3 (A.r B T) (A.v B T) (A.kkn B T)

/-- A block of 512 rows starting at row `512 t` that holds `f` row by row holds the array's rows there. -/
theorem rows_block {n : Nat} (f : Fin 2 → Fin 8192 → Fin n → EReal) (X : (⟨2, ![512, n]⟩ : Shape).Idx → EReal) (t : Nat) (ht : t < 32)
    (hX : ∀ (p : Fin 512) (B : Fin 2) (T : Fin 8192), B.val = t / 16 → T.val = t % 16 * 512 + p.val → ∀ d : Fin n, X (ix2 p d) = f B T d)
    (y : (⟨2, ![512, n]⟩ : Shape).Idx) (i : (⟨2, ![16384, n]⟩ : Shape).Idx) (e0 : (i 0).val = t * 512 + (y 0).val) (e1 : (i 1).val = (y 1).val) : X y = rows f i := by
  have hy0 : (y 0).val < 512 := (y 0).isLt
  have hy1 : (y 1).val < n := (y 1).isLt
  refine (congrArg X (eq_ix2 y ⟨_, hy0⟩ ⟨_, hy1⟩ rfl rfl)).trans ((hX ⟨_, hy0⟩ ⟨t / 16, by omega⟩ ⟨t % 16 * 512 + (y 0).val, by omega⟩ rfl rfl _).trans ?_)
  unfold rows
  congr 1 <;> refine Fin.ext ?_ <;> simp only [e0, e1] <;> omega

variable (m : (ℓ : Loc nD τ sig) → Buf (Elt Ideal) ℓ) (ρ : Dev nD → PrngReg)

theorem idx15 : ∀ t : Fin cfg0.N, win0_15.index t = ![t.val, 0] := (by decide +kernel : ∀ t : Fin grid0.N, _)

theorem final15 (c : Dev nD) : (dats m 0 c).arrAt 15 cfg0.N = rows ((kArgs m c).q) := by
  refine (dats m 0 c).arrAt_eq_of_covers 15 _ (by decide +kernel) fun t hf y => ?_
  blk_simp
  rw [after0_15]
  exact rows_block ((kArgs m c).q) _ t.val (lt32 t) (fun p B T hB hT d => block15 m c t p B T hB hT d) y _ (by blk_simp [idx15 t]) (by blk_simp [idx15 t])

theorem idx16 : ∀ t : Fin cfg0.N, win0_16.index t = ![t.val, 0] := (by decide +kernel : ∀ t : Fin grid0.N, _)

theorem final16 (c : Dev nD) : (dats m 0 c).arrAt 16 cfg0.N = rows ((kArgs m c).kv) := by
  refine (dats m 0 c).arrAt_eq_of_covers 16 _ (by decide +kernel) fun t hf y => ?_
  blk_simp
  rw [after0_16]
  exact rows_block ((kArgs m c).kv) _ t.val (lt32 t) (fun p B T hB hT d => block16 m c t p B T hB hT d) y _ (by blk_simp [idx16 t]) (by blk_simp [idx16 t])

theorem idx17 : ∀ t : Fin cfg0.N, win0_17.index t = ![t.val, 0] := (by decide +kernel : ∀ t : Fin grid0.N, _)

theorem final17 (c : Dev nD) : (dats m 0 c).arrAt 17 cfg0.N = rows ((kArgs m c).both) := by
  refine (dats m 0 c).arrAt_eq_of_covers 17 _ (by decide +kernel) fun t hf y => ?_
  blk_simp
  rw [after0_17]
  exact rows_block ((kArgs m c).both) _ t.val (lt32 t) (fun p B T hB hT d => block17 m c t p B T hB hT d) y _ (by blk_simp [idx17 t]) (by blk_simp [idx17 t])

theorem idx18 : ∀ t : Fin cfg0.N, win0_18.index t = ![t.val, 0] := (by decide +kernel : ∀ t : Fin grid0.N, _)

theorem final18 (c : Dev nD) : (dats m 0 c).arrAt 18 cfg0.N = rows ((kArgs m c).dir 0) := by
  refine (dats m 0 c).arrAt_eq_of_covers 18 _ (by decide +kernel) fun t hf y => ?_
  blk_simp
  rw [after0_18]
  exact rows_block ((kArgs m c).dir 0) _ t.val (lt32 t) (fun p B T hB hT d => block18 m c t p B T hB hT d) y _ (by blk_simp [idx18 t]) (by blk_simp [idx18 t])

theorem idx19 : ∀ t : Fin cfg0.N, win0_19.index t = ![t.val, 0] := (by decide +kernel : ∀ t : Fin grid0.N, _)

theorem final19 (c : Dev nD) : (dats m 0 c).arrAt 19 cfg0.N = rows ((kArgs m c).dir 1) := by
  refine (dats m 0 c).arrAt_eq_of_covers 19 _ (by decide +kernel) fun t hf y => ?_
  blk_simp
  rw [after0_19]
  exact rows_block ((kArgs m c).dir 1) _ t.val (lt32 t) (fun p B T hB hT d => block19 m c t p B T hB hT d) y _ (by blk_simp [idx19 t]) (by blk_simp [idx19 t])

theorem idx20 : ∀ t : Fin cfg0.N, win0_20.index t = ![t.val, 0] := (by decide +kernel : ∀ t : Fin grid0.N, _)

theorem final20 (c : Dev nD) : (dats m 0 c).arrAt 20 cfg0.N = rows ((kArgs m c).gate) := by
  refine (dats m 0 c).arrAt_eq_of_covers 20 _ (by decide +kernel) fun t hf y => ?_
  blk_simp
  rw [after0_20]
  exact rows_block ((kArgs m c).gate) _ t.val (lt32 t) (fun p B T hB hT d => block20 m c t p B T hB hT d) y _ (by blk_simp [idx20 t]) (by blk_simp [idx20 t])

theorem idx21 : ∀ t : Fin cfg0.N, win0_21.index t = ![t.val, 0] := (by decide +kernel : ∀ t : Fin grid0.N, _)

theorem final21 (c : Dev nD) : (dats m 0 c).arrAt 21 cfg0.N = rows ((kArgs m c).bonus) := by
  refine (dats m 0 c).arrAt_eq_of_covers 21 _ (by decide +kernel) fun t hf y => ?_
  blk_simp
  rw [after0_21]
  exact rows_block ((kArgs m c).bonus) _ t.val (lt32 t) (fun p B T hB hT d => block21 m c t p B T hB hT d) y _ (by blk_simp [idx21 t]) (by blk_simp [idx21 t])

/-- The run: the result arrays hold the call's results, the arguments are unchanged. -/
theorem run : θ_run defs (onTc (τ := τ) (main (F := Ideal))) ⟨m, fun _ => 0, ρ⟩ (fun r => ∀ c : Dev nD,
      r.2.mem ((c.tc : Thread nD τ).loc main_v14_0) = rows ((kArgs m c).q)
      ∧ r.2.mem ((c.tc : Thread nD τ).loc main_v14_1) = rows ((kArgs m c).kv)
      ∧ r.2.mem ((c.tc : Thread nD τ).loc main_v14_2) = rows ((kArgs m c).both)
      ∧ r.2.mem ((c.tc : Thread nD τ).loc main_v14_3) = rows ((kArgs m c).dir 0)
      ∧ r.2.mem ((c.tc : Thread nD τ).loc main_v14_4) = rows ((kArgs m c).dir 1)
      ∧ r.2.mem ((c.tc : Thread nD τ).loc main_v14_5) = rows ((kArgs m c).gate)
      ∧ r.2.mem ((c.tc : Thread nD τ).loc main_v14_6) = rows ((kArgs m c).bonus)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  θ_run_mono (θ_run_and (run_main m ρ) (unchanged m ρ)) fun r h c => ⟨((h.1 c).1 15).trans (final15 m c), ((h.1 c).1 16).trans (final16 m c), ((h.1 c).1 17).trans (final17 m c), ((h.1 c).1 18).trans (final18 m c), ((h.1 c).1 19).trans (final19 m c), ((h.1 c).1 20).trans (final20 m c), ((h.1 c).1 21).trans (final21 m c), h.2 c⟩

end Cert.Proof.Prep

end
-- ==== Proof.PrepMath.lean ====
module

public import proofs.«01_k».proof.Proof.PrepSpec

/-! The identities that bring the reference's spelling of the first call to the kernel's: the decay by way of softplus, and the token shift
    over real numbers. -/

@[expose] public section

set_option maxRecDepth 16384

noncomputable section

namespace Cert.Proof.Prep

open Idealize.ShloMosaic
open Cert.Proof.Ffn (rmsRow prevRow nextRow)

theorem log_one : Ideal.log 1 = 0 := by
  rw [← EReal.coe_one, Ideal.log_coe, if_neg (by norm_num), Real.log_one]; rfl

/-- `e^(-softplus(-w))` in the reference's spelling, with `g = -w`, is the logistic function. -/
theorem softplus_logistic (w : EReal) :
    Ideal.exp (-(max (-w) 0 + Ideal.log1p (Ideal.exp (-(max (-w) (-(-w))))))) = Ideal.logistic w := by
  induction w with
  | bot =>
    rw [Ideal.logistic_bot]
    simp [Ideal.log1p, log_one]
  | top =>
    rw [Ideal.logistic_top]
    have h : Ideal.log1p (Ideal.exp (-(max (-⊤ : EReal) (-(-⊤))))) = 0 := by
      simp [Ideal.log1p, log_one]
    rw [h]
    have h0 : max (-⊤ : EReal) 0 = 0 := by simp
    rw [h0, add_zero, neg_zero]
    exact (Ideal.exp_coe (r := 0)).trans (by simp)
  | coe r =>
    rw [Ideal.logistic_coe]
    have e1 : max (-(r : EReal)) 0 = ((max (-r) 0 : ℝ) : EReal) := by
      rw [← EReal.coe_neg, ← EReal.coe_zero]; exact (EReal.coe_strictMono.monotone.map_max).symm
    have e2 : max (-(r : EReal)) (-(-(r : EReal))) = ((max (-r) r : ℝ) : EReal) := by
      rw [neg_neg, ← EReal.coe_neg]; exact (EReal.coe_strictMono.monotone.map_max).symm
    have hp : (0 : ℝ) < 1 + Real.exp (-(max (-r) r)) := by positivity
    rw [e1, e2, ← EReal.coe_neg, Ideal.exp_coe, Ideal.log1p, ← EReal.coe_one, ← EReal.coe_add, Ideal.log_coe, if_neg (not_le.mpr hp),
      ← EReal.coe_add, ← EReal.coe_neg, Ideal.exp_coe]
    congr 1
    rw [neg_add, Real.exp_add, Real.exp_neg (Real.log _), Real.exp_log hp]
    rcases le_total 0 r with h | h
    · rw [max_eq_right (by linarith : -r ≤ 0), max_eq_right (by linarith : -r ≤ r)]
      simp
    · rw [max_eq_left (by linarith : 0 ≤ -r), max_eq_left (by linarith : r ≤ -r), neg_neg]
      have hr : (0 : ℝ) < Real.exp r := Real.exp_pos r
      rw [Real.exp_neg]
      field_simp
      ring

/-- The token shift in the reference's form, over real numbers. -/
theorem shift_real {p a b mu mn : EReal} (hp : ∃ r : ℝ, p = r) (ha : ∃ r : ℝ, a = r) (hb : ∃ r : ℝ, b = r) (hm : ∃ r : ℝ, mu = r) (hn : ∃ r : ℝ, mn = r) :
    p + mu * (a - p) + mn * (b - p) = p * (1 - mu - mn) + a * mu + b * mn := by
  obtain ⟨p, rfl⟩ := hp
  obtain ⟨a, rfl⟩ := ha
  obtain ⟨b, rfl⟩ := hb
  obtain ⟨mu, rfl⟩ := hm
  obtain ⟨mn, rfl⟩ := hn
  rw [← EReal.coe_one]
  simp only [← EReal.coe_sub, ← EReal.coe_mul, ← EReal.coe_add]
  congr 1
  ring

/-- A sum of real numbers is real. -/
theorem sum_real {ι : Type} (s : Finset ι) (f : ι → EReal) (h : ∀ i, ∃ r : ℝ, f i = r) : ∃ r : ℝ, ∑ i ∈ s, f i = r :=
  Finset.sum_induction f (fun x => ∃ r : ℝ, x = r) (fun a b ⟨x, hx⟩ ⟨y, hy⟩ => ⟨x + y, by rw [hx, hy, EReal.coe_add]⟩) ⟨0, rfl⟩ fun i _ => h i

theorem mul_real {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

theorem ofBits_1024 : Ideal.ofBits .f32 0x44800000#32 = ((1024 : ℝ) : EReal) := by
  simp [Ideal.ofBits, Ideal.ieee, -EReal.coe_mul]; norm_num

theorem ofBits_eps : Ideal.ofBits .f32 0x358637BD#32 = ((8796093 / 2 ^ 43 : ℝ) : EReal) := by
  simp [Ideal.ofBits, Ideal.ieee, -EReal.coe_mul]; norm_num

theorem mul_self_nonneg' (a : EReal) : 0 ≤ a * a := by
  induction a with
  | bot => simp
  | top => simp
  | coe r => rw [← EReal.coe_mul]; exact EReal.coe_nonneg.mpr (mul_self_nonneg r)

theorem mul_self_top {a : EReal} (h : ¬ ∃ r : ℝ, a = r) : a * a = ⊤ := by
  induction a with
  | bot => simp
  | top => simp
  | coe r => exact absurd ⟨r, rfl⟩ h

/-- The normalised row is real whatever the row: a row with an infinite entry has an infinite square sum, whose inverse root is 0. -/
theorem rmsRow_real (x g : Fin 1024 → EReal) (hg : ∀ i, ∃ r : ℝ, g i = r) (d : Fin 1024) : ∃ r : ℝ, rmsRow x g d = r := by
  refine mul_real ?_ (hg d)
  by_cases hx : ∀ i, ∃ r : ℝ, x i = r
  swap
  · obtain ⟨i, hi⟩ := not_forall.mp hx
    have e : ∑ e, x e * x e = ⊤ :=
      top_le_iff.mp ((mul_self_top hi).symm.le.trans (Finset.single_le_sum (f := fun e => x e * x e) (fun k _ => mul_self_nonneg' (x k)) (Finset.mem_univ i)))
    rw [e, ofBits_1024, ofBits_eps, div_real _ 1024 (by norm_num), EReal.top_mul_coe_of_pos (by norm_num), EReal.top_add_coe, Ideal.rsqrt_top, mul_zero]
    exact ⟨0, rfl⟩
  refine mul_real (hx d) ?_
  choose f hf using hx
  have e : ∑ e, x e * x e = ((∑ e, f e * f e : ℝ) : EReal) := by
    have hm : ∀ s : Finset (Fin 1024), ((∑ e ∈ s, f e * f e : ℝ) : EReal) = ∑ e ∈ s, ((f e * f e : ℝ) : EReal) := fun s => by
      classical
      induction s using Finset.induction_on with
      | empty => rfl
      | insert a s ha ih => rw [Finset.sum_insert ha, Finset.sum_insert ha, EReal.coe_add, ih]
    rw [hm]
    exact Finset.sum_congr rfl fun i _ => by rw [hf i, EReal.coe_mul]
  have hs : 0 ≤ ∑ e, f e * f e := Finset.sum_nonneg fun i _ => mul_self_nonneg _
  rw [e, ofBits_1024, ofBits_eps, div_real _ 1024 (by norm_num), ← EReal.coe_mul, ← EReal.coe_add, Ideal.rsqrt_coe]
  have hp : 0 < (∑ e, f e * f e) * (1 / 1024) + 8796093 / 2 ^ 43 := by positivity
  rw [if_neg (not_lt.mpr hp.le), if_neg hp.ne']
  exact ⟨_, rfl⟩

/-- The arguments that the token shift is made of are real. -/
structure Args.Real (A : Args) : Prop where
  gm : ∀ k, ∃ r : ℝ, A.gm k = r
  w : ∀ k j, ∃ r : ℝ, A.w k j = r
  mup : ∀ j, ∃ r : ℝ, A.mup j = r
  mun : ∀ j, ∃ r : ℝ, A.mun j = r

theorem Args.Real.proj {A : Args} (h : A.Real) (b : Fin 2) (t : Fin 8192) (j : Fin 2560) : ∃ r : ℝ, A.proj b t j = r :=
  sum_real _ _ fun k => mul_real (rmsRow_real _ _ h.gm k) (h.w k j)

/-- The shifted column in the reference's form. -/
theorem Args.Real.sh {A : Args} (h : A.Real) (b : Fin 2) (t : Fin 8192) (j : Fin 1792) (J : Fin 2560) (hJ : J.val = j.val) (p a c : EReal) (hp : p = A.proj b t J)
    (ha : a = if q : 0 < t.val then A.proj b ⟨t.val - 1, by omega⟩ J else 0) (hc : c = if q : t.val + 1 < 8192 then A.proj b ⟨t.val + 1, q⟩ J else 0) :
    p + A.mup j * (a - p) + A.mun j * (c - p) = A.sh b t j := by
  have eJ : J = ⟨j.val, lt_trans j.isLt (by decide)⟩ := Fin.ext hJ

  subst eJ
  have z : ∃ r : ℝ, (0 : EReal) = r := ⟨0, rfl⟩
  rw [shift_real (by rw [hp]; exact h.proj _ _ _) (by rw [ha]; split; exacts [h.proj _ _ _, z]) (by rw [hc]; split; exacts [h.proj _ _ _, z]) (h.mup j) (h.mun j)]
  have e1 : a = dotCol (prevRow (A.hid b) t) (fun k => A.w k ⟨j.val, by omega⟩) := by
    rw [ha]
    by_cases q : 0 < t.val
    · have e : prevRow (A.hid b) t = A.hid b ⟨t.val - 1, by omega⟩ := funext fun k => by unfold prevRow; rw [if_pos q]
      rw [dif_pos q, e]; rfl
    · have e : prevRow (A.hid b) t = fun _ => 0 := funext fun k => by unfold prevRow; rw [if_neg q]
      rw [dif_neg q, e]; simp [dotCol]
  have e2 : c = dotCol (nextRow (A.hid b) t) (fun k => A.w k ⟨j.val, by omega⟩) := by
    rw [hc]
    by_cases q : t.val + 1 < 8192
    · have e : nextRow (A.hid b) t = A.hid b ⟨t.val + 1, q⟩ := funext fun k => by unfold nextRow; rw [dif_pos q]
      rw [dif_pos q, e]; rfl
    · have e : nextRow (A.hid b) t = fun _ => 0 := funext fun k => by unfold nextRow; rw [dif_neg q]
      rw [dif_neg q, e]; simp [dotCol]
  rw [e1, e2, hp]
  rfl

end Cert.Proof.Prep
-- ==== Proof.PrepRef.lean ====
module

public import proofs.«01_k».proof.Proof.Gen.InPrepRefIdeal.Read
public import proofs.«01_k».proof.Proof.PrepMath
public import Idealize.ShloMosaic.Lib.Pointwise

/-! The reference of the first call, stage by stage, at an index. -/

@[expose] public section

set_option maxRecDepth 16384

noncomputable section

namespace Cert.Proof.Prep

open Idealize.ShloMosaic
open Cert.Proof.Ffn (rmsRow prevRow nextRow)
open Cert.InPrepRefIdeal Cert.InPrepRefIdeal.Gen Cert.InPrepRefIdeal.Read

variable (x0 : (⟨S2x8192x1024, .f32⟩ : BufTy).Contents (Elt Ideal)) (x1 : (⟨S1024, .f32⟩ : BufTy).Contents (Elt Ideal)) (x2 : (⟨S1024x2560, .f32⟩ : BufTy).Contents (Elt Ideal)) (x3 : (⟨S1792, .f32⟩ : BufTy).Contents (Elt Ideal)) (x4 : (⟨S1792, .f32⟩ : BufTy).Contents (Elt Ideal)) (x5 : (⟨S2x512, .f32⟩ : BufTy).Contents (Elt Ideal)) (x6 : (⟨S2x64x512, .f32⟩ : BufTy).Contents (Elt Ideal)) (x7 : (⟨S2x512, .f32⟩ : BufTy).Contents (Elt Ideal)) (x8 : (⟨S2x64x512, .f32⟩ : BufTy).Contents (Elt Ideal)) (x9 : (⟨S128x512, .f32⟩ : BufTy).Contents (Elt Ideal)) (x10 : (⟨S512, .f32⟩ : BufTy).Contents (Elt Ideal)) (x11 : (⟨S512, .f32⟩ : BufTy).Contents (Elt Ideal)) (x12 : (⟨S8x64, .f32⟩ : BufTy).Contents (Elt Ideal))

/-- The arguments, by coordinates. -/
abbrev refArgs : Args where
  x b t k := x0 (ix3 b t k)
  gm k := x1 (ix1 k)
  w i j := x2 (ix2 i j)
  mup k := x3 (ix1 k)
  mun k := x4 (ix1 k)
  w0 i j := x5 (ix2 i j)
  w2 d i j := x6 (ix3 d i j)
  a0 i j := x7 (ix2 i j)
  a2 d i j := x8 (ix3 d i j)
  g2 i j := x9 (ix2 i j)
  kk k := x10 (ix1 k)
  ka k := x11 (ix1 k)
  rk c := x12 (ix2 ⟨c.val / 64, by omega⟩ ⟨c.val % 64, by omega⟩)

theorem ref12 (b : Fin 2) (t : Fin 8192) (k : Fin 1024) : val_main_v12 (F := Ideal) x0 x1 (ix3 b t k) = (refArgs x0 x1 x2 x3 x4 x5 x6 x7 x8 x9 x10 x11 x12).hid b t k := by
  pointwise [val_main_v12, val_main_v11, val_main_v10, val_main_v9, val_main_v8, val_main_v7, val_main_v6, val_main_v5, val_main_cst_1, val_main_v4, val_main_v3, val_main_cst_0, val_main_v2, val_main_v1, val_main_cst]
  rfl

theorem ref13 (b : Fin 2) (t : Fin 8192) (j : Fin 2560) : val_main_v13 (F := Ideal) x0 x1 x2 (ix3 b t j) = (refArgs x0 x1 x2 x3 x4 x5 x6 x7 x8 x9 x10 x11 x12).proj b t j := by
  pointwise [val_main_v13]
  simp only [ref12 x0 x1 x2 x3 x4 x5 x6 x7 x8 x9 x10 x11 x12]
  rfl

theorem ref30 (hA : (refArgs x0 x1 x2 x3 x4 x5 x6 x7 x8 x9 x10 x11 x12).Real) (b : Fin 2) (t : Fin 8192) (j : Fin 1792) : val_main_v30 (F := Ideal) x0 x1 x2 x3 x4 (ix3 b t j) = (refArgs x0 x1 x2 x3 x4 x5 x6 x7 x8 x9 x10 x11 x12).sh b t j := by
  have h0 : (FloatOps.sitofp (F := Ideal) FTy.f32 0#32) = (0 : EReal) := by show (((0#32 : BitVec 32).toInt : ℝ) : EReal) = 0; simp
  pointwise [val_main_v30, val_main_v29, val_main_v28, val_main_v27, val_main_v26, val_main_v25, val_main_v24, val_main_v23, val_main_v22, val_main_v21, val_main_v20, val_main_v19, val_main_call1_v0, val_main_c_2, val_main_v18, val_main_v17, val_main_call0_v0, val_main_c, val_main_v14]
  simp only [ref13 x0 x1 x2 x3 x4 x5 x6 x7 x8 x9 x10 x11 x12, h0]
  refine hA.sh b t j _ rfl _ _ _ rfl ?_ ?_
  · by_cases q : 0 < t.val
    · rw [dif_pos q, dif_pos ⟨q, by omega⟩]
    · rw [dif_neg q, dif_neg (fun h => q h.1)]
  · by_cases q : t.val + 1 < 8192
    · rw [dif_pos q, dif_pos (by omega)]
      exact congrArg (fun u => Args.proj _ b u _) (Fin.ext (Nat.add_comm 1 t.val))
    · rw [dif_neg q, dif_neg (by omega)]

theorem ref31 (hA : (refArgs x0 x1 x2 x3 x4 x5 x6 x7 x8 x9 x10 x11 x12).Real) (b : Fin 2) (t : Fin 8192) (c : Fin 512) : val_main_v31 (F := Ideal) x0 x1 x2 x3 x4 (ix3 b t c) = (refArgs x0 x1 x2 x3 x4 x5 x6 x7 x8 x9 x10 x11 x12).r b t c := by
  pointwise [val_main_v31]
  rw [ref30 x0 x1 x2 x3 x4 x5 x6 x7 x8 x9 x10 x11 x12 hA]
  rfl

theorem ref32 (hA : (refArgs x0 x1 x2 x3 x4 x5 x6 x7 x8 x9 x10 x11 x12).Real) (b : Fin 2) (t : Fin 8192) (c : Fin 512) : val_main_v32 (F := Ideal) x0 x1 x2 x3 x4 (ix3 b t c) = (refArgs x0 x1 x2 x3 x4 x5 x6 x7 x8 x9 x10 x11 x12).k b t c := by
  pointwise [val_main_v32]
  rw [ref30 x0 x1 x2 x3 x4 x5 x6 x7 x8 x9 x10 x11 x12 hA]
  rfl

theorem ref33 (hA : (refArgs x0 x1 x2 x3 x4 x5 x6 x7 x8 x9 x10 x11 x12).Real) (b : Fin 2) (t : Fin 8192) (c : Fin 512) : val_main_v33 (F := Ideal) x0 x1 x2 x3 x4 (ix3 b t c) = (refArgs x0 x1 x2 x3 x4 x5 x6 x7 x8 x9 x10 x11 x12).v b t c := by
  pointwise [val_main_v33]
  rw [ref30 x0 x1 x2 x3 x4 x5 x6 x7 x8 x9 x10 x11 x12 hA]
  rfl

theorem ref34 (hA : (refArgs x0 x1 x2 x3 x4 x5 x6 x7 x8 x9 x10 x11 x12).Real) (b : Fin 2) (t : Fin 8192) (c : Fin 64) : val_main_v34 (F := Ideal) x0 x1 x2 x3 x4 (ix3 b t c) = (refArgs x0 x1 x2 x3 x4 x5 x6 x7 x8 x9 x10 x11 x12).xw b t c := by
  pointwise [val_main_v34]
  rw [ref30 x0 x1 x2 x3 x4 x5 x6 x7 x8 x9 x10 x11 x12 hA]
  rfl

theorem ref35 (hA : (refArgs x0 x1 x2 x3 x4 x5 x6 x7 x8 x9 x10 x11 x12).Real) (b : Fin 2) (t : Fin 8192) (c : Fin 64) : val_main_v35 (F := Ideal) x0 x1 x2 x3 x4 (ix3 b t c) = (refArgs x0 x1 x2 x3 x4 x5 x6 x7 x8 x9 x10 x11 x12).xa b t c := by
  pointwise [val_main_v35]
  rw [ref30 x0 x1 x2 x3 x4 x5 x6 x7 x8 x9 x10 x11 x12 hA]
  rfl

theorem ref36 (hA : (refArgs x0 x1 x2 x3 x4 x5 x6 x7 x8 x9 x10 x11 x12).Real) (b : Fin 2) (t : Fin 8192) (c : Fin 128) : val_main_v36 (F := Ideal) x0 x1 x2 x3 x4 (ix3 b t c) = (refArgs x0 x1 x2 x3 x4 x5 x6 x7 x8 x9 x10 x11 x12).xg b t c := by
  pointwise [val_main_v36]
  rw [ref30 x0 x1 x2 x3 x4 x5 x6 x7 x8 x9 x10 x11 x12 hA]
  rfl

theorem ref48 (hA : (refArgs x0 x1 x2 x3 x4 x5 x6 x7 x8 x9 x10 x11 x12).Real) (d : Fin 2) (b : Fin 2) (t : Fin 8192) (c : Fin 512) : val_main_v48 (F := Ideal) x0 x1 x2 x3 x4 x5 x6 (ix4 d b t c) = (refArgs x0 x1 x2 x3 x4 x5 x6 x7 x8 x9 x10 x11 x12).decay b t d c := by
  pointwise [val_main_v48, val_main_v47, val_main_v46, val_main_v45, val_main_v44, val_main_v44, val_main_call2_v11, val_main_call2_v10, val_main_call2_v9, val_main_call2_v8, val_main_call2_v7, val_main_call2_v6, val_main_call2_v5, val_main_call2_v4, val_main_call2_v3, val_main_call2_v2, val_main_call2_v1, val_main_call2_v0, val_main_call2_cst, val_main_call2_cst, val_main_v43, val_main_v42, val_main_v41, val_main_v40, val_main_v39, val_main_v38, val_main_v37, val_main_cst_3]
  simp only [ref34 x0 x1 x2 x3 x4 x5 x6 x7 x8 x9 x10 x11 x12 hA]
  rw [if_neg (fun h => h rfl)]
  refine congrArg (Ideal.ofBits .f32 0xBF1B4598#32 * ·) ((softplus_logistic _).trans (congrArg (fun s => Ideal.logistic (x5 (ix2 d c) + s)) ?_))
  exact Finset.sum_congr rfl fun k _ => mul_comm _ _

theorem ref59 (hA : (refArgs x0 x1 x2 x3 x4 x5 x6 x7 x8 x9 x10 x11 x12).Real) (d : Fin 2) (b : Fin 2) (t : Fin 8192) (c : Fin 512) : val_main_v59 (F := Ideal) x0 x1 x2 x3 x4 x7 x8 (ix4 d b t c) = (refArgs x0 x1 x2 x3 x4 x5 x6 x7 x8 x9 x10 x11 x12).rate b t d c := by
  pointwise [val_main_v59, val_main_v58, val_main_cst_5, val_main_v57, val_main_v56, val_main_cst_4, val_main_v55, val_main_v54, val_main_v53, val_main_v52, val_main_v51, val_main_v50, val_main_v49]
  simp only [ref35 x0 x1 x2 x3 x4 x5 x6 x7 x8 x9 x10 x11 x12 hA]
  refine congrArg (fun s => Ideal.logistic (x7 (ix2 d c) + s)) (a₁ := ∑ x, _ * _) ?_
  exact Finset.sum_congr rfl fun k _ => mul_comm _ _

theorem ref66 (hA : (refArgs x0 x1 x2 x3 x4 x5 x6 x7 x8 x9 x10 x11 x12).Real) (b : Fin 2) (t : Fin 8192) (c : Fin 512) : val_main_v66 (F := Ideal) x0 x1 x2 x3 x4 x9 (ix3 b t c) = (refArgs x0 x1 x2 x3 x4 x5 x6 x7 x8 x9 x10 x11 x12).gate b t c := by
  pointwise [val_main_v66, val_main_v65, val_main_v64, val_main_cst_7, val_main_v63, val_main_v62, val_main_cst_6, val_main_v61, val_main_v60]
  simp only [ref36 x0 x1 x2 x3 x4 x5 x6 x7 x8 x9 x10 x11 x12 hA]
  rfl

theorem ref70 (hA : (refArgs x0 x1 x2 x3 x4 x5 x6 x7 x8 x9 x10 x11 x12).Real) (b : Fin 2) (t : Fin 8192) (h : Fin 8) (s : Fin 64) : val_main_v70 (F := Ideal) x0 x1 x2 x3 x4 x10 (ix4 b t h s) = (refArgs x0 x1 x2 x3 x4 x5 x6 x7 x8 x9 x10 x11 x12).k b t ⟨64 * h.val + s.val, by omega⟩ * x10 (ix1 ⟨64 * h.val + s.val, by omega⟩) := by
  pointwise [val_main_v70, val_main_v69, val_main_v68, val_main_v67]
  simp only [ref32 x0 x1 x2 x3 x4 x5 x6 x7 x8 x9 x10 x11 x12 hA]
  simp only [Nat.mul_comm]

theorem ref78 (hA : (refArgs x0 x1 x2 x3 x4 x5 x6 x7 x8 x9 x10 x11 x12).Real) (b : Fin 2) (t : Fin 8192) (h : Fin 8) (s : Fin 64) : val_main_v78 (F := Ideal) x0 x1 x2 x3 x4 x10 (ix4 b t h s) = (refArgs x0 x1 x2 x3 x4 x5 x6 x7 x8 x9 x10 x11 x12).kkn b t ⟨64 * h.val + s.val, by omega⟩ := by
  pointwise [val_main_v78, val_main_v77, val_main_v76, val_main_v75, val_main_v74, val_main_cst_9, val_main_v73, val_main_v72, val_main_cst_8, val_main_v71]
  simp only [ref70 x0 x1 x2 x3 x4 x5 x6 x7 x8 x9 x10 x11 x12 hA]
  unfold Args.kkn kkRow headSum
  have e1 : (64 * h.val + s.val) / 64 = h.val := by omega
  simp only [e1]

theorem ref88 (hA : (refArgs x0 x1 x2 x3 x4 x5 x6 x7 x8 x9 x10 x11 x12).Real) (d : Fin 2) (b : Fin 2) (t : Fin 8192) (c : Fin 512) : val_main_v88 (F := Ideal) x0 x1 x2 x3 x4 x7 x8 x11 (ix4 d b t c) = (refArgs x0 x1 x2 x3 x4 x5 x6 x7 x8 x9 x10 x11 x12).kd b t d c := by
  pointwise [val_main_v88, val_main_v87, val_main_v86, val_main_v85, val_main_cst_11, val_main_v84, val_main_v83, val_main_v82, val_main_v81, val_main_v80, val_main_cst_10, val_main_v79]
  simp only [ref32 x0 x1 x2 x3 x4 x5 x6 x7 x8 x9 x10 x11 x12 hA, ref59 x0 x1 x2 x3 x4 x5 x6 x7 x8 x9 x10 x11 x12 hA]
  rfl

theorem ref108 (hA : (refArgs x0 x1 x2 x3 x4 x5 x6 x7 x8 x9 x10 x11 x12).Real) (b : Fin 2) (t : Fin 8192) (h : Fin 8) (s : Fin 64) : val_main_v108 (F := Ideal) x0 x1 x2 x3 x4 x7 x8 x11 x12 (ix4 b t h s) = (refArgs x0 x1 x2 x3 x4 x5 x6 x7 x8 x9 x10 x11 x12).bonus b t ⟨64 * h.val + s.val, by omega⟩ := by
  pointwise [val_main_v108, val_main_v107, val_main_v106, val_main_v105, val_main_v104, val_main_cst_12, val_main_v103, val_main_v102, val_main_v101, val_main_v100, val_main_v99, val_main_v98, val_main_v97, val_main_v96, val_main_v95, val_main_v94, val_main_v93]
  simp only [ref31 x0 x1 x2 x3 x4 x5 x6 x7 x8 x9 x10 x11 x12 hA, ref33 x0 x1 x2 x3 x4 x5 x6 x7 x8 x9 x10 x11 x12 hA, ref88 x0 x1 x2 x3 x4 x5 x6 x7 x8 x9 x10 x11 x12 hA]
  unfold Args.bonus bonusRow headSum
  have e1 : (64 * h.val + s.val) / 64 = h.val := by omega
  have e2 : ∀ x : Fin 64, (64 * h.val + x.val) / 64 = h.val := fun x => by omega
  have e3 : ∀ x : Fin 64, (64 * h.val + x.val) % 64 = x.val := fun x => by omega
  simp only [e1, e2, e3, Nat.mul_comm h.val 64]

theorem ref109 (hA : (refArgs x0 x1 x2 x3 x4 x5 x6 x7 x8 x9 x10 x11 x12).Real) (r : Fin 16384) (c : Fin 512) : val_main_v109 (F := Ideal) x0 x1 x2 (ix2 r c) = (refArgs x0 x1 x2 x3 x4 x5 x6 x7 x8 x9 x10 x11 x12).q ⟨r.val / 8192, by omega⟩ ⟨r.val % 8192, by omega⟩ c := by
  pointwise [val_main_v109, val_main_v15]
  simp only [ref13 x0 x1 x2 x3 x4 x5 x6 x7 x8 x9 x10 x11 x12]
  rfl

theorem ref110 (hA : (refArgs x0 x1 x2 x3 x4 x5 x6 x7 x8 x9 x10 x11 x12).Real) (r : Fin 16384) (c : Fin 256) : val_main_v110 (F := Ideal) x0 x1 x2 (ix2 r c) = (refArgs x0 x1 x2 x3 x4 x5 x6 x7 x8 x9 x10 x11 x12).kv ⟨r.val / 8192, by omega⟩ ⟨r.val % 8192, by omega⟩ c := by
  pointwise [val_main_v110, val_main_v16]
  simp only [ref13 x0 x1 x2 x3 x4 x5 x6 x7 x8 x9 x10 x11 x12]
  rfl

theorem ref114 (hA : (refArgs x0 x1 x2 x3 x4 x5 x6 x7 x8 x9 x10 x11 x12).Real) (r : Fin 16384) (c : Fin 1536) : val_main_v114 (F := Ideal) x0 x1 x2 x3 x4 x10 (ix2 r c) = pack3 ((refArgs x0 x1 x2 x3 x4 x5 x6 x7 x8 x9 x10 x11 x12).r ⟨r.val / 8192, by omega⟩ ⟨r.val % 8192, by omega⟩) ((refArgs x0 x1 x2 x3 x4 x5 x6 x7 x8 x9 x10 x11 x12).v ⟨r.val / 8192, by omega⟩ ⟨r.val % 8192, by omega⟩) ((refArgs x0 x1 x2 x3 x4 x5 x6 x7 x8 x9 x10 x11 x12).kkn ⟨r.val / 8192, by omega⟩ ⟨r.val % 8192, by omega⟩) c := by
  unfold pack3
  pointwise [val_main_v114, val_main_v113, val_main_v112, val_main_v111]
  simp only [ref31 x0 x1 x2 x3 x4 x5 x6 x7 x8 x9 x10 x11 x12 hA, ref33 x0 x1 x2 x3 x4 x5 x6 x7 x8 x9 x10 x11 x12 hA, ref78 x0 x1 x2 x3 x4 x5 x6 x7 x8 x9 x10 x11 x12 hA]
  by_cases h0 : c.val < 512
  · rw [dif_pos h0, dif_pos h0]
  · rw [dif_neg h0, dif_neg h0]
    by_cases h1 : c.val < 1024
    · rw [dif_pos h1, dif_pos (by omega)]
    · rw [dif_neg h1, dif_neg (by omega)]
      exact congrArg _ (Fin.ext (by show 64 * ((c.val - 512 - 512) / 64) + (c.val - 512 - 512) % 64 = c.val - 1024; omega))

theorem ref124 (hA : (refArgs x0 x1 x2 x3 x4 x5 x6 x7 x8 x9 x10 x11 x12).Real) (r : Fin 16384) (c : Fin 1536) : val_main_v124 (F := Ideal) x0 x1 x2 x3 x4 x5 x6 x7 x8 x10 x11 (ix2 r c) = pack3 ((refArgs x0 x1 x2 x3 x4 x5 x6 x7 x8 x9 x10 x11 x12).decay ⟨r.val / 8192, by omega⟩ ⟨r.val % 8192, by omega⟩ 0) ((refArgs x0 x1 x2 x3 x4 x5 x6 x7 x8 x9 x10 x11 x12).kd ⟨r.val / 8192, by omega⟩ ⟨r.val % 8192, by omega⟩ 0) ((refArgs x0 x1 x2 x3 x4 x5 x6 x7 x8 x9 x10 x11 x12).ab ⟨r.val / 8192, by omega⟩ ⟨r.val % 8192, by omega⟩ 0) c := by
  unfold pack3
  pointwise [val_main_v124, val_main_v123, val_main_v122, val_main_v121, val_main_v120, val_main_v119, val_main_v118, val_main_v117, val_main_v116, val_main_v115, val_main_v92, val_main_v91, val_main_v90, val_main_v89]
  simp only [ref48 x0 x1 x2 x3 x4 x5 x6 x7 x8 x9 x10 x11 x12 hA, ref88 x0 x1 x2 x3 x4 x5 x6 x7 x8 x9 x10 x11 x12 hA, ref59 x0 x1 x2 x3 x4 x5 x6 x7 x8 x9 x10 x11 x12 hA, ref78 x0 x1 x2 x3 x4 x5 x6 x7 x8 x9 x10 x11 x12 hA]
  by_cases h0 : c.val < 512
  · refine (dif_pos h0).trans ?_
    rw [dif_pos h0]
  · refine (dif_neg h0).trans (Eq.trans ?_ (dif_neg h0).symm)
    by_cases h1 : c.val < 1024
    · refine (dif_pos (by omega)).trans ?_
      rw [dif_pos h1]
    · refine (dif_neg (by omega)).trans (Eq.trans ?_ (dif_neg h1).symm)
      simp only [show ∀ q, (⟨(c.val - 512 - 512) / 64 * 64 + (c.val - 512 - 512) % 64, q⟩ : Fin 512) = ⟨c.val - 1024, by omega⟩ from
        fun q => Fin.ext (by show (c.val - 512 - 512) / 64 * 64 + (c.val - 512 - 512) % 64 = c.val - 1024; omega),
        show ∀ q, (⟨64 * ((c.val - 512 - 512) / 64) + (c.val - 512 - 512) % 64, q⟩ : Fin 512) = ⟨c.val - 1024, by omega⟩ from
        fun q => Fin.ext (by show 64 * ((c.val - 512 - 512) / 64) + (c.val - 512 - 512) % 64 = c.val - 1024; omega), Args.ab]

theorem ref134 (hA : (refArgs x0 x1 x2 x3 x4 x5 x6 x7 x8 x9 x10 x11 x12).Real) (r : Fin 16384) (c : Fin 1536) : val_main_v134 (F := Ideal) x0 x1 x2 x3 x4 x5 x6 x7 x8 x10 x11 (ix2 r c) = pack3 ((refArgs x0 x1 x2 x3 x4 x5 x6 x7 x8 x9 x10 x11 x12).decay ⟨r.val / 8192, by omega⟩ ⟨r.val % 8192, by omega⟩ 1) ((refArgs x0 x1 x2 x3 x4 x5 x6 x7 x8 x9 x10 x11 x12).kd ⟨r.val / 8192, by omega⟩ ⟨r.val % 8192, by omega⟩ 1) ((refArgs x0 x1 x2 x3 x4 x5 x6 x7 x8 x9 x10 x11 x12).ab ⟨r.val / 8192, by omega⟩ ⟨r.val % 8192, by omega⟩ 1) c := by
  unfold pack3
  pointwise [val_main_v134, val_main_v133, val_main_v132, val_main_v131, val_main_v130, val_main_v129, val_main_v128, val_main_v127, val_main_v126, val_main_v125, val_main_v92, val_main_v91, val_main_v90, val_main_v89]
  simp only [ref48 x0 x1 x2 x3 x4 x5 x6 x7 x8 x9 x10 x11 x12 hA, ref88 x0 x1 x2 x3 x4 x5 x6 x7 x8 x9 x10 x11 x12 hA, ref59 x0 x1 x2 x3 x4 x5 x6 x7 x8 x9 x10 x11 x12 hA, ref78 x0 x1 x2 x3 x4 x5 x6 x7 x8 x9 x10 x11 x12 hA]
  by_cases h0 : c.val < 512
  · refine (dif_pos h0).trans ?_
    rw [dif_pos h0]
  · refine (dif_neg h0).trans (Eq.trans ?_ (dif_neg h0).symm)
    by_cases h1 : c.val < 1024
    · refine (dif_pos (by omega)).trans ?_
      rw [dif_pos h1]
    · refine (dif_neg (by omega)).trans (Eq.trans ?_ (dif_neg h1).symm)
      simp only [show ∀ q, (⟨(c.val - 512 - 512) / 64 * 64 + (c.val - 512 - 512) % 64, q⟩ : Fin 512) = ⟨c.val - 1024, by omega⟩ from
        fun q => Fin.ext (by show (c.val - 512 - 512) / 64 * 64 + (c.val - 512 - 512) % 64 = c.val - 1024; omega),
        show ∀ q, (⟨64 * ((c.val - 512 - 512) / 64) + (c.val - 512 - 512) % 64, q⟩ : Fin 512) = ⟨c.val - 1024, by omega⟩ from
        fun q => Fin.ext (by show 64 * ((c.val - 512 - 512) / 64) + (c.val - 512 - 512) % 64 = c.val - 1024; omega), Args.ab]

theorem ref135 (hA : (refArgs x0 x1 x2 x3 x4 x5 x6 x7 x8 x9 x10 x11 x12).Real) (r : Fin 16384) (c : Fin 512) : val_main_v135 (F := Ideal) x0 x1 x2 x3 x4 x9 (ix2 r c) = (refArgs x0 x1 x2 x3 x4 x5 x6 x7 x8 x9 x10 x11 x12).gate ⟨r.val / 8192, by omega⟩ ⟨r.val % 8192, by omega⟩ c := by
  pointwise [val_main_v135]
  simp only [ref66 x0 x1 x2 x3 x4 x5 x6 x7 x8 x9 x10 x11 x12 hA]

theorem ref136 (hA : (refArgs x0 x1 x2 x3 x4 x5 x6 x7 x8 x9 x10 x11 x12).Real) (r : Fin 16384) (c : Fin 512) : val_main_v136 (F := Ideal) x0 x1 x2 x3 x4 x7 x8 x11 x12 (ix2 r c) = (refArgs x0 x1 x2 x3 x4 x5 x6 x7 x8 x9 x10 x11 x12).bonus ⟨r.val / 8192, by omega⟩ ⟨r.val % 8192, by omega⟩ c := by
  pointwise [val_main_v136]
  simp only [ref108 x0 x1 x2 x3 x4 x5 x6 x7 x8 x9 x10 x11 x12 hA]
  exact congrArg _ (Fin.ext (Nat.div_add_mod c.val 64))

end Cert.Proof.Prep
-- ==== Proof.PrepClaim.lean ====
module

public import proofs.«01_k».proof.Defs
public import proofs.«01_k».proof.Proof.PrepValue
public import proofs.«01_k».proof.Proof.PrepRef
public import proofs.«01_k».proof.Proof.Gen.InPrep
public import proofs.«01_k».proof.Proof.Gen.InPrep.Frame
public import proofs.«01_k».proof.Proof.Gen.InPrepIdeal
public import proofs.«01_k».proof.Proof.Gen.InPrepIdeal.Frame
public import proofs.«01_k».proof.Proof.Gen.InPrepRefIdeal
public import proofs.«01_k».proof.Proof.Gen.InPrepRefIdeal.Run
public import proofs.«01_k».proof.Proof.Gen.InPrepRefIdeal.Read
public import proofs.«01_k».proof.Proof.Gen.Pre_finite_in
public import Idealize.ShloMosaic.Lib.Claim
public import Idealize.ShloMosaic.Lib.Quiescent
public import Idealize.ShloMosaic.Lib.ReduceAll

/-! The first call's claims: the frame of its reference, what the precondition says, and equality over the exact numbers. -/

@[expose] public section

set_option maxRecDepth 16384

noncomputable section

namespace Cert.Proof.Prep

open Idealize.ShloMosaic Idealize.ShloMosaic.TcCoe Idealize.SL.Sem
open Cert.Proof.Ffn (eq_ix2)

/-- An array whose magnitudes are all below infinity holds real numbers. -/
theorem real_of_all {s u : Shape} {axes : List (Fin s.rank)} {dims : Fin Cert.Pre_finite_in.S_.rank → Fin s.rank} (x : FVec Ideal s .f32) (hb : Cert.Pre_finite_in.S_.BroadcastsInDim s dims)
    (h : s.ReducesTo axes Cert.Pre_finite_in.S_) (init : u.Idx → BitVec 1) (hu : 0 < u.numel) (j : Cert.Pre_finite_in.S_.Idx)
    (e : Host.reduce IntOp.andi (cmpf .olt (Host.absf x) (broadcastInDim s dims hb (constant Cert.Pre_finite_in.S_ .f32 0x7F800000#32))) init h hu j = 1#1) (i : s.Idx) : ∃ r : ℝ, x i = r := by
  haveI : Subsingleton Cert.Pre_finite_in.S_.Idx := ⟨fun a b => funext fun k => k.elim0⟩
  have hi := Host.reduce_andi_all _ init h hu j e i
  have hlt : max (x i) (-x i) < ⊤ := by
    have h1 := (Ideal.cmp_olt_eq_one _ _).1 (show Ideal.cmp .olt (max (x i) (-x i)) (Ideal.ofBits .f32 0x7F800000#32) = 1 from hi)
    exact lt_of_lt_of_eq h1 (by simp [Ideal.ofBits, Ideal.ieee])
  have htop : x i ≠ ⊤ := fun hx => by rw [hx] at hlt; simp at hlt
  have hbot : x i ≠ ⊥ := fun hx => by rw [hx] at hlt; simp at hlt
  exact ⟨(x i).toReal, (EReal.coe_toReal htop hbot).symm⟩

/-- The precondition makes the norm weight, the projection and the two shift weights real. -/
theorem real_of_pre (m : (ℓ : Loc Cert.InPrepIdeal.nD Cert.InPrepIdeal.τ Cert.InPrepIdeal.sig) → Buf (Elt Ideal) ℓ) (c : Dev Cert.InPrepIdeal.nD) (h : Cert.Pre_InPrepIdeal_finite_in m) : (kArgs m c).Real := by
  have h0 := congrFun (h c) ix0
  obtain ⟨h0, e4⟩ := IntOp.andi_eq_one.1 h0
  obtain ⟨h0, e3⟩ := IntOp.andi_eq_one.1 h0
  obtain ⟨e1, e2⟩ := IntOp.andi_eq_one.1 h0
  exact ⟨fun k => real_of_all _ _ _ _ _ _ e1 _, fun k j => real_of_all _ _ _ _ _ _ e2 _,
    fun j => real_of_all _ _ _ _ _ _ e3 _, fun j => real_of_all _ _ _ _ _ _ e4 _⟩

/-- The reference's inputs from its memory. -/
abbrev refOf (m' : (ℓ : Loc Cert.InPrepRefIdeal.nD Cert.InPrepRefIdeal.τ Cert.InPrepRefIdeal.sig) → Buf (Elt Ideal) ℓ) (c : Dev Cert.InPrepRefIdeal.nD) : Args :=
  refArgs (m' ((c.tc : Thread _ _).loc Cert.InPrepRefIdeal.main_arg0))
    (m' ((c.tc : Thread _ _).loc Cert.InPrepRefIdeal.main_arg1))
    (m' ((c.tc : Thread _ _).loc Cert.InPrepRefIdeal.main_arg2))
    (m' ((c.tc : Thread _ _).loc Cert.InPrepRefIdeal.main_arg3))
    (m' ((c.tc : Thread _ _).loc Cert.InPrepRefIdeal.main_arg4))
    (m' ((c.tc : Thread _ _).loc Cert.InPrepRefIdeal.main_arg5))
    (m' ((c.tc : Thread _ _).loc Cert.InPrepRefIdeal.main_arg6))
    (m' ((c.tc : Thread _ _).loc Cert.InPrepRefIdeal.main_arg7))
    (m' ((c.tc : Thread _ _).loc Cert.InPrepRefIdeal.main_arg8))
    (m' ((c.tc : Thread _ _).loc Cert.InPrepRefIdeal.main_arg9))
    (m' ((c.tc : Thread _ _).loc Cert.InPrepRefIdeal.main_arg10))
    (m' ((c.tc : Thread _ _).loc Cert.InPrepRefIdeal.main_arg11))
    (m' ((c.tc : Thread _ _).loc Cert.InPrepRefIdeal.main_arg12))

theorem frame_ref : Cert.quiescent_InPrepRefIdeal := fun m ρ _ =>
  (θ_run Cert.InPrepRefIdeal.defs _ _).mono (fun r h => ⟨fun c => (h c).2.2.2.2.2.2.2, sem_eq_zero_of_no_sems (by decide) r.2⟩)
    (Cert.InPrepRefIdeal.Value.run (F := Ideal) m ρ)

/-- An array that holds `f` at every row is the array of those rows. -/
theorem rows_eq {n : Nat} (X : FVec Ideal (⟨2, ![16384, n]⟩ : Shape) .f32) (f : Fin 2 → Fin 8192 → Fin n → EReal)
    (hX : ∀ (r : Fin 16384) (d : Fin n), X (ix2 r d) = f ⟨r.val / 8192, by omega⟩ ⟨r.val % 8192, by omega⟩ d) : X = rows f := by
  funext i
  exact (congrArg X (eq_ix2 i ⟨(i 0).val, (i 0).isLt⟩ ⟨(i 1).val, (i 1).isLt⟩ rfl rfl)).trans (hX _ _)

theorem algebraic : Cert.algebraic_InPrepIdeal_InPrepRefIdeal_pre_finite_in := by
  intro m ρ m' ρ' hpre hagree
  refine ⟨fun c => rows (kArgs m c).q, fun c => rows (kArgs m c).kv, fun c => rows (kArgs m c).both, fun c => rows ((kArgs m c).dir 0), fun c => rows ((kArgs m c).dir 1),
    fun c => rows (kArgs m c).gate, fun c => rows (kArgs m c).bonus, Cert.Proof.Prep.run m ρ, ?_⟩
  refine θ_run_mono (Cert.InPrepRefIdeal.Value.run (F := Ideal) m' ρ') fun r h c => ?_
  have hA := real_of_pre m c hpre
  have e : kArgs m c = refOf m' c := by
    obtain ⟨h0, h1, h2, h3, h4, h5, h6, h7, h8, h9, h10, h11, h12⟩ := hagree c
    unfold refOf
    rw [h0, h1, h2, h3, h4, h5, h6, h7, h8, h9, h10, h11, h12]
    rfl
  beta_reduce
  rw [e] at hA ⊢
  obtain ⟨k0, k1, k2, k3, k4, k5, k6, hm⟩ := h c
  exact ⟨k0.trans ((Cert.InPrepRefIdeal.Read.val_main_v109_eq _ _ _).trans (rows_eq _ _ (ref109 _ _ _ _ _ _ _ _ _ _ _ _ _ hA))),
    k1.trans ((Cert.InPrepRefIdeal.Read.val_main_v110_eq _ _ _).trans (rows_eq _ _ (ref110 _ _ _ _ _ _ _ _ _ _ _ _ _ hA))),
    k2.trans ((Cert.InPrepRefIdeal.Read.val_main_v114_eq m' c).trans (rows_eq _ _ (ref114 _ _ _ _ _ _ _ _ _ _ _ _ _ hA))),
    k3.trans ((Cert.InPrepRefIdeal.Read.val_main_v124_eq m' c).trans (rows_eq _ _ (ref124 _ _ _ _ _ _ _ _ _ _ _ _ _ hA))),
    k4.trans ((Cert.InPrepRefIdeal.Read.val_main_v134_eq m' c).trans (rows_eq _ _ (ref134 _ _ _ _ _ _ _ _ _ _ _ _ _ hA))),
    k5.trans ((Cert.InPrepRefIdeal.Read.val_main_v135_eq m' c).trans (rows_eq _ _ (ref135 _ _ _ _ _ _ _ _ _ _ _ _ _ hA))),
    k6.trans ((Cert.InPrepRefIdeal.Read.val_main_v136_eq m' c).trans (rows_eq _ _ (ref136 _ _ _ _ _ _ _ _ _ _ _ _ _ hA))), hm⟩

end Cert.Proof.Prep

end
-- ==== Proof.BiasRef.lean ====
module

public import proofs.«01_k».proof.Proof.Gen.BiasRefIdeal.Read
public import Idealize.ShloMosaic.Lib.Pointwise

/-! The bias table, entry by entry, and its reference at an entry. -/

@[expose] public section

set_option maxRecDepth 16384

noncomputable section

namespace Cert.Proof.Bias

open Idealize.ShloMosaic
open Cert.BiasRefIdeal Cert.BiasRefIdeal.Gen Cert.BiasRefIdeal.Read

/-- The bucket of a relative position: exact below 8, logarithmic up to 15, 16 more on the positive side. -/
def bucket (r : BitVec 32) : BitVec 32 :=
  IntOp.addi (Scalar.select (IntOp.cmpi .sgt r 0#32) 16#32 0#32)
    (Scalar.select (IntOp.cmpi .slt (IntOp.absi r) 8#32) (IntOp.absi r)
      (IntOp.minsi (IntOp.addi 8#32 (FloatOps.fptosi (F := Ideal) (φ := FTy.f32) 32
        (Ideal.div (Ideal.log (Ideal.div (FloatOps.sitofp (F := Ideal) FTy.f32 (IntOp.maxsi (IntOp.absi r) 1#32)) (Ideal.ofBits .f32 0x41000000#32)))
          (Ideal.ofBits .f32 0x40317218#32) * Ideal.ofBits .f32 0x41000000#32))) 15#32))

/-- The table's row for a relative position, a negative bucket counted from the table's end. -/
def row (r : BitVec 32) : BitVec 32 :=
  Scalar.select (IntOp.cmpi .slt (bucket r) 0#32) (IntOp.addi (bucket r) 32#32) (bucket r)

/-- The bias of head `h` at relative position `r`, in base 2. -/
def bias (x : Fin 32 → Fin 8 → EReal) (h : Fin 8) (r : BitVec 32) : EReal :=
  x ⟨min (row r).toInt.toNat 31, by omega⟩ h * Ideal.ofBits .f32 0x3FB8AA3B#32

theorem ref8 (q : Fin 128) (k : Fin 384) : val_main_v8 (F := Ideal) (ix2 q k) = BitVec.ofNat 32 k.val - 128#32 - BitVec.ofNat 32 q.val := by
  pointwise [val_main_v8, val_main_v7, val_main_v6, val_main_v5, val_main_v4, val_main_c, val_main_v3, val_main_v2, val_main_v1, val_main_v0]
  rfl

theorem ref37 (q : Fin 128) (k : Fin 384) : val_main_v37 (F := Ideal) (ix2 q k) = row (BitVec.ofNat 32 k.val - 128#32 - BitVec.ofNat 32 q.val) := by
  have h31 : val_main_v31 (F := Ideal) = val_main_v11 (F := Ideal) := rfl
  rw [← ref8 q k]
  pointwise [h31, val_main_v37, val_main_v36, val_main_v35, val_main_c_10, val_main_v34, val_main_v33, val_main_c_9, val_main_v32, val_main_v30, val_main_v29, val_main_v28, val_main_c_8, val_main_v27, val_main_v26, val_main_c_7, val_main_v25, val_main_v24, val_main_c_6, val_main_v23, val_main_v22, val_main_v21, val_main_cst_5, val_main_v20, val_main_v19, val_main_cst_4, val_main_v18, val_main_v17, val_main_v16, val_main_cst, val_main_v15, val_main_v14, val_main_v13, val_main_c_3, val_main_v12, val_main_v11, val_main_call0_v1, val_main_call0_v0, val_main_c_2, val_main_c_1, val_main_v10, val_main_v9, val_main_c_0]
  rfl

/-- The weights' rows picked at an array of row numbers, at an entry. -/
theorem gather3 (x : FVec Ideal S32x8 .f32) (idx : IVec S128x384x1 32) (q : Fin 128) (k : Fin 384) (h : Fin 8) :
    Host.gather gather_S32x8_S128x384x1_S128x384x8_2_0_n_n_0_2_18 x idx (ix3 q k h) = x (ix2 ⟨min (idx (ix3 q k 0)).toInt.toNat 31, by omega⟩ h) := by
  have hs : gather_S32x8_S128x384x1_S128x384x8_2_0_n_n_0_2_18.siIdx (ix3 q k h) ⟨0, Nat.one_pos⟩ = ix3 q k 0 :=
    funext fun b => Fin.ext (match b with | ⟨0, _⟩ => rfl | ⟨1, _⟩ => rfl | ⟨2, _⟩ => rfl)
  unfold Host.gather
  exact congrArg x (funext fun a => Fin.ext (match a with
    | ⟨0, _⟩ => congrArg (fun s => min (idx s).toInt.toNat 31) hs
    | ⟨1, _⟩ => Nat.zero_add _))

theorem ref39 (x0 : (⟨S32x8, .f32⟩ : BufTy).Contents (Elt Ideal)) (q : Fin 128) (k : Fin 384) (h : Fin 8) (r : BitVec 32)
    (hr : val_main_v37 (F := Ideal) (ix2 q k) = r) : val_main_v39 (F := Ideal) x0 (ix3 q k h) = x0 (ix2 ⟨min r.toInt.toNat 31, by omega⟩ h) := by
  have h38 : val_main_v38 (F := Ideal) (ix3 q k 0) = r := by
    rw [val_main_v38_apply, ← hr]
    exact congrArg _ (funext fun a => match a with | ⟨0, _⟩ => rfl | ⟨1, _⟩ => rfl)
  subst h38
  exact gather3 x0 _ q k h

theorem ref42 (x0 : (⟨S32x8, .f32⟩ : BufTy).Contents (Elt Ideal)) (h : Fin 8) (q : Fin 128) (k : Fin 384) :
    val_main_v42 (F := Ideal) x0 (ix3 h q k) = bias (fun i j => x0 (ix2 i j)) h (BitVec.ofNat 32 k.val - 128#32 - BitVec.ofNat 32 q.val) := by
  have h40 : val_main_v40 (F := Ideal) x0 (ix3 h q k) = val_main_v39 (F := Ideal) x0 (ix3 q k h) := by
    rw [val_main_v40_apply]
    exact congrArg _ (funext fun a => match a with | ⟨0, _⟩ => rfl | ⟨1, _⟩ => rfl | ⟨2, _⟩ => rfl)
  rw [val_main_v42_apply, h40, ref39 x0 q k h _ (ref37 q k), val_main_v41_apply, val_main_cst_11_apply]
  pointwise [bias]

end Cert.Proof.Bias

end
-- ==== Proof.BiasKernel.lean ====
module

public import proofs.«01_k».proof.Proof.Gen.BiasTableIdeal.Frame
public import proofs.«01_k».proof.Proof.BiasRef
public import Idealize.ShloMosaic.Lib.Pipeline.ValueKit
public import Idealize.ShloMosaic.Lib.StableHlo.RunRead
public import Idealize.ShloMosaic.Lib.Pointwise

/-! The bias table's call: the table over the relative positions, its skewed rows, and the array after the run. -/

@[expose] public section

set_option maxRecDepth 16384

noncomputable section

namespace Cert.Proof.Bias

open Idealize.ShloMosaic Idealize.ShloMosaic.TcCoe Idealize.SL.Sem
open Cert.BiasTableIdeal Cert.BiasTableIdeal.Gen

variable (m : (ℓ : Loc nD τ sig) → Buf (Elt Ideal) ℓ) (ρ : Dev nD → PrngReg) (c : Dev nD)

/-- The bias weights on one device, by coordinates. -/
def kRel (i : Fin 32) (j : Fin 8) : EReal := m ((c : Thread nD τ).loc main_arg0) (ix2 i j)

/-- The table's rows picked at an array of row numbers, at an entry. -/
theorem gather2 (x : FVec Ideal S32x8 .f32) (idx : IVec S512x1 32) (q : Fin 512) (h : Fin 8) :
    Host.gather gather_S32x8_S512x1_S512x8_1_0_n_n_0_1_18 x idx (ix2 q h) = x (ix2 ⟨min (idx (ix2 q 0)).toInt.toNat 31, by omega⟩ h) := by
  have hs : gather_S32x8_S512x1_S512x8_1_0_n_n_0_1_18.siIdx (ix2 q h) ⟨0, Nat.one_pos⟩ = ix2 q 0 :=
    funext fun b => Fin.ext (match b with | ⟨0, _⟩ => rfl | ⟨1, _⟩ => rfl)
  unfold Host.gather
  exact congrArg x (funext fun a => Fin.ext (match a with
    | ⟨0, _⟩ => congrArg (fun s => min (idx s).toInt.toNat 31) hs
    | ⟨1, _⟩ => Nat.zero_add _))

/-- The table over the relative positions -255 to 256, as the call finds it. -/
theorem V_v37 (h : Fin 8) (i : Fin 512) : V m c main_v37 (ix3 h 0 i) = bias (kRel m c) h (BitVec.ofNat 32 i.val - 255#32) := by
  unfold V
  simp only [hostOps0, hostOps0_1, hostOps0_2, hostOps0_3, hostOps0_4, List.flatten_cons, List.flatten_nil, List.append_nil, List.cons_append, List.nil_append,
    StableHlo.TRef.ternary, StableHlo.TRef.unary, StableHlo.TRef.toBuf, StableHlo.TRef.ofBuf, cast_eq]
  after_results_simp
  simp only [id_eq]
  pointwise [gather2]
  rfl

/-- The body's rotation by one more for each row, at an entry. -/
theorem pay (x : Vec Ideal S1x1x512 .f32) (q : Fin 128) (k : Fin 384) :
    k0_pay1 (F := Ideal) x (ix3 0 q k) = x (ix3 0 0 ⟨k.val + 127 - q.val, by omega⟩) := by
  pointwise [k0_pay1, dynamicRotate]
  exact congrArg (fun i => x (ix3 0 0 i)) (Fin.ext (by simp only; omega))

theorem N8 (t : Fin cfg0.N) : t.val < 8 := lt_of_lt_of_eq t.isLt N_0

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)

theorem in0 (t : Fin cfg0.N) (i : Fin 512) : iblk m c 0 t (ix3 0 0 i) = bias (kRel m c) ⟨t.val, N8 t⟩ (BitVec.ofNat 32 i.val - 255#32) := by
  rw [← V_v37 m c ⟨t.val, N8 t⟩ i]
  blk_ext! [iblk, idx0 t]

/-- What a grid point leaves: its head's bias array. -/
theorem block (t : Fin cfg0.N) (q : Fin 128) (k : Fin 384) :
    out0_1 (F := Ideal) (iblk m c 0 t) (ix3 0 q k) = bias (kRel m c) ⟨t.val, N8 t⟩ (BitVec.ofNat 32 k.val - 128#32 - BitVec.ofNat 32 q.val) := by
  have e : BitVec.ofNat 32 (k.val + 127 - q.val) - 255#32 = BitVec.ofNat 32 k.val - 128#32 - BitVec.ofNat 32 q.val := by
    have hk := k.isLt
    have hq := q.isLt
    apply BitVec.eq_of_toNat_eq
    simp only [BitVec.toNat_sub, BitVec.toNat_ofNat]
    omega
  rw [← e, ← in0 m c t ⟨k.val + 127 - q.val, by omega⟩, ← pay (iblk m c 0 t) q k]
  unfold out0_1
  have z : (![0, 0, 0] : Fin 3 → Nat) = fun _ => 0 := funext fun a => match a with | ⟨0, _⟩ => rfl | ⟨1, _⟩ => rfl | ⟨2, _⟩ => rfl
  rw [View.canon_unit_zero z, View.ld_unit_zero z]

/-- The bias array of the call. -/
def table (x : Fin 32 → Fin 8 → EReal) : FVec Ideal S8x128x384 .f32 := fun i =>
  bias x ⟨(i 0).val, (i 0).isLt⟩ (BitVec.ofNat 32 (i 2).val - 128#32 - BitVec.ofNat 32 (i 1).val)

theorem final1 : (dats m 0 c).arrAt 1 cfg0.N = table (kRel m c) := by
  refine (dats m 0 c).arrAt_eq_of_covers 1 _ (by decide +kernel) fun t hf y => ?_
  blk_simp
  rw [after0_1]
  have hy0 : (y 0).val < 1 := (y 0).isLt
  have hy1 : (y 1).val < 128 := (y 1).isLt
  have hy2 : (y 2).val < 384 := (y 2).isLt
  have e0 : (((win0_1.blk t).view.emb y) 0).val = t.val := by blk_simp [idx1 t]
  have e1 : (((win0_1.blk t).view.emb y) 1).val = (y 1).val := by blk_simp [idx1 t]
  have e2 : (((win0_1.blk t).view.emb y) 2).val = (y 2).val := by blk_simp [idx1 t]
  have ey : y = ix3 0 ⟨_, hy1⟩ ⟨_, hy2⟩ := funext fun a => Fin.ext (match a with
    | ⟨0, _⟩ => (by omega : (y 0).val = 0)
    | ⟨1, _⟩ => rfl
    | ⟨2, _⟩ => rfl)
  refine (congrArg (out0_1 (iblk m c 0 t)) ey).trans ((block m c t ⟨_, hy1⟩ ⟨_, hy2⟩).trans ?_)
  unfold table
  congr 1
  · exact Fin.ext e0.symm
  · rw [e1, e2]

/-- The call's run: the result array holds the bias table, the argument is unchanged. -/
theorem run : θ_run defs (onTc (τ := τ) (main (F := Ideal))) ⟨m, fun _ => 0, ρ⟩ (fun r => ∀ c : Dev nD,
      r.2.mem ((c.tc : Thread nD τ).loc main_v38) = table (kRel m c)
      ∧ r.2.mem ((c.tc : Thread nD τ).loc main_arg0) = m ((c.tc : Thread nD τ).loc main_arg0)) :=
  θ_run_mono (θ_run_and (run_main m ρ) (unchanged m ρ)) fun r h c => ⟨((h.1 c).1 1).trans (final1 m c), h.2 c⟩

end Cert.Proof.Bias

end
-- ==== Proof.BiasClaim.lean ====
module

public import proofs.«01_k».proof.Defs
public import proofs.«01_k».proof.Proof.BiasKernel
public import proofs.«01_k».proof.Proof.BiasRef
public import proofs.«01_k».proof.Proof.Gen.BiasTable
public import proofs.«01_k».proof.Proof.Gen.BiasTable.Frame
public import proofs.«01_k».proof.Proof.Gen.BiasTableIdeal
public import proofs.«01_k».proof.Proof.Gen.BiasTableIdeal.Frame
public import proofs.«01_k».proof.Proof.Gen.BiasRefIdeal
public import proofs.«01_k».proof.Proof.Gen.BiasRefIdeal.Run
public import proofs.«01_k».proof.Proof.Gen.BiasRefIdeal.Read
public import Idealize.ShloMosaic.Lib.Claim
public import Idealize.ShloMosaic.Lib.Quiescent

/-! The bias table's claims: the frame of its reference, and equality over the exact numbers. -/

@[expose] public section

set_option maxRecDepth 16384

noncomputable section

namespace Cert.Proof.Bias

open Idealize.ShloMosaic Idealize.ShloMosaic.TcCoe Idealize.SL.Sem

theorem frame_ref : Cert.quiescent_BiasRefIdeal := fun m ρ _ =>
  (θ_run Cert.BiasRefIdeal.defs _ _).mono (fun r h => ⟨fun c => (h c).2, sem_eq_zero_of_no_sems (by decide) r.2⟩)
    (Cert.BiasRefIdeal.Value.run (F := Ideal) m ρ)

theorem algebraic : Cert.algebraic_BiasTableIdeal_BiasRefIdeal := by
  intro m ρ m' ρ' _ hagree
  refine ⟨fun c => table (kRel m c), run m ρ, ?_⟩
  refine θ_run_mono (Cert.BiasRefIdeal.Value.run (F := Ideal) m' ρ') fun r h c => ?_
  obtain ⟨k0, hm⟩ := h c
  refine ⟨k0.trans ((Cert.BiasRefIdeal.Read.val_main_v42_eq m' c).trans ?_), hm⟩
  rw [hagree c]
  funext i
  have ei : i = ix3 ⟨(i 0).val, (i 0).isLt⟩ ⟨(i 1).val, (i 1).isLt⟩ ⟨(i 2).val, (i 2).isLt⟩ :=
    funext fun a => match a with | ⟨0, _⟩ => rfl | ⟨1, _⟩ => rfl | ⟨2, _⟩ => rfl
  exact (congrArg _ ei).trans (ref42 _ _ _ _)

end Cert.Proof.Bias

end
-- ==== Proof.lean ====
module

public import proofs.«01_k».proof.Defs
public import proofs.«01_k».proof.Proof.FfnClaim
public import proofs.«01_k».proof.Proof.PrepClaim
public import proofs.«01_k».proof.Proof.BiasClaim
public import proofs.«01_k».proof.Proof.Gen.Mixers
public import proofs.«01_k».proof.Proof.Gen.Mixers.Frame
public import proofs.«01_k».proof.Proof.Gen.MixersIdeal
public import proofs.«01_k».proof.Proof.Gen.MixersIdeal.Frame

/-! The claims about the four calls: for three the three frames, the rounding pass's account, and equality over the exact numbers; for the mixers the frames and the account. -/

@[expose] public section

set_option maxRecDepth 16384

noncomputable section

namespace Cert.Proof

theorem claim : Cert.Claim := ⟨Cert.OutFfn.Gen.facts, Cert.OutFfnIdeal.Gen.facts, Cert.OutFfnRefIdeal.Gen.facts,
  Cert.InPrep.Gen.facts, Cert.InPrepIdeal.Gen.facts, Cert.InPrepRefIdeal.Gen.facts,
  Cert.BiasTable.Gen.facts, Cert.BiasTableIdeal.Gen.facts, Cert.BiasRefIdeal.Gen.facts, Cert.Mixers.Gen.facts, Cert.MixersIdeal.Gen.facts, Cert.Pre_finite_in.Gen.facts,
  fun m ρ _ => Cert.Proof.OutFfn.frame m ρ, fun m ρ _ => Cert.Proof.OutFfnIdeal.frame m ρ, Cert.Proof.Ffn.frame_ref,
  fun m ρ _ => Cert.InPrep.Gen.frame m ρ, fun m ρ _ => Cert.InPrepIdeal.Gen.frame m ρ, fun m ρ _ => Cert.InPrepIdeal.Gen.frame m ρ,
  Cert.Proof.Prep.frame_ref, fun m ρ _ => Cert.Proof.Prep.frame_ref m ρ trivial,
  fun m ρ _ => Cert.BiasTable.Gen.frame m ρ, fun m ρ _ => Cert.BiasTableIdeal.Gen.frame m ρ, Cert.Proof.Bias.frame_ref,
  fun m ρ _ => Cert.Mixers.Gen.frame m ρ, fun m ρ _ => Cert.MixersIdeal.Gen.frame m ρ,
  trivial, Cert.Proof.Ffn.algebraic, trivial, Cert.Proof.Prep.algebraic, trivial, Cert.Proof.Bias.algebraic, trivial⟩

end Cert.Proof

end
